-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![8192, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 2]⟩ ⟨2, ![8192, 2]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 512, 1024]⟩ ⟨3, ![32, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x512 : Shape := ⟨2, ![2048, 512]⟩
abbrev S512x32 : Shape := ⟨2, ![512, 32]⟩
abbrev S2048x2 : Shape := ⟨2, ![2048, 2]⟩
abbrev S8x512x1024 : Shape := ⟨3, ![8, 512, 1024]⟩
abbrev S_ : Shape := ⟨0, ![]⟩

class Facts : Prop where
  bcast_S_S2048x2 : S_.BroadcastsInDim S2048x2 (![] : Fin 0 → Fin S2048x2.rank)
  bcast_S_S2048x512 : S_.BroadcastsInDim S2048x512 (![] : Fin 0 → Fin S2048x512.rank)
  bcast_S_S512x32 : S_.BroadcastsInDim S512x32 (![] : Fin 0 → Fin S512x32.rank)

variable [Facts]

def fn {F : FTy → Type} [FloatOps F] (main_arg0 : FVec F S2048x512 .f32) (main_arg1 : FVec F S512x32 .f32) (main_arg2 : IVec S2048x2 32) (main_arg3 : FVec F S8x512x1024 .f32) : IVec S2048x2 1 × IVec S2048x512 1 × IVec S512x32 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 32#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_v5 : FVec F S2048x512 .f32 := Host.absf main_arg0
  let main_cst : FVec F S_ .f32 := constant S_ .f32 0x7F800000#32
  let main_v6 : FVec F S2048x512 .f32 := broadcastInDim S2048x512 ![] bcast_S_S2048x512 main_cst
  let main_v7 : IVec S2048x512 1 := cmpf .olt main_v5 main_v6
  let main_v8 : FVec F S512x32 .f32 := Host.absf main_arg1
  let main_cst_1 : FVec F S_ .f32 := constant S_ .f32 0x7F800000#32
  let main_v9 : FVec F S512x32 .f32 := broadcastInDim S512x32 ![] bcast_S_S512x32 main_cst_1
  let main_v10 : IVec S512x32 1 := cmpf .olt main_v8 main_v9
  (main_v4, main_v7, main_v10)
-- ==== Pre_routed_ReferenceIdeal.lean ====
abbrev S8192x512 : Shape := ⟨2, ![8192, 512]⟩
abbrev S512x32 : Shape := ⟨2, ![512, 32]⟩
abbrev S8192x2 : Shape := ⟨2, ![8192, 2]⟩
abbrev S32x512x1024 : Shape := ⟨3, ![32, 512, 1024]⟩
abbrev S_ : Shape := ⟨0, ![]⟩

class Facts : Prop where
  bcast_S_S8192x2 : S_.BroadcastsInDim S8192x2 (![] : Fin 0 → Fin S8192x2.rank)
  bcast_S_S8192x512 : S_.BroadcastsInDim S8192x512 (![] : Fin 0 → Fin S8192x512.rank)
  bcast_S_S512x32 : S_.BroadcastsInDim S512x32 (![] : Fin 0 → Fin S512x32.rank)

variable [Facts]

def fn {F : FTy → Type} [FloatOps F] (main_arg0 : FVec F S8192x512 .f32) (main_arg1 : FVec F S512x32 .f32) (main_arg2 : IVec S8192x2 32) (main_arg3 : FVec F S32x512x1024 .f32) : IVec S8192x2 1 × IVec S8192x512 1 × IVec S512x32 1 :=
  let main_c : IVec S_ 32 := constantI S_ 32 0#32
  let main_v0 : IVec S8192x2 32 := broadcastInDim S8192x2 ![] bcast_S_S8192x2 main_c
  let main_v1 : IVec S8192x2 1 := cmpi .sge main_arg2 main_v0
  let main_c_0 : IVec S_ 32 := constantI S_ 32 32#32
  let main_v2 : IVec S8192x2 32 := broadcastInDim S8192x2 ![] bcast_S_S8192x2 main_c_0
  let main_v3 : IVec S8192x2 1 := cmpi .slt main_arg2 main_v2
  let main_v4 : IVec S8192x2 1 := andi main_v1 main_v3
  let main_v5 : FVec F S8192x512 .f32 := Host.absf main_arg0
  let main_cst : FVec F S_ .f32 := constant S_ .f32 0x7F800000#32
  let main_v6 : FVec F S8192x512 .f32 := broadcastInDim S8192x512 ![] bcast_S_S8192x512 main_cst
  let main_v7 : IVec S8192x512 1 := cmpf .olt main_v5 main_v6
  let main_v8 : FVec F S512x32 .f32 := Host.absf main_arg1
  let main_cst_1 : FVec F S_ .f32 := constant S_ .f32 0x7F800000#32
  let main_v9 : FVec F S512x32 .f32 := broadcastInDim S512x32 ![] bcast_S_S512x32 main_cst_1
  let main_v10 : IVec S512x32 1 := cmpf .olt main_v8 main_v9
  (main_v4, main_v7, main_v10)
-- ==== Kernel.lean ====
abbrev S2048x512 : Shape := ⟨2, ![2048, 512]⟩
abbrev S512x32 : Shape := ⟨2, ![512, 32]⟩
abbrev S2048x2 : Shape := ⟨2, ![2048, 2]⟩
abbrev S8x512x1024 : Shape := ⟨3, ![8, 512, 1024]⟩
abbrev S2048x1024 : Shape := ⟨2, ![2048, 1024]⟩
abbrev S4x8x512x1024 : Shape := ⟨4, ![4, 8, 512, 1024]⟩
abbrev S2x2x512x1024 : Shape := ⟨4, ![2, 2, 512, 1024]⟩
abbrev S2x2 : Shape := ⟨2, ![2, 2]⟩
abbrev S_ : Shape := ⟨0, ![]⟩
abbrev S3x2x4 : Shape := ⟨3, ![3, 2, 4]⟩
abbrev S1x1x1 : Shape := ⟨3, ![1, 1, 1]⟩
abbrev S1x1x512x1024 : Shape := ⟨4, ![1, 1, 512, 1024]⟩
abbrev S512x1024 : Shape := ⟨2, ![512, 1024]⟩
abbrev S1x512x1024 : Shape := ⟨3, ![1, 512, 1024]⟩
abbrev S1x8x512x1024 : Shape := ⟨4, ![1, 8, 512, 1024]⟩
abbrev S2048x32 : Shape := ⟨2, ![2048, 32]⟩
abbrev S2048 : Shape := ⟨1, ![2048]⟩
abbrev S2048x1 : Shape := ⟨2, ![2048, 1]⟩
abbrev S1x1 : Shape := ⟨2, ![1, 1]⟩
abbrev S1x2x512x1024 : Shape := ⟨4, ![1, 2, 512, 1024]⟩
abbrev S2x512x1024 : Shape := ⟨3, ![2, 512, 1024]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x2, .i32⟩
  | .hbm, ⟨3, _⟩ => ⟨S8x512x1024, .f32⟩
  | .hbm, ⟨4, _⟩ => ⟨S8x512x1024, .bf16⟩
  | .hbm, ⟨5, _⟩ => ⟨S2048x1024, .f32⟩
  | .hbm, ⟨6, _⟩ => ⟨S4x8x512x1024, .bf16⟩
  | .local _ .vmem, ⟨0, _⟩ => ⟨S2048x512, .f32⟩
  | .local _ .vmem, ⟨1, _⟩ => ⟨S512x32, .f32⟩
  | .local _ .vmem, ⟨2, _⟩ => ⟨S2048x2, .i32⟩
  | .local _ .vmem, ⟨3, _⟩ => ⟨S2048x1024, .f32⟩
  | .local _ .vmem, ⟨4, _⟩ => ⟨S2x2x512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 1 57 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (true_17 : BitVec 1) (c0_i32_20 : BitVec 32) : Fin 3 → Nat :=
  let c0_i32_22 : BitVec 32 := 0#32
  let c2_i32_23 : BitVec 32 := 2#32
  let v22 : BitVec 32 := Scalar.minsi c0_i32_22 c2_i32_23
  let c0_i32_18 : BitVec 32 := 0#32
  let c1_i32_19 : BitVec 32 := 1#32
  let v20 : BitVec 32 := Scalar.select true_17 c0_i32_18 c1_i32_19
  let c4_i32_21 : BitVec 32 := 4#32
  let v21 : BitVec 32 := Scalar.remsi c0_i32_20 c4_i32_21
  ![v22.toNat, v20.toNat, v21.toNat]
def k0_off1_at (r : Fin 8) : BitVec 1 × BitVec 32 :=
  if r.val < 4 then
    if r.val < 2 then
      if r.val < 1 then
        (1#1, 0#32)
      else
        (1#1, 1#32)
    else
      if r.val < 3 then
        (1#1, 2#32)
      else
        (1#1, 3#32)
  else
    if r.val < 6 then
      if r.val < 5 then
        (0#1, 4#32)
      else
        (0#1, 5#32)
    else
      if r.val < 7 then
        (0#1, 6#32)
      else
        (0#1, 7#32)
def k0_off2 (d0 : Dev nD) : Fin 4 → Nat :=
  let true_15 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v13 : BitVec 32 := Scalar.subi v2 c0_i32_10
  let c4_i32_11 : BitVec 32 := 4#32
  let v14 : BitVec 32 := Scalar.addi v13 c4_i32_11
  let c4_i32_12 : BitVec 32 := 4#32
  let v15 : BitVec 32 := Scalar.remsi v14 c4_i32_12
  let c0_i32_13 : BitVec 32 := 0#32
  let v16 : BitVec 32 := Scalar.addi v2 c0_i32_13
  let c4_i32_14 : BitVec 32 := 4#32
  let v17 : BitVec 32 := Scalar.remsi v16 c4_i32_14
  let v18 : BitVec 32 := Scalar.select true_15 v15 v17
  let c0_i32_25 : BitVec 32 := 0#32
  let c0_i32_28 : BitVec 32 := 0#32
  let c0_i32_29 : BitVec 32 := 0#32
  ![v18.toNat, 0, 0, 0]
def k0_dev3 (d0 : Dev nD) : Nat :=
  let c0_i32_27 : BitVec 32 := 0#32
  let true_16 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v19 : BitVec 32 := Scalar.select true_16 v7 v5
  let c1_i32_26 : BitVec 32 := 1#32
  let v23 : BitVec 32 := Scalar.muli v19 c1_i32_26
  let v24 : BitVec 32 := Scalar.addi c0_i32_27 v23
  v24.toNat
def k0_off3 (d0 : Dev nD) : Fin 4 → Nat :=
  let true_37 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_32 : BitVec 32 := 0#32
  let v33 : BitVec 32 := Scalar.subi v2 c0_i32_32
  let c4_i32_33 : BitVec 32 := 4#32
  let v34 : BitVec 32 := Scalar.addi v33 c4_i32_33
  let c4_i32_34 : BitVec 32 := 4#32
  let v35 : BitVec 32 := Scalar.remsi v34 c4_i32_34
  let c0_i32_35 : BitVec 32 := 0#32
  let v36 : BitVec 32 := Scalar.addi v2 c0_i32_35
  let c4_i32_36 : BitVec 32 := 4#32
  let v37 : BitVec 32 := Scalar.remsi v36 c4_i32_36
  let v38 : BitVec 32 := Scalar.select true_37 v35 v37
  let c1_i32_47 : BitVec 32 := 1#32
  let c0_i32_50 : BitVec 32 := 0#32
  let c0_i32_51 : BitVec 32 := 0#32
  ![v38.toNat, 1, 0, 0]
def k0_dev4 (d0 : Dev nD) : Nat :=
  let c0_i32_49 : BitVec 32 := 0#32
  let true_38 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v39 : BitVec 32 := Scalar.select true_38 v7 v5
  let c1_i32_48 : BitVec 32 := 1#32
  let v43 : BitVec 32 := Scalar.muli v39 c1_i32_48
  let v44 : BitVec 32 := Scalar.addi c0_i32_49 v43
  v44.toNat
def k0_off4 (d0 : Dev nD) : Fin 4 → Nat :=
  let true_59 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_54 : BitVec 32 := 0#32
  let v53 : BitVec 32 := Scalar.subi v2 c0_i32_54
  let c4_i32_55 : BitVec 32 := 4#32
  let v54 : BitVec 32 := Scalar.addi v53 c4_i32_55
  let c4_i32_56 : BitVec 32 := 4#32
  let v55 : BitVec 32 := Scalar.remsi v54 c4_i32_56
  let c0_i32_57 : BitVec 32 := 0#32
  let v56 : BitVec 32 := Scalar.addi v2 c0_i32_57
  let c4_i32_58 : BitVec 32 := 4#32
  let v57 : BitVec 32 := Scalar.remsi v56 c4_i32_58
  let v58 : BitVec 32 := Scalar.select true_59 v55 v57
  let c2_i32_69 : BitVec 32 := 2#32
  let c0_i32_72 : BitVec 32 := 0#32
  let c0_i32_73 : BitVec 32 := 0#32
  ![v58.toNat, 2, 0, 0]
def k0_dev5 (d0 : Dev nD) : Nat :=
  let c0_i32_71 : BitVec 32 := 0#32
  let true_60 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v59 : BitVec 32 := Scalar.select true_60 v7 v5
  let c1_i32_70 : BitVec 32 := 1#32
  let v63 : BitVec 32 := Scalar.muli v59 c1_i32_70
  let v64 : BitVec 32 := Scalar.addi c0_i32_71 v63
  v64.toNat
def k0_off5 (d0 : Dev nD) : Fin 4 → Nat :=
  let true_81 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_76 : BitVec 32 := 0#32
  let v73 : BitVec 32 := Scalar.subi v2 c0_i32_76
  let c4_i32_77 : BitVec 32 := 4#32
  let v74 : BitVec 32 := Scalar.addi v73 c4_i32_77
  let c4_i32_78 : BitVec 32 := 4#32
  let v75 : BitVec 32 := Scalar.remsi v74 c4_i32_78
  let c0_i32_79 : BitVec 32 := 0#32
  let v76 : BitVec 32 := Scalar.addi v2 c0_i32_79
  let c4_i32_80 : BitVec 32 := 4#32
  let v77 : BitVec 32 := Scalar.remsi v76 c4_i32_80
  let v78 : BitVec 32 := Scalar.select true_81 v75 v77
  let c3_i32_90 : BitVec 32 := 3#32
  let c0_i32_93 : BitVec 32 := 0#32
  let c0_i32_94 : BitVec 32 := 0#32
  ![v78.toNat, 3, 0, 0]
def k0_dev6 (d0 : Dev nD) : Nat :=
  let c0_i32_92 : BitVec 32 := 0#32
  let true_82 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v79 : BitVec 32 := Scalar.select true_82 v7 v5
  let c1_i32_91 : BitVec 32 := 1#32
  let v83 : BitVec 32 := Scalar.muli v79 c1_i32_91
  let v84 : BitVec 32 := Scalar.addi c0_i32_92 v83
  v84.toNat
def k0_off6 (d0 : Dev nD) : Fin 4 → Nat :=
  let v_false : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_97 : BitVec 32 := 0#32
  let v93 : BitVec 32 := Scalar.subi v2 c0_i32_97
  let c4_i32_98 : BitVec 32 := 4#32
  let v94 : BitVec 32 := Scalar.addi v93 c4_i32_98
  let c4_i32_99 : BitVec 32 := 4#32
  let v95 : BitVec 32 := Scalar.remsi v94 c4_i32_99
  let c0_i32_100 : BitVec 32 := 0#32
  let v96 : BitVec 32 := Scalar.addi v2 c0_i32_100
  let c4_i32_101 : BitVec 32 := 4#32
  let v97 : BitVec 32 := Scalar.remsi v96 c4_i32_101
  let v98 : BitVec 32 := Scalar.select v_false v95 v97
  let c4_i32_111 : BitVec 32 := 4#32
  let c0_i32_114 : BitVec 32 := 0#32
  let c0_i32_115 : BitVec 32 := 0#32
  ![v98.toNat, 4, 0, 0]
def k0_dev7 (d0 : Dev nD) : Nat :=
  let c0_i32_113 : BitVec 32 := 0#32
  let false_102 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v99 : BitVec 32 := Scalar.select false_102 v7 v5
  let c1_i32_112 : BitVec 32 := 1#32
  let v103 : BitVec 32 := Scalar.muli v99 c1_i32_112
  let v104 : BitVec 32 := Scalar.addi c0_i32_113 v103
  v104.toNat
def k0_off7 (d0 : Dev nD) : Fin 4 → Nat :=
  let false_123 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_118 : BitVec 32 := 0#32
  let v113 : BitVec 32 := Scalar.subi v2 c0_i32_118
  let c4_i32_119 : BitVec 32 := 4#32
  let v114 : BitVec 32 := Scalar.addi v113 c4_i32_119
  let c4_i32_120 : BitVec 32 := 4#32
  let v115 : BitVec 32 := Scalar.remsi v114 c4_i32_120
  let c0_i32_121 : BitVec 32 := 0#32
  let v116 : BitVec 32 := Scalar.addi v2 c0_i32_121
  let c4_i32_122 : BitVec 32 := 4#32
  let v117 : BitVec 32 := Scalar.remsi v116 c4_i32_122
  let v118 : BitVec 32 := Scalar.select false_123 v115 v117
  let c5_i32_132 : BitVec 32 := 5#32
  let c0_i32_135 : BitVec 32 := 0#32
  let c0_i32_136 : BitVec 32 := 0#32
  ![v118.toNat, 5, 0, 0]
def k0_dev8 (d0 : Dev nD) : Nat :=
  let c0_i32_134 : BitVec 32 := 0#32
  let false_124 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v119 : BitVec 32 := Scalar.select false_124 v7 v5
  let c1_i32_133 : BitVec 32 := 1#32
  let v123 : BitVec 32 := Scalar.muli v119 c1_i32_133
  let v124 : BitVec 32 := Scalar.addi c0_i32_134 v123
  v124.toNat
def k0_off8 (d0 : Dev nD) : Fin 4 → Nat :=
  let false_144 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_139 : BitVec 32 := 0#32
  let v133 : BitVec 32 := Scalar.subi v2 c0_i32_139
  let c4_i32_140 : BitVec 32 := 4#32
  let v134 : BitVec 32 := Scalar.addi v133 c4_i32_140
  let c4_i32_141 : BitVec 32 := 4#32
  let v135 : BitVec 32 := Scalar.remsi v134 c4_i32_141
  let c0_i32_142 : BitVec 32 := 0#32
  let v136 : BitVec 32 := Scalar.addi v2 c0_i32_142
  let c4_i32_143 : BitVec 32 := 4#32
  let v137 : BitVec 32 := Scalar.remsi v136 c4_i32_143
  let v138 : BitVec 32 := Scalar.select false_144 v135 v137
  let c6_i32_153 : BitVec 32 := 6#32
  let c0_i32_156 : BitVec 32 := 0#32
  let c0_i32_157 : BitVec 32 := 0#32
  ![v138.toNat, 6, 0, 0]
def k0_dev9 (d0 : Dev nD) : Nat :=
  let c0_i32_155 : BitVec 32 := 0#32
  let false_145 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v139 : BitVec 32 := Scalar.select false_145 v7 v5
  let c1_i32_154 : BitVec 32 := 1#32
  let v143 : BitVec 32 := Scalar.muli v139 c1_i32_154
  let v144 : BitVec 32 := Scalar.addi c0_i32_155 v143
  v144.toNat
def k0_off9 (d0 : Dev nD) : Fin 4 → Nat :=
  let false_165 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_160 : BitVec 32 := 0#32
  let v153 : BitVec 32 := Scalar.subi v2 c0_i32_160
  let c4_i32_161 : BitVec 32 := 4#32
  let v154 : BitVec 32 := Scalar.addi v153 c4_i32_161
  let c4_i32_162 : BitVec 32 := 4#32
  let v155 : BitVec 32 := Scalar.remsi v154 c4_i32_162
  let c0_i32_163 : BitVec 32 := 0#32
  let v156 : BitVec 32 := Scalar.addi v2 c0_i32_163
  let c4_i32_164 : BitVec 32 := 4#32
  let v157 : BitVec 32 := Scalar.remsi v156 c4_i32_164
  let v158 : BitVec 32 := Scalar.select false_165 v155 v157
  let c7_i32_174 : BitVec 32 := 7#32
  let c0_i32_177 : BitVec 32 := 0#32
  let c0_i32_178 : BitVec 32 := 0#32
  ![v158.toNat, 7, 0, 0]
def k0_dev10 (d0 : Dev nD) : Nat :=
  let c0_i32_176 : BitVec 32 := 0#32
  let false_166 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v159 : BitVec 32 := Scalar.select false_166 v7 v5
  let c1_i32_175 : BitVec 32 := 1#32
  let v163 : BitVec 32 := Scalar.muli v159 c1_i32_175
  let v164 : BitVec 32 := Scalar.addi c0_i32_176 v163
  v164.toNat
def k0_off10 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_181 : BitVec 32 := 0#32
  let c0_i32_182 : BitVec 32 := 0#32
  let c0_i32_183 : BitVec 32 := 0#32
  ![v2.toNat, 0, 0, 0]
@[reducible] def k0_t1_loop : Scf.Loop 32 :=
  let c0_i32_201 : BitVec 32 := 0#32
  let c4_i32_202 : BitVec 32 := 4#32
  let v214 : BitVec 32 := Scalar.addi c0_i32_201 c4_i32_202
  let c1_i32_203 : BitVec 32 := 1#32
  ⟨c0_i32_201, v214, c1_i32_203⟩
def k0_cond1 (k0_t1 : Fin k0_t1_loop.trips) : BitVec 1 :=
  let c0_i32_201 : BitVec 32 := 0#32
  let c1_i32_203 : BitVec 32 := 1#32
  let arg11 : BitVec 32 := Scf.iv c0_i32_201 c1_i32_203 k0_t1
  let c1_i32_208 : BitVec 32 := 1#32
  let v216 : BitVec 1 := Scalar.cmpi .sge arg11 c1_i32_208
  let v217 : BitVec 32 := Scalar.extui v216
  let c0_i32_209 : BitVec 32 := 0#32
  let v218 : BitVec 1 := Scalar.cmpi .ne v217 c0_i32_209
  v218

def k0_off11 (k0_t1 : Fin k0_t1_loop.trips) : Fin 3 → Nat :=
  let c0_i32_201 : BitVec 32 := 0#32
  let c1_i32_203 : BitVec 32 := 1#32
  let arg11 : BitVec 32 := Scf.iv c0_i32_201 c1_i32_203 k0_t1
  let c1_i32_514 : BitVec 32 := 1#32
  let v604 : BitVec 32 := Scalar.subi arg11 c1_i32_514
  let c2_i32_525 : BitVec 32 := 2#32
  let v614 : BitVec 32 := Scalar.minsi v604 c2_i32_525
  let true_520 : BitVec 1 := 1#1
  let c0_i32_521 : BitVec 32 := 0#32
  let c1_i32_522 : BitVec 32 := 1#32
  let v612 : BitVec 32 := Scalar.select true_520 c0_i32_521 c1_i32_522
  let c0_i32_523 : BitVec 32 := 0#32
  let c4_i32_524 : BitVec 32 := 4#32
  let v613 : BitVec 32 := Scalar.remsi c0_i32_523 c4_i32_524
  ![v614.toNat, v612.toNat, v613.toNat]
def k0_off12 (d0 : Dev nD) (k0_t1 : Fin k0_t1_loop.trips) : Fin 4 → Nat :=
  let true_518 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let c1_i32_514 : BitVec 32 := 1#32
  let v604 : BitVec 32 := Scalar.subi arg11 c1_i32_514
  let v605 : BitVec 32 := Scalar.subi v2 v604
  let c4_i32_515 : BitVec 32 := 4#32
  let v606 : BitVec 32 := Scalar.addi v605 c4_i32_515
  let c4_i32_516 : BitVec 32 := 4#32
  let v607 : BitVec 32 := Scalar.remsi v606 c4_i32_516
  let v608 : BitVec 32 := Scalar.addi v2 v604
  let c4_i32_517 : BitVec 32 := 4#32
  let v609 : BitVec 32 := Scalar.remsi v608 c4_i32_517
  let v610 : BitVec 32 := Scalar.select true_518 v607 v609
  let c0_i32_527 : BitVec 32 := 0#32
  let c0_i32_530 : BitVec 32 := 0#32
  let c0_i32_531 : BitVec 32 := 0#32
  ![v610.toNat, 0, 0, 0]
def k0_cond2 (k0_t1 : Fin k0_t1_loop.trips) : BitVec 1 :=
  let c0_i32_201 : BitVec 32 := 0#32
  let c1_i32_203 : BitVec 32 := 1#32
  let arg11 : BitVec 32 := Scf.iv c0_i32_201 c1_i32_203 k0_t1
  let c3_i32_534 : BitVec 32 := 3#32
  let v623 : BitVec 1 := Scalar.cmpi .slt arg11 c3_i32_534
  let v624 : BitVec 32 := Scalar.extui v623
  let c0_i32_535 : BitVec 32 := 0#32
  let v625 : BitVec 1 := Scalar.cmpi .ne v624 c0_i32_535
  v625

def k0_off13 (k0_t1 : Fin k0_t1_loop.trips) : Fin 3 → Nat :=
  let c0_i32_201 : BitVec 32 := 0#32
  let c1_i32_203 : BitVec 32 := 1#32
  let arg11 : BitVec 32 := Scf.iv c0_i32_201 c1_i32_203 k0_t1
  let c2_i32_546 : BitVec 32 := 2#32
  let v635 : BitVec 32 := Scalar.minsi arg11 c2_i32_546
  let true_541 : BitVec 1 := 1#1
  let c0_i32_542 : BitVec 32 := 0#32
  let c1_i32_543 : BitVec 32 := 1#32
  let v633 : BitVec 32 := Scalar.select true_541 c0_i32_542 c1_i32_543
  let c0_i32_544 : BitVec 32 := 0#32
  let c4_i32_545 : BitVec 32 := 4#32
  let v634 : BitVec 32 := Scalar.remsi c0_i32_544 c4_i32_545
  ![v635.toNat, v633.toNat, v634.toNat]
def k0_off14 (d0 : Dev nD) (k0_t1 : Fin k0_t1_loop.trips) : Fin 4 → Nat :=
  let true_539 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let v626 : BitVec 32 := Scalar.subi v2 arg11
  let c4_i32_536 : BitVec 32 := 4#32
  let v627 : BitVec 32 := Scalar.addi v626 c4_i32_536
  let c4_i32_537 : BitVec 32 := 4#32
  let v628 : BitVec 32 := Scalar.remsi v627 c4_i32_537
  let v629 : BitVec 32 := Scalar.addi v2 arg11
  let c4_i32_538 : BitVec 32 := 4#32
  let v630 : BitVec 32 := Scalar.remsi v629 c4_i32_538
  let v631 : BitVec 32 := Scalar.select true_539 v628 v630
  let c0_i32_548 : BitVec 32 := 0#32
  let c0_i32_551 : BitVec 32 := 0#32
  let c0_i32_552 : BitVec 32 := 0#32
  ![v631.toNat, 0, 0, 0]
def k0_dev11 (d0 : Dev nD) : Nat :=
  let c0_i32_550 : BitVec 32 := 0#32
  let true_540 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v632 : BitVec 32 := Scalar.select true_540 v7 v5
  let c1_i32_549 : BitVec 32 := 1#32
  let v636 : BitVec 32 := Scalar.muli v632 c1_i32_549
  let v637 : BitVec 32 := Scalar.addi c0_i32_550 v636
  v637.toNat
def k0_off15 (d0 : Dev nD) (k0_t1 : Fin k0_t1_loop.trips) : Fin 4 → Nat :=
  let true_213 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let v219 : BitVec 32 := Scalar.subi v2 arg11
  let c4_i32_210 : BitVec 32 := 4#32
  let v220 : BitVec 32 := Scalar.addi v219 c4_i32_210
  let c4_i32_211 : BitVec 32 := 4#32
  let v221 : BitVec 32 := Scalar.remsi v220 c4_i32_211
  let v222 : BitVec 32 := Scalar.addi v2 arg11
  let c4_i32_212 : BitVec 32 := 4#32
  let v223 : BitVec 32 := Scalar.remsi v222 c4_i32_212
  let v224 : BitVec 32 := Scalar.select true_213 v221 v223
  let c0_i32_214 : BitVec 32 := 0#32
  let c0_i32_221 : BitVec 32 := 0#32
  let c0_i32_222 : BitVec 32 := 0#32
  ![v224.toNat, 0, 0, 0]
def k0_cond3 (k0_t1 : Fin k0_t1_loop.trips) : BitVec 1 :=
  let c0_i32_201 : BitVec 32 := 0#32
  let c1_i32_203 : BitVec 32 := 1#32
  let arg11 : BitVec 32 := Scf.iv c0_i32_201 c1_i32_203 k0_t1
  let c1_i32_223 : BitVec 32 := 1#32
  let v231 : BitVec 1 := Scalar.cmpi .sge arg11 c1_i32_223
  let v232 : BitVec 32 := Scalar.extui v231
  let c0_i32_224 : BitVec 32 := 0#32
  let v233 : BitVec 1 := Scalar.cmpi .ne v232 c0_i32_224
  v233

def k0_off16 (k0_t1 : Fin k0_t1_loop.trips) : Fin 3 → Nat :=
  let c0_i32_201 : BitVec 32 := 0#32
  let c1_i32_203 : BitVec 32 := 1#32
  let arg11 : BitVec 32 := Scf.iv c0_i32_201 c1_i32_203 k0_t1
  let c1_i32_514 : BitVec 32 := 1#32
  let v604 : BitVec 32 := Scalar.subi arg11 c1_i32_514
  let c2_i32_525 : BitVec 32 := 2#32
  let v614 : BitVec 32 := Scalar.minsi v604 c2_i32_525
  let false_520 : BitVec 1 := 0#1
  let c0_i32_521 : BitVec 32 := 0#32
  let c1_i32_522 : BitVec 32 := 1#32
  let v612 : BitVec 32 := Scalar.select false_520 c0_i32_521 c1_i32_522
  let c4_i32_523 : BitVec 32 := 4#32
  let c4_i32_524 : BitVec 32 := 4#32
  let v613 : BitVec 32 := Scalar.remsi c4_i32_523 c4_i32_524
  ![v614.toNat, v612.toNat, v613.toNat]
def k0_off17 (d0 : Dev nD) (k0_t1 : Fin k0_t1_loop.trips) : Fin 4 → Nat :=
  let false_518 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let c1_i32_514 : BitVec 32 := 1#32
  let v604 : BitVec 32 := Scalar.subi arg11 c1_i32_514
  let v605 : BitVec 32 := Scalar.subi v2 v604
  let c4_i32_515 : BitVec 32 := 4#32
  let v606 : BitVec 32 := Scalar.addi v605 c4_i32_515
  let c4_i32_516 : BitVec 32 := 4#32
  let v607 : BitVec 32 := Scalar.remsi v606 c4_i32_516
  let v608 : BitVec 32 := Scalar.addi v2 v604
  let c4_i32_517 : BitVec 32 := 4#32
  let v609 : BitVec 32 := Scalar.remsi v608 c4_i32_517
  let v610 : BitVec 32 := Scalar.select false_518 v607 v609
  let c4_i32_527 : BitVec 32 := 4#32
  let c0_i32_530 : BitVec 32 := 0#32
  let c0_i32_531 : BitVec 32 := 0#32
  ![v610.toNat, 4, 0, 0]
def k0_cond4 (k0_t1 : Fin k0_t1_loop.trips) : BitVec 1 :=
  let c0_i32_201 : BitVec 32 := 0#32
  let c1_i32_203 : BitVec 32 := 1#32
  let arg11 : BitVec 32 := Scf.iv c0_i32_201 c1_i32_203 k0_t1
  let c3_i32_534 : BitVec 32 := 3#32
  let v623 : BitVec 1 := Scalar.cmpi .slt arg11 c3_i32_534
  let v624 : BitVec 32 := Scalar.extui v623
  let c0_i32_535 : BitVec 32 := 0#32
  let v625 : BitVec 1 := Scalar.cmpi .ne v624 c0_i32_535
  v625

def k0_off18 (k0_t1 : Fin k0_t1_loop.trips) : Fin 3 → Nat :=
  let c0_i32_201 : BitVec 32 := 0#32
  let c1_i32_203 : BitVec 32 := 1#32
  let arg11 : BitVec 32 := Scf.iv c0_i32_201 c1_i32_203 k0_t1
  let c2_i32_546 : BitVec 32 := 2#32
  let v635 : BitVec 32 := Scalar.minsi arg11 c2_i32_546
  let false_541 : BitVec 1 := 0#1
  let c0_i32_542 : BitVec 32 := 0#32
  let c1_i32_543 : BitVec 32 := 1#32
  let v633 : BitVec 32 := Scalar.select false_541 c0_i32_542 c1_i32_543
  let c4_i32_544 : BitVec 32 := 4#32
  let c4_i32_545 : BitVec 32 := 4#32
  let v634 : BitVec 32 := Scalar.remsi c4_i32_544 c4_i32_545
  ![v635.toNat, v633.toNat, v634.toNat]
def k0_off19 (d0 : Dev nD) (k0_t1 : Fin k0_t1_loop.trips) : Fin 4 → Nat :=
  let false_539 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let v626 : BitVec 32 := Scalar.subi v2 arg11
  let c4_i32_536 : BitVec 32 := 4#32
  let v627 : BitVec 32 := Scalar.addi v626 c4_i32_536
  let c4_i32_537 : BitVec 32 := 4#32
  let v628 : BitVec 32 := Scalar.remsi v627 c4_i32_537
  let v629 : BitVec 32 := Scalar.addi v2 arg11
  let c4_i32_538 : BitVec 32 := 4#32
  let v630 : BitVec 32 := Scalar.remsi v629 c4_i32_538
  let v631 : BitVec 32 := Scalar.select false_539 v628 v630
  let c4_i32_548 : BitVec 32 := 4#32
  let c0_i32_551 : BitVec 32 := 0#32
  let c0_i32_552 : BitVec 32 := 0#32
  ![v631.toNat, 4, 0, 0]
def k0_dev12 (d0 : Dev nD) : Nat :=
  let c0_i32_550 : BitVec 32 := 0#32
  let false_540 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v632 : BitVec 32 := Scalar.select false_540 v7 v5
  let c1_i32_549 : BitVec 32 := 1#32
  let v636 : BitVec 32 := Scalar.muli v632 c1_i32_549
  let v637 : BitVec 32 := Scalar.addi c0_i32_550 v636
  v637.toNat
def k0_off20 (d0 : Dev nD) (k0_t1 : Fin k0_t1_loop.trips) : Fin 4 → Nat :=
  let false_228 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let v234 : BitVec 32 := Scalar.subi v2 arg11
  let c4_i32_225 : BitVec 32 := 4#32
  let v235 : BitVec 32 := Scalar.addi v234 c4_i32_225
  let c4_i32_226 : BitVec 32 := 4#32
  let v236 : BitVec 32 := Scalar.remsi v235 c4_i32_226
  let v237 : BitVec 32 := Scalar.addi v2 arg11
  let c4_i32_227 : BitVec 32 := 4#32
  let v238 : BitVec 32 := Scalar.remsi v237 c4_i32_227
  let v239 : BitVec 32 := Scalar.select false_228 v236 v238
  let c4_i32_229 : BitVec 32 := 4#32
  let c0_i32_236 : BitVec 32 := 0#32
  let c0_i32_237 : BitVec 32 := 0#32
  ![v239.toNat, 4, 0, 0]
def k0_cond5 (k0_t1 : Fin k0_t1_loop.trips) : BitVec 1 :=
  let c0_i32_201 : BitVec 32 := 0#32
  let c1_i32_203 : BitVec 32 := 1#32
  let arg11 : BitVec 32 := Scf.iv c0_i32_201 c1_i32_203 k0_t1
  let c1_i32_238 : BitVec 32 := 1#32
  let v246 : BitVec 1 := Scalar.cmpi .sge arg11 c1_i32_238
  let v247 : BitVec 32 := Scalar.extui v246
  let c0_i32_239 : BitVec 32 := 0#32
  let v248 : BitVec 1 := Scalar.cmpi .ne v247 c0_i32_239
  v248

def k0_off21 (k0_t1 : Fin k0_t1_loop.trips) : Fin 3 → Nat :=
  let c0_i32_201 : BitVec 32 := 0#32
  let c1_i32_203 : BitVec 32 := 1#32
  let arg11 : BitVec 32 := Scf.iv c0_i32_201 c1_i32_203 k0_t1
  let c1_i32_514 : BitVec 32 := 1#32
  let v604 : BitVec 32 := Scalar.subi arg11 c1_i32_514
  let c2_i32_525 : BitVec 32 := 2#32
  let v614 : BitVec 32 := Scalar.minsi v604 c2_i32_525
  let true_520 : BitVec 1 := 1#1
  let c0_i32_521 : BitVec 32 := 0#32
  let c1_i32_522 : BitVec 32 := 1#32
  let v612 : BitVec 32 := Scalar.select true_520 c0_i32_521 c1_i32_522
  let c1_i32_523 : BitVec 32 := 1#32
  let c4_i32_524 : BitVec 32 := 4#32
  let v613 : BitVec 32 := Scalar.remsi c1_i32_523 c4_i32_524
  ![v614.toNat, v612.toNat, v613.toNat]
def k0_off22 (d0 : Dev nD) (k0_t1 : Fin k0_t1_loop.trips) : Fin 4 → Nat :=
  let true_518 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let c1_i32_514 : BitVec 32 := 1#32
  let v604 : BitVec 32 := Scalar.subi arg11 c1_i32_514
  let v605 : BitVec 32 := Scalar.subi v2 v604
  let c4_i32_515 : BitVec 32 := 4#32
  let v606 : BitVec 32 := Scalar.addi v605 c4_i32_515
  let c4_i32_516 : BitVec 32 := 4#32
  let v607 : BitVec 32 := Scalar.remsi v606 c4_i32_516
  let v608 : BitVec 32 := Scalar.addi v2 v604
  let c4_i32_517 : BitVec 32 := 4#32
  let v609 : BitVec 32 := Scalar.remsi v608 c4_i32_517
  let v610 : BitVec 32 := Scalar.select true_518 v607 v609
  let c1_i32_527 : BitVec 32 := 1#32
  let c0_i32_530 : BitVec 32 := 0#32
  let c0_i32_531 : BitVec 32 := 0#32
  ![v610.toNat, 1, 0, 0]
def k0_cond6 (k0_t1 : Fin k0_t1_loop.trips) : BitVec 1 :=
  let c0_i32_201 : BitVec 32 := 0#32
  let c1_i32_203 : BitVec 32 := 1#32
  let arg11 : BitVec 32 := Scf.iv c0_i32_201 c1_i32_203 k0_t1
  let c3_i32_534 : BitVec 32 := 3#32
  let v623 : BitVec 1 := Scalar.cmpi .slt arg11 c3_i32_534
  let v624 : BitVec 32 := Scalar.extui v623
  let c0_i32_535 : BitVec 32 := 0#32
  let v625 : BitVec 1 := Scalar.cmpi .ne v624 c0_i32_535
  v625

def k0_off23 (k0_t1 : Fin k0_t1_loop.trips) : Fin 3 → Nat :=
  let c0_i32_201 : BitVec 32 := 0#32
  let c1_i32_203 : BitVec 32 := 1#32
  let arg11 : BitVec 32 := Scf.iv c0_i32_201 c1_i32_203 k0_t1
  let c2_i32_546 : BitVec 32 := 2#32
  let v635 : BitVec 32 := Scalar.minsi arg11 c2_i32_546
  let true_541 : BitVec 1 := 1#1
  let c0_i32_542 : BitVec 32 := 0#32
  let c1_i32_543 : BitVec 32 := 1#32
  let v633 : BitVec 32 := Scalar.select true_541 c0_i32_542 c1_i32_543
  let c1_i32_544 : BitVec 32 := 1#32
  let c4_i32_545 : BitVec 32 := 4#32
  let v634 : BitVec 32 := Scalar.remsi c1_i32_544 c4_i32_545
  ![v635.toNat, v633.toNat, v634.toNat]
def k0_off24 (d0 : Dev nD) (k0_t1 : Fin k0_t1_loop.trips) : Fin 4 → Nat :=
  let true_539 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let v626 : BitVec 32 := Scalar.subi v2 arg11
  let c4_i32_536 : BitVec 32 := 4#32
  let v627 : BitVec 32 := Scalar.addi v626 c4_i32_536
  let c4_i32_537 : BitVec 32 := 4#32
  let v628 : BitVec 32 := Scalar.remsi v627 c4_i32_537
  let v629 : BitVec 32 := Scalar.addi v2 arg11
  let c4_i32_538 : BitVec 32 := 4#32
  let v630 : BitVec 32 := Scalar.remsi v629 c4_i32_538
  let v631 : BitVec 32 := Scalar.select true_539 v628 v630
  let c1_i32_548 : BitVec 32 := 1#32
  let c0_i32_551 : BitVec 32 := 0#32
  let c0_i32_552 : BitVec 32 := 0#32
  ![v631.toNat, 1, 0, 0]
def k0_dev13 (d0 : Dev nD) : Nat :=
  let c0_i32_550 : BitVec 32 := 0#32
  let true_540 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v632 : BitVec 32 := Scalar.select true_540 v7 v5
  let c1_i32_549 : BitVec 32 := 1#32
  let v636 : BitVec 32 := Scalar.muli v632 c1_i32_549
  let v637 : BitVec 32 := Scalar.addi c0_i32_550 v636
  v637.toNat
def k0_off25 (d0 : Dev nD) (k0_t1 : Fin k0_t1_loop.trips) : Fin 4 → Nat :=
  let true_243 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let v249 : BitVec 32 := Scalar.subi v2 arg11
  let c4_i32_240 : BitVec 32 := 4#32
  let v250 : BitVec 32 := Scalar.addi v249 c4_i32_240
  let c4_i32_241 : BitVec 32 := 4#32
  let v251 : BitVec 32 := Scalar.remsi v250 c4_i32_241
  let v252 : BitVec 32 := Scalar.addi v2 arg11
  let c4_i32_242 : BitVec 32 := 4#32
  let v253 : BitVec 32 := Scalar.remsi v252 c4_i32_242
  let v254 : BitVec 32 := Scalar.select true_243 v251 v253
  let c1_i32_244 : BitVec 32 := 1#32
  let c0_i32_251 : BitVec 32 := 0#32
  let c0_i32_252 : BitVec 32 := 0#32
  ![v254.toNat, 1, 0, 0]
def k0_cond7 (k0_t1 : Fin k0_t1_loop.trips) : BitVec 1 :=
  let c0_i32_201 : BitVec 32 := 0#32
  let c1_i32_203 : BitVec 32 := 1#32
  let arg11 : BitVec 32 := Scf.iv c0_i32_201 c1_i32_203 k0_t1
  let c1_i32_253 : BitVec 32 := 1#32
  let v261 : BitVec 1 := Scalar.cmpi .sge arg11 c1_i32_253
  let v262 : BitVec 32 := Scalar.extui v261
  let c0_i32_254 : BitVec 32 := 0#32
  let v263 : BitVec 1 := Scalar.cmpi .ne v262 c0_i32_254
  v263

def k0_off26 (k0_t1 : Fin k0_t1_loop.trips) : Fin 3 → Nat :=
  let c0_i32_201 : BitVec 32 := 0#32
  let c1_i32_203 : BitVec 32 := 1#32
  let arg11 : BitVec 32 := Scf.iv c0_i32_201 c1_i32_203 k0_t1
  let c1_i32_514 : BitVec 32 := 1#32
  let v604 : BitVec 32 := Scalar.subi arg11 c1_i32_514
  let c2_i32_525 : BitVec 32 := 2#32
  let v614 : BitVec 32 := Scalar.minsi v604 c2_i32_525
  let false_520 : BitVec 1 := 0#1
  let c0_i32_521 : BitVec 32 := 0#32
  let c1_i32_522 : BitVec 32 := 1#32
  let v612 : BitVec 32 := Scalar.select false_520 c0_i32_521 c1_i32_522
  let c5_i32_523 : BitVec 32 := 5#32
  let c4_i32_524 : BitVec 32 := 4#32
  let v613 : BitVec 32 := Scalar.remsi c5_i32_523 c4_i32_524
  ![v614.toNat, v612.toNat, v613.toNat]
def k0_off27 (d0 : Dev nD) (k0_t1 : Fin k0_t1_loop.trips) : Fin 4 → Nat :=
  let false_518 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let c1_i32_514 : BitVec 32 := 1#32
  let v604 : BitVec 32 := Scalar.subi arg11 c1_i32_514
  let v605 : BitVec 32 := Scalar.subi v2 v604
  let c4_i32_515 : BitVec 32 := 4#32
  let v606 : BitVec 32 := Scalar.addi v605 c4_i32_515
  let c4_i32_516 : BitVec 32 := 4#32
  let v607 : BitVec 32 := Scalar.remsi v606 c4_i32_516
  let v608 : BitVec 32 := Scalar.addi v2 v604
  let c4_i32_517 : BitVec 32 := 4#32
  let v609 : BitVec 32 := Scalar.remsi v608 c4_i32_517
  let v610 : BitVec 32 := Scalar.select false_518 v607 v609
  let c5_i32_527 : BitVec 32 := 5#32
  let c0_i32_530 : BitVec 32 := 0#32
  let c0_i32_531 : BitVec 32 := 0#32
  ![v610.toNat, 5, 0, 0]
def k0_cond8 (k0_t1 : Fin k0_t1_loop.trips) : BitVec 1 :=
  let c0_i32_201 : BitVec 32 := 0#32
  let c1_i32_203 : BitVec 32 := 1#32
  let arg11 : BitVec 32 := Scf.iv c0_i32_201 c1_i32_203 k0_t1
  let c3_i32_534 : BitVec 32 := 3#32
  let v623 : BitVec 1 := Scalar.cmpi .slt arg11 c3_i32_534
  let v624 : BitVec 32 := Scalar.extui v623
  let c0_i32_535 : BitVec 32 := 0#32
  let v625 : BitVec 1 := Scalar.cmpi .ne v624 c0_i32_535
  v625

def k0_off28 (k0_t1 : Fin k0_t1_loop.trips) : Fin 3 → Nat :=
  let c0_i32_201 : BitVec 32 := 0#32
  let c1_i32_203 : BitVec 32 := 1#32
  let arg11 : BitVec 32 := Scf.iv c0_i32_201 c1_i32_203 k0_t1
  let c2_i32_546 : BitVec 32 := 2#32
  let v635 : BitVec 32 := Scalar.minsi arg11 c2_i32_546
  let false_541 : BitVec 1 := 0#1
  let c0_i32_542 : BitVec 32 := 0#32
  let c1_i32_543 : BitVec 32 := 1#32
  let v633 : BitVec 32 := Scalar.select false_541 c0_i32_542 c1_i32_543
  let c5_i32_544 : BitVec 32 := 5#32
  let c4_i32_545 : BitVec 32 := 4#32
  let v634 : BitVec 32 := Scalar.remsi c5_i32_544 c4_i32_545
  ![v635.toNat, v633.toNat, v634.toNat]
def k0_off29 (d0 : Dev nD) (k0_t1 : Fin k0_t1_loop.trips) : Fin 4 → Nat :=
  let false_539 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let v626 : BitVec 32 := Scalar.subi v2 arg11
  let c4_i32_536 : BitVec 32 := 4#32
  let v627 : BitVec 32 := Scalar.addi v626 c4_i32_536
  let c4_i32_537 : BitVec 32 := 4#32
  let v628 : BitVec 32 := Scalar.remsi v627 c4_i32_537
  let v629 : BitVec 32 := Scalar.addi v2 arg11
  let c4_i32_538 : BitVec 32 := 4#32
  let v630 : BitVec 32 := Scalar.remsi v629 c4_i32_538
  let v631 : BitVec 32 := Scalar.select false_539 v628 v630
  let c5_i32_548 : BitVec 32 := 5#32
  let c0_i32_551 : BitVec 32 := 0#32
  let c0_i32_552 : BitVec 32 := 0#32
  ![v631.toNat, 5, 0, 0]
def k0_dev14 (d0 : Dev nD) : Nat :=
  let c0_i32_550 : BitVec 32 := 0#32
  let false_540 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v632 : BitVec 32 := Scalar.select false_540 v7 v5
  let c1_i32_549 : BitVec 32 := 1#32
  let v636 : BitVec 32 := Scalar.muli v632 c1_i32_549
  let v637 : BitVec 32 := Scalar.addi c0_i32_550 v636
  v637.toNat
def k0_off30 (d0 : Dev nD) (k0_t1 : Fin k0_t1_loop.trips) : Fin 4 → Nat :=
  let false_258 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let v264 : BitVec 32 := Scalar.subi v2 arg11
  let c4_i32_255 : BitVec 32 := 4#32
  let v265 : BitVec 32 := Scalar.addi v264 c4_i32_255
  let c4_i32_256 : BitVec 32 := 4#32
  let v266 : BitVec 32 := Scalar.remsi v265 c4_i32_256
  let v267 : BitVec 32 := Scalar.addi v2 arg11
  let c4_i32_257 : BitVec 32 := 4#32
  let v268 : BitVec 32 := Scalar.remsi v267 c4_i32_257
  let v269 : BitVec 32 := Scalar.select false_258 v266 v268
  let c5_i32_259 : BitVec 32 := 5#32
  let c0_i32_266 : BitVec 32 := 0#32
  let c0_i32_267 : BitVec 32 := 0#32
  ![v269.toNat, 5, 0, 0]
def k0_cond9 (k0_t1 : Fin k0_t1_loop.trips) : BitVec 1 :=
  let c0_i32_201 : BitVec 32 := 0#32
  let c1_i32_203 : BitVec 32 := 1#32
  let arg11 : BitVec 32 := Scf.iv c0_i32_201 c1_i32_203 k0_t1
  let c1_i32_314 : BitVec 32 := 1#32
  let v343 : BitVec 1 := Scalar.cmpi .sge arg11 c1_i32_314
  let v344 : BitVec 32 := Scalar.extui v343
  let c0_i32_315 : BitVec 32 := 0#32
  let v345 : BitVec 1 := Scalar.cmpi .ne v344 c0_i32_315
  v345

def k0_off31 (k0_t1 : Fin k0_t1_loop.trips) : Fin 3 → Nat :=
  let c0_i32_201 : BitVec 32 := 0#32
  let c1_i32_203 : BitVec 32 := 1#32
  let arg11 : BitVec 32 := Scf.iv c0_i32_201 c1_i32_203 k0_t1
  let c1_i32_514 : BitVec 32 := 1#32
  let v604 : BitVec 32 := Scalar.subi arg11 c1_i32_514
  let c2_i32_525 : BitVec 32 := 2#32
  let v614 : BitVec 32 := Scalar.minsi v604 c2_i32_525
  let true_520 : BitVec 1 := 1#1
  let c0_i32_521 : BitVec 32 := 0#32
  let c1_i32_522 : BitVec 32 := 1#32
  let v612 : BitVec 32 := Scalar.select true_520 c0_i32_521 c1_i32_522
  let c2_i32_523 : BitVec 32 := 2#32
  let c4_i32_524 : BitVec 32 := 4#32
  let v613 : BitVec 32 := Scalar.remsi c2_i32_523 c4_i32_524
  ![v614.toNat, v612.toNat, v613.toNat]
def k0_off32 (d0 : Dev nD) (k0_t1 : Fin k0_t1_loop.trips) : Fin 4 → Nat :=
  let true_518 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let c1_i32_514 : BitVec 32 := 1#32
  let v604 : BitVec 32 := Scalar.subi arg11 c1_i32_514
  let v605 : BitVec 32 := Scalar.subi v2 v604
  let c4_i32_515 : BitVec 32 := 4#32
  let v606 : BitVec 32 := Scalar.addi v605 c4_i32_515
  let c4_i32_516 : BitVec 32 := 4#32
  let v607 : BitVec 32 := Scalar.remsi v606 c4_i32_516
  let v608 : BitVec 32 := Scalar.addi v2 v604
  let c4_i32_517 : BitVec 32 := 4#32
  let v609 : BitVec 32 := Scalar.remsi v608 c4_i32_517
  let v610 : BitVec 32 := Scalar.select true_518 v607 v609
  let c2_i32_527 : BitVec 32 := 2#32
  let c0_i32_530 : BitVec 32 := 0#32
  let c0_i32_531 : BitVec 32 := 0#32
  ![v610.toNat, 2, 0, 0]
def k0_cond10 (k0_t1 : Fin k0_t1_loop.trips) : BitVec 1 :=
  let c0_i32_201 : BitVec 32 := 0#32
  let c1_i32_203 : BitVec 32 := 1#32
  let arg11 : BitVec 32 := Scf.iv c0_i32_201 c1_i32_203 k0_t1
  let c3_i32_534 : BitVec 32 := 3#32
  let v623 : BitVec 1 := Scalar.cmpi .slt arg11 c3_i32_534
  let v624 : BitVec 32 := Scalar.extui v623
  let c0_i32_535 : BitVec 32 := 0#32
  let v625 : BitVec 1 := Scalar.cmpi .ne v624 c0_i32_535
  v625

def k0_off33 (k0_t1 : Fin k0_t1_loop.trips) : Fin 3 → Nat :=
  let c0_i32_201 : BitVec 32 := 0#32
  let c1_i32_203 : BitVec 32 := 1#32
  let arg11 : BitVec 32 := Scf.iv c0_i32_201 c1_i32_203 k0_t1
  let c2_i32_546 : BitVec 32 := 2#32
  let v635 : BitVec 32 := Scalar.minsi arg11 c2_i32_546
  let true_541 : BitVec 1 := 1#1
  let c0_i32_542 : BitVec 32 := 0#32
  let c1_i32_543 : BitVec 32 := 1#32
  let v633 : BitVec 32 := Scalar.select true_541 c0_i32_542 c1_i32_543
  let c2_i32_544 : BitVec 32 := 2#32
  let c4_i32_545 : BitVec 32 := 4#32
  let v634 : BitVec 32 := Scalar.remsi c2_i32_544 c4_i32_545
  ![v635.toNat, v633.toNat, v634.toNat]
def k0_off34 (d0 : Dev nD) (k0_t1 : Fin k0_t1_loop.trips) : Fin 4 → Nat :=
  let true_539 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let v626 : BitVec 32 := Scalar.subi v2 arg11
  let c4_i32_536 : BitVec 32 := 4#32
  let v627 : BitVec 32 := Scalar.addi v626 c4_i32_536
  let c4_i32_537 : BitVec 32 := 4#32
  let v628 : BitVec 32 := Scalar.remsi v627 c4_i32_537
  let v629 : BitVec 32 := Scalar.addi v2 arg11
  let c4_i32_538 : BitVec 32 := 4#32
  let v630 : BitVec 32 := Scalar.remsi v629 c4_i32_538
  let v631 : BitVec 32 := Scalar.select true_539 v628 v630
  let c2_i32_548 : BitVec 32 := 2#32
  let c0_i32_551 : BitVec 32 := 0#32
  let c0_i32_552 : BitVec 32 := 0#32
  ![v631.toNat, 2, 0, 0]
def k0_dev15 (d0 : Dev nD) : Nat :=
  let c0_i32_550 : BitVec 32 := 0#32
  let true_540 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v632 : BitVec 32 := Scalar.select true_540 v7 v5
  let c1_i32_549 : BitVec 32 := 1#32
  let v636 : BitVec 32 := Scalar.muli v632 c1_i32_549
  let v637 : BitVec 32 := Scalar.addi c0_i32_550 v636
  v637.toNat
def k0_off35 (d0 : Dev nD) (k0_t1 : Fin k0_t1_loop.trips) : Fin 4 → Nat :=
  let true_319 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let v346 : BitVec 32 := Scalar.subi v2 arg11
  let c4_i32_316 : BitVec 32 := 4#32
  let v347 : BitVec 32 := Scalar.addi v346 c4_i32_316
  let c4_i32_317 : BitVec 32 := 4#32
  let v348 : BitVec 32 := Scalar.remsi v347 c4_i32_317
  let v349 : BitVec 32 := Scalar.addi v2 arg11
  let c4_i32_318 : BitVec 32 := 4#32
  let v350 : BitVec 32 := Scalar.remsi v349 c4_i32_318
  let v351 : BitVec 32 := Scalar.select true_319 v348 v350
  let c2_i32_320 : BitVec 32 := 2#32
  let c0_i32_327 : BitVec 32 := 0#32
  let c0_i32_328 : BitVec 32 := 0#32
  ![v351.toNat, 2, 0, 0]
def k0_cond11 (k0_t1 : Fin k0_t1_loop.trips) : BitVec 1 :=
  let c0_i32_201 : BitVec 32 := 0#32
  let c1_i32_203 : BitVec 32 := 1#32
  let arg11 : BitVec 32 := Scf.iv c0_i32_201 c1_i32_203 k0_t1
  let c1_i32_329 : BitVec 32 := 1#32
  let v358 : BitVec 1 := Scalar.cmpi .sge arg11 c1_i32_329
  let v359 : BitVec 32 := Scalar.extui v358
  let c0_i32_330 : BitVec 32 := 0#32
  let v360 : BitVec 1 := Scalar.cmpi .ne v359 c0_i32_330
  v360

def k0_off36 (k0_t1 : Fin k0_t1_loop.trips) : Fin 3 → Nat :=
  let c0_i32_201 : BitVec 32 := 0#32
  let c1_i32_203 : BitVec 32 := 1#32
  let arg11 : BitVec 32 := Scf.iv c0_i32_201 c1_i32_203 k0_t1
  let c1_i32_514 : BitVec 32 := 1#32
  let v604 : BitVec 32 := Scalar.subi arg11 c1_i32_514
  let c2_i32_525 : BitVec 32 := 2#32
  let v614 : BitVec 32 := Scalar.minsi v604 c2_i32_525
  let false_520 : BitVec 1 := 0#1
  let c0_i32_521 : BitVec 32 := 0#32
  let c1_i32_522 : BitVec 32 := 1#32
  let v612 : BitVec 32 := Scalar.select false_520 c0_i32_521 c1_i32_522
  let c6_i32_523 : BitVec 32 := 6#32
  let c4_i32_524 : BitVec 32 := 4#32
  let v613 : BitVec 32 := Scalar.remsi c6_i32_523 c4_i32_524
  ![v614.toNat, v612.toNat, v613.toNat]
def k0_off37 (d0 : Dev nD) (k0_t1 : Fin k0_t1_loop.trips) : Fin 4 → Nat :=
  let false_518 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let c1_i32_514 : BitVec 32 := 1#32
  let v604 : BitVec 32 := Scalar.subi arg11 c1_i32_514
  let v605 : BitVec 32 := Scalar.subi v2 v604
  let c4_i32_515 : BitVec 32 := 4#32
  let v606 : BitVec 32 := Scalar.addi v605 c4_i32_515
  let c4_i32_516 : BitVec 32 := 4#32
  let v607 : BitVec 32 := Scalar.remsi v606 c4_i32_516
  let v608 : BitVec 32 := Scalar.addi v2 v604
  let c4_i32_517 : BitVec 32 := 4#32
  let v609 : BitVec 32 := Scalar.remsi v608 c4_i32_517
  let v610 : BitVec 32 := Scalar.select false_518 v607 v609
  let c6_i32_527 : BitVec 32 := 6#32
  let c0_i32_530 : BitVec 32 := 0#32
  let c0_i32_531 : BitVec 32 := 0#32
  ![v610.toNat, 6, 0, 0]
def k0_cond12 (k0_t1 : Fin k0_t1_loop.trips) : BitVec 1 :=
  let c0_i32_201 : BitVec 32 := 0#32
  let c1_i32_203 : BitVec 32 := 1#32
  let arg11 : BitVec 32 := Scf.iv c0_i32_201 c1_i32_203 k0_t1
  let c3_i32_534 : BitVec 32 := 3#32
  let v623 : BitVec 1 := Scalar.cmpi .slt arg11 c3_i32_534
  let v624 : BitVec 32 := Scalar.extui v623
  let c0_i32_535 : BitVec 32 := 0#32
  let v625 : BitVec 1 := Scalar.cmpi .ne v624 c0_i32_535
  v625

def k0_off38 (k0_t1 : Fin k0_t1_loop.trips) : Fin 3 → Nat :=
  let c0_i32_201 : BitVec 32 := 0#32
  let c1_i32_203 : BitVec 32 := 1#32
  let arg11 : BitVec 32 := Scf.iv c0_i32_201 c1_i32_203 k0_t1
  let c2_i32_546 : BitVec 32 := 2#32
  let v635 : BitVec 32 := Scalar.minsi arg11 c2_i32_546
  let false_541 : BitVec 1 := 0#1
  let c0_i32_542 : BitVec 32 := 0#32
  let c1_i32_543 : BitVec 32 := 1#32
  let v633 : BitVec 32 := Scalar.select false_541 c0_i32_542 c1_i32_543
  let c6_i32_544 : BitVec 32 := 6#32
  let c4_i32_545 : BitVec 32 := 4#32
  let v634 : BitVec 32 := Scalar.remsi c6_i32_544 c4_i32_545
  ![v635.toNat, v633.toNat, v634.toNat]
def k0_off39 (d0 : Dev nD) (k0_t1 : Fin k0_t1_loop.trips) : Fin 4 → Nat :=
  let false_539 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let v626 : BitVec 32 := Scalar.subi v2 arg11
  let c4_i32_536 : BitVec 32 := 4#32
  let v627 : BitVec 32 := Scalar.addi v626 c4_i32_536
  let c4_i32_537 : BitVec 32 := 4#32
  let v628 : BitVec 32 := Scalar.remsi v627 c4_i32_537
  let v629 : BitVec 32 := Scalar.addi v2 arg11
  let c4_i32_538 : BitVec 32 := 4#32
  let v630 : BitVec 32 := Scalar.remsi v629 c4_i32_538
  let v631 : BitVec 32 := Scalar.select false_539 v628 v630
  let c6_i32_548 : BitVec 32 := 6#32
  let c0_i32_551 : BitVec 32 := 0#32
  let c0_i32_552 : BitVec 32 := 0#32
  ![v631.toNat, 6, 0, 0]
def k0_dev16 (d0 : Dev nD) : Nat :=
  let c0_i32_550 : BitVec 32 := 0#32
  let false_540 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v632 : BitVec 32 := Scalar.select false_540 v7 v5
  let c1_i32_549 : BitVec 32 := 1#32
  let v636 : BitVec 32 := Scalar.muli v632 c1_i32_549
  let v637 : BitVec 32 := Scalar.addi c0_i32_550 v636
  v637.toNat
def k0_off40 (d0 : Dev nD) (k0_t1 : Fin k0_t1_loop.trips) : Fin 4 → Nat :=
  let false_334 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let v361 : BitVec 32 := Scalar.subi v2 arg11
  let c4_i32_331 : BitVec 32 := 4#32
  let v362 : BitVec 32 := Scalar.addi v361 c4_i32_331
  let c4_i32_332 : BitVec 32 := 4#32
  let v363 : BitVec 32 := Scalar.remsi v362 c4_i32_332
  let v364 : BitVec 32 := Scalar.addi v2 arg11
  let c4_i32_333 : BitVec 32 := 4#32
  let v365 : BitVec 32 := Scalar.remsi v364 c4_i32_333
  let v366 : BitVec 32 := Scalar.select false_334 v363 v365
  let c6_i32_335 : BitVec 32 := 6#32
  let c0_i32_342 : BitVec 32 := 0#32
  let c0_i32_343 : BitVec 32 := 0#32
  ![v366.toNat, 6, 0, 0]
def k0_cond13 (k0_t1 : Fin k0_t1_loop.trips) : BitVec 1 :=
  let c0_i32_201 : BitVec 32 := 0#32
  let c1_i32_203 : BitVec 32 := 1#32
  let arg11 : BitVec 32 := Scf.iv c0_i32_201 c1_i32_203 k0_t1
  let c1_i32_390 : BitVec 32 := 1#32
  let v440 : BitVec 1 := Scalar.cmpi .sge arg11 c1_i32_390
  let v441 : BitVec 32 := Scalar.extui v440
  let c0_i32_391 : BitVec 32 := 0#32
  let v442 : BitVec 1 := Scalar.cmpi .ne v441 c0_i32_391
  v442

def k0_off41 (k0_t1 : Fin k0_t1_loop.trips) : Fin 3 → Nat :=
  let c0_i32_201 : BitVec 32 := 0#32
  let c1_i32_203 : BitVec 32 := 1#32
  let arg11 : BitVec 32 := Scf.iv c0_i32_201 c1_i32_203 k0_t1
  let c1_i32_514 : BitVec 32 := 1#32
  let v604 : BitVec 32 := Scalar.subi arg11 c1_i32_514
  let c2_i32_525 : BitVec 32 := 2#32
  let v614 : BitVec 32 := Scalar.minsi v604 c2_i32_525
  let true_520 : BitVec 1 := 1#1
  let c0_i32_521 : BitVec 32 := 0#32
  let c1_i32_522 : BitVec 32 := 1#32
  let v612 : BitVec 32 := Scalar.select true_520 c0_i32_521 c1_i32_522
  let c3_i32_523 : BitVec 32 := 3#32
  let c4_i32_524 : BitVec 32 := 4#32
  let v613 : BitVec 32 := Scalar.remsi c3_i32_523 c4_i32_524
  ![v614.toNat, v612.toNat, v613.toNat]
def k0_off42 (d0 : Dev nD) (k0_t1 : Fin k0_t1_loop.trips) : Fin 4 → Nat :=
  let true_518 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let c1_i32_514 : BitVec 32 := 1#32
  let v604 : BitVec 32 := Scalar.subi arg11 c1_i32_514
  let v605 : BitVec 32 := Scalar.subi v2 v604
  let c4_i32_515 : BitVec 32 := 4#32
  let v606 : BitVec 32 := Scalar.addi v605 c4_i32_515
  let c4_i32_516 : BitVec 32 := 4#32
  let v607 : BitVec 32 := Scalar.remsi v606 c4_i32_516
  let v608 : BitVec 32 := Scalar.addi v2 v604
  let c4_i32_517 : BitVec 32 := 4#32
  let v609 : BitVec 32 := Scalar.remsi v608 c4_i32_517
  let v610 : BitVec 32 := Scalar.select true_518 v607 v609
  let c3_i32_527 : BitVec 32 := 3#32
  let c0_i32_530 : BitVec 32 := 0#32
  let c0_i32_531 : BitVec 32 := 0#32
  ![v610.toNat, 3, 0, 0]
def k0_cond14 (k0_t1 : Fin k0_t1_loop.trips) : BitVec 1 :=
  let c0_i32_201 : BitVec 32 := 0#32
  let c1_i32_203 : BitVec 32 := 1#32
  let arg11 : BitVec 32 := Scf.iv c0_i32_201 c1_i32_203 k0_t1
  let c3_i32_534 : BitVec 32 := 3#32
  let v623 : BitVec 1 := Scalar.cmpi .slt arg11 c3_i32_534
  let v624 : BitVec 32 := Scalar.extui v623
  let c0_i32_535 : BitVec 32 := 0#32
  let v625 : BitVec 1 := Scalar.cmpi .ne v624 c0_i32_535
  v625

def k0_off43 (k0_t1 : Fin k0_t1_loop.trips) : Fin 3 → Nat :=
  let c0_i32_201 : BitVec 32 := 0#32
  let c1_i32_203 : BitVec 32 := 1#32
  let arg11 : BitVec 32 := Scf.iv c0_i32_201 c1_i32_203 k0_t1
  let c2_i32_546 : BitVec 32 := 2#32
  let v635 : BitVec 32 := Scalar.minsi arg11 c2_i32_546
  let true_541 : BitVec 1 := 1#1
  let c0_i32_542 : BitVec 32 := 0#32
  let c1_i32_543 : BitVec 32 := 1#32
  let v633 : BitVec 32 := Scalar.select true_541 c0_i32_542 c1_i32_543
  let c3_i32_544 : BitVec 32 := 3#32
  let c4_i32_545 : BitVec 32 := 4#32
  let v634 : BitVec 32 := Scalar.remsi c3_i32_544 c4_i32_545
  ![v635.toNat, v633.toNat, v634.toNat]
def k0_off44 (d0 : Dev nD) (k0_t1 : Fin k0_t1_loop.trips) : Fin 4 → Nat :=
  let true_539 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let v626 : BitVec 32 := Scalar.subi v2 arg11
  let c4_i32_536 : BitVec 32 := 4#32
  let v627 : BitVec 32 := Scalar.addi v626 c4_i32_536
  let c4_i32_537 : BitVec 32 := 4#32
  let v628 : BitVec 32 := Scalar.remsi v627 c4_i32_537
  let v629 : BitVec 32 := Scalar.addi v2 arg11
  let c4_i32_538 : BitVec 32 := 4#32
  let v630 : BitVec 32 := Scalar.remsi v629 c4_i32_538
  let v631 : BitVec 32 := Scalar.select true_539 v628 v630
  let c3_i32_548 : BitVec 32 := 3#32
  let c0_i32_551 : BitVec 32 := 0#32
  let c0_i32_552 : BitVec 32 := 0#32
  ![v631.toNat, 3, 0, 0]
def k0_dev17 (d0 : Dev nD) : Nat :=
  let c0_i32_550 : BitVec 32 := 0#32
  let true_540 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v632 : BitVec 32 := Scalar.select true_540 v7 v5
  let c1_i32_549 : BitVec 32 := 1#32
  let v636 : BitVec 32 := Scalar.muli v632 c1_i32_549
  let v637 : BitVec 32 := Scalar.addi c0_i32_550 v636
  v637.toNat
def k0_off45 (d0 : Dev nD) (k0_t1 : Fin k0_t1_loop.trips) : Fin 4 → Nat :=
  let true_395 : BitVec 1 := 1#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let v443 : BitVec 32 := Scalar.subi v2 arg11
  let c4_i32_392 : BitVec 32 := 4#32
  let v444 : BitVec 32 := Scalar.addi v443 c4_i32_392
  let c4_i32_393 : BitVec 32 := 4#32
  let v445 : BitVec 32 := Scalar.remsi v444 c4_i32_393
  let v446 : BitVec 32 := Scalar.addi v2 arg11
  let c4_i32_394 : BitVec 32 := 4#32
  let v447 : BitVec 32 := Scalar.remsi v446 c4_i32_394
  let v448 : BitVec 32 := Scalar.select true_395 v445 v447
  let c3_i32_396 : BitVec 32 := 3#32
  let c0_i32_403 : BitVec 32 := 0#32
  let c0_i32_404 : BitVec 32 := 0#32
  ![v448.toNat, 3, 0, 0]
def k0_cond15 (k0_t1 : Fin k0_t1_loop.trips) : BitVec 1 :=
  let c0_i32_201 : BitVec 32 := 0#32
  let c1_i32_203 : BitVec 32 := 1#32
  let arg11 : BitVec 32 := Scf.iv c0_i32_201 c1_i32_203 k0_t1
  let c1_i32_405 : BitVec 32 := 1#32
  let v455 : BitVec 1 := Scalar.cmpi .sge arg11 c1_i32_405
  let v456 : BitVec 32 := Scalar.extui v455
  let c0_i32_406 : BitVec 32 := 0#32
  let v457 : BitVec 1 := Scalar.cmpi .ne v456 c0_i32_406
  v457

def k0_off46 (k0_t1 : Fin k0_t1_loop.trips) : Fin 3 → Nat :=
  let c0_i32_201 : BitVec 32 := 0#32
  let c1_i32_203 : BitVec 32 := 1#32
  let arg11 : BitVec 32 := Scf.iv c0_i32_201 c1_i32_203 k0_t1
  let c1_i32_514 : BitVec 32 := 1#32
  let v604 : BitVec 32 := Scalar.subi arg11 c1_i32_514
  let c2_i32_525 : BitVec 32 := 2#32
  let v614 : BitVec 32 := Scalar.minsi v604 c2_i32_525
  let false_520 : BitVec 1 := 0#1
  let c0_i32_521 : BitVec 32 := 0#32
  let c1_i32_522 : BitVec 32 := 1#32
  let v612 : BitVec 32 := Scalar.select false_520 c0_i32_521 c1_i32_522
  let c7_i32_523 : BitVec 32 := 7#32
  let c4_i32_524 : BitVec 32 := 4#32
  let v613 : BitVec 32 := Scalar.remsi c7_i32_523 c4_i32_524
  ![v614.toNat, v612.toNat, v613.toNat]
def k0_off47 (d0 : Dev nD) (k0_t1 : Fin k0_t1_loop.trips) : Fin 4 → Nat :=
  let false_518 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let c1_i32_514 : BitVec 32 := 1#32
  let v604 : BitVec 32 := Scalar.subi arg11 c1_i32_514
  let v605 : BitVec 32 := Scalar.subi v2 v604
  let c4_i32_515 : BitVec 32 := 4#32
  let v606 : BitVec 32 := Scalar.addi v605 c4_i32_515
  let c4_i32_516 : BitVec 32 := 4#32
  let v607 : BitVec 32 := Scalar.remsi v606 c4_i32_516
  let v608 : BitVec 32 := Scalar.addi v2 v604
  let c4_i32_517 : BitVec 32 := 4#32
  let v609 : BitVec 32 := Scalar.remsi v608 c4_i32_517
  let v610 : BitVec 32 := Scalar.select false_518 v607 v609
  let c7_i32_527 : BitVec 32 := 7#32
  let c0_i32_530 : BitVec 32 := 0#32
  let c0_i32_531 : BitVec 32 := 0#32
  ![v610.toNat, 7, 0, 0]
def k0_cond16 (k0_t1 : Fin k0_t1_loop.trips) : BitVec 1 :=
  let c0_i32_201 : BitVec 32 := 0#32
  let c1_i32_203 : BitVec 32 := 1#32
  let arg11 : BitVec 32 := Scf.iv c0_i32_201 c1_i32_203 k0_t1
  let c3_i32_534 : BitVec 32 := 3#32
  let v623 : BitVec 1 := Scalar.cmpi .slt arg11 c3_i32_534
  let v624 : BitVec 32 := Scalar.extui v623
  let c0_i32_535 : BitVec 32 := 0#32
  let v625 : BitVec 1 := Scalar.cmpi .ne v624 c0_i32_535
  v625

def k0_off48 (k0_t1 : Fin k0_t1_loop.trips) : Fin 3 → Nat :=
  let c0_i32_201 : BitVec 32 := 0#32
  let c1_i32_203 : BitVec 32 := 1#32
  let arg11 : BitVec 32 := Scf.iv c0_i32_201 c1_i32_203 k0_t1
  let c2_i32_546 : BitVec 32 := 2#32
  let v635 : BitVec 32 := Scalar.minsi arg11 c2_i32_546
  let false_541 : BitVec 1 := 0#1
  let c0_i32_542 : BitVec 32 := 0#32
  let c1_i32_543 : BitVec 32 := 1#32
  let v633 : BitVec 32 := Scalar.select false_541 c0_i32_542 c1_i32_543
  let c7_i32_544 : BitVec 32 := 7#32
  let c4_i32_545 : BitVec 32 := 4#32
  let v634 : BitVec 32 := Scalar.remsi c7_i32_544 c4_i32_545
  ![v635.toNat, v633.toNat, v634.toNat]
def k0_off49 (d0 : Dev nD) (k0_t1 : Fin k0_t1_loop.trips) : Fin 4 → Nat :=
  let false_539 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let v626 : BitVec 32 := Scalar.subi v2 arg11
  let c4_i32_536 : BitVec 32 := 4#32
  let v627 : BitVec 32 := Scalar.addi v626 c4_i32_536
  let c4_i32_537 : BitVec 32 := 4#32
  let v628 : BitVec 32 := Scalar.remsi v627 c4_i32_537
  let v629 : BitVec 32 := Scalar.addi v2 arg11
  let c4_i32_538 : BitVec 32 := 4#32
  let v630 : BitVec 32 := Scalar.remsi v629 c4_i32_538
  let v631 : BitVec 32 := Scalar.select false_539 v628 v630
  let c7_i32_548 : BitVec 32 := 7#32
  let c0_i32_551 : BitVec 32 := 0#32
  let c0_i32_552 : BitVec 32 := 0#32
  ![v631.toNat, 7, 0, 0]
def k0_dev18 (d0 : Dev nD) : Nat :=
  let c0_i32_550 : BitVec 32 := 0#32
  let false_540 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v632 : BitVec 32 := Scalar.select false_540 v7 v5
  let c1_i32_549 : BitVec 32 := 1#32
  let v636 : BitVec 32 := Scalar.muli v632 c1_i32_549
  let v637 : BitVec 32 := Scalar.addi c0_i32_550 v636
  v637.toNat
def k0_off50 (d0 : Dev nD) (k0_t1 : Fin k0_t1_loop.trips) : Fin 4 → Nat :=
  let false_410 : BitVec 1 := 0#1
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_201 : BitVec 32 := 0#32
  let c1_i32_203 : BitVec 32 := 1#32
  let arg11 : BitVec 32 := Scf.iv c0_i32_201 c1_i32_203 k0_t1
  let v458 : BitVec 32 := Scalar.subi v2 arg11
  let c4_i32_407 : BitVec 32 := 4#32
  let v459 : BitVec 32 := Scalar.addi v458 c4_i32_407
  let c4_i32_408 : BitVec 32 := 4#32
  let v460 : BitVec 32 := Scalar.remsi v459 c4_i32_408
  let v461 : BitVec 32 := Scalar.addi v2 arg11
  let c4_i32_409 : BitVec 32 := 4#32
  let v462 : BitVec 32 := Scalar.remsi v461 c4_i32_409
  let v463 : BitVec 32 := Scalar.select false_410 v460 v462
  let c7_i32_411 : BitVec 32 := 7#32
  let c0_i32_418 : BitVec 32 := 0#32
  let c0_i32_419 : BitVec 32 := 0#32
  ![v463.toNat, 7, 0, 0]
@[reducible] def k0_t2_loop : Scf.Loop 32 :=
  let c0_i32_205 : BitVec 32 := 0#32
  let c24_i32 : BitVec 32 := 24#32
  let v215 : BitVec 32 := Scalar.addi c0_i32_205 c24_i32
  let c1_i32_206 : BitVec 32 := 1#32
  ⟨c0_i32_205, v215, c1_i32_206⟩
def k0_off51 (k0_t2 : Fin k0_t2_loop.trips) : Fin 3 → Nat :=
  let c0_i32_205 : BitVec 32 := 0#32
  let c1_i32_206 : BitVec 32 := 1#32
  let arg11 : BitVec 32 := Scf.iv c0_i32_205 c1_i32_206 k0_t2
  let c0_i32_208 : BitVec 32 := 0#32
  let v217 : BitVec 1 := Scalar.cmpi .sgt arg11 c0_i32_208
  let v218 : BitVec 32 := Scalar.extui v217
  let c0_i32_209 : BitVec 32 := 0#32
  let v219 : BitVec 1 := Scalar.cmpi .slt arg11 c0_i32_209
  let v220 : BitVec 32 := Scalar.extui v219
  let v221 : BitVec 32 := Scalar.subi v218 v220
  let c8_i32 : BitVec 32 := 8#32
  let c0_i32_210 : BitVec 32 := 0#32
  let v222 : BitVec 1 := Scalar.cmpi .sgt c8_i32 c0_i32_210
  let v223 : BitVec 32 := Scalar.extui v222
  let c0_i32_211 : BitVec 32 := 0#32
  let v224 : BitVec 1 := Scalar.cmpi .slt c8_i32 c0_i32_211
  let v225 : BitVec 32 := Scalar.extui v224
  let v226 : BitVec 32 := Scalar.subi v223 v225
  let v227 : BitVec 1 := Scalar.cmpi .ne v221 v226
  let v228 : BitVec 32 := Scalar.remsi arg11 c8_i32
  let c0_i32_212 : BitVec 32 := 0#32
  let v229 : BitVec 1 := Scalar.cmpi .ne v228 c0_i32_212
  let v230 : BitVec 1 := Scalar.andi v227 v229
  let v216 : BitVec 32 := Scalar.divsi arg11 c8_i32
  let c1_i32_213 : BitVec 32 := 1#32
  let v231 : BitVec 32 := Scalar.subi v216 c1_i32_213
  let v232 : BitVec 32 := Scalar.select v230 v231 v216
  let c2_i32_224 : BitVec 32 := 2#32
  let v246 : BitVec 32 := Scalar.minsi v232 c2_i32_224
  let c8_i32_214 : BitVec 32 := 8#32
  let v233 : BitVec 32 := Scalar.remsi arg11 c8_i32_214
  let c4_i32_220 : BitVec 32 := 4#32
  let v243 : BitVec 1 := Scalar.cmpi .slt v233 c4_i32_220
  let c0_i32_221 : BitVec 32 := 0#32
  let c1_i32_222 : BitVec 32 := 1#32
  let v244 : BitVec 32 := Scalar.select v243 c0_i32_221 c1_i32_222
  let c4_i32_223 : BitVec 32 := 4#32
  let v245 : BitVec 32 := Scalar.remsi v233 c4_i32_223
  ![v246.toNat, v244.toNat, v245.toNat]
def k0_off52 (d0 : Dev nD) (k0_t2 : Fin k0_t2_loop.trips) : Fin 4 → Nat :=
  let c0_i32_205 : BitVec 32 := 0#32
  let c1_i32_206 : BitVec 32 := 1#32
  let arg11 : BitVec 32 := Scf.iv c0_i32_205 c1_i32_206 k0_t2
  let c8_i32_214 : BitVec 32 := 8#32
  let v233 : BitVec 32 := Scalar.remsi arg11 c8_i32_214
  let c4_i32_215 : BitVec 32 := 4#32
  let v234 : BitVec 1 := Scalar.cmpi .slt v233 c4_i32_215
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_208 : BitVec 32 := 0#32
  let v217 : BitVec 1 := Scalar.cmpi .sgt arg11 c0_i32_208
  let v218 : BitVec 32 := Scalar.extui v217
  let c0_i32_209 : BitVec 32 := 0#32
  let v219 : BitVec 1 := Scalar.cmpi .slt arg11 c0_i32_209
  let v220 : BitVec 32 := Scalar.extui v219
  let v221 : BitVec 32 := Scalar.subi v218 v220
  let c8_i32 : BitVec 32 := 8#32
  let c0_i32_210 : BitVec 32 := 0#32
  let v222 : BitVec 1 := Scalar.cmpi .sgt c8_i32 c0_i32_210
  let v223 : BitVec 32 := Scalar.extui v222
  let c0_i32_211 : BitVec 32 := 0#32
  let v224 : BitVec 1 := Scalar.cmpi .slt c8_i32 c0_i32_211
  let v225 : BitVec 32 := Scalar.extui v224
  let v226 : BitVec 32 := Scalar.subi v223 v225
  let v227 : BitVec 1 := Scalar.cmpi .ne v221 v226
  let v228 : BitVec 32 := Scalar.remsi arg11 c8_i32
  let c0_i32_212 : BitVec 32 := 0#32
  let v229 : BitVec 1 := Scalar.cmpi .ne v228 c0_i32_212
  let v230 : BitVec 1 := Scalar.andi v227 v229
  let v216 : BitVec 32 := Scalar.divsi arg11 c8_i32
  let c1_i32_213 : BitVec 32 := 1#32
  let v231 : BitVec 32 := Scalar.subi v216 c1_i32_213
  let v232 : BitVec 32 := Scalar.select v230 v231 v216
  let v235 : BitVec 32 := Scalar.subi v2 v232
  let c4_i32_216 : BitVec 32 := 4#32
  let v236 : BitVec 32 := Scalar.addi v235 c4_i32_216
  let c4_i32_217 : BitVec 32 := 4#32
  let v237 : BitVec 32 := Scalar.remsi v236 c4_i32_217
  let v238 : BitVec 32 := Scalar.addi v2 v232
  let c4_i32_218 : BitVec 32 := 4#32
  let v239 : BitVec 32 := Scalar.remsi v238 c4_i32_218
  let v240 : BitVec 32 := Scalar.select v234 v237 v239
  let c0_i32_226 : BitVec 32 := 0#32
  let c0_i32_227 : BitVec 32 := 0#32
  ![v240.toNat, v233.toNat, 0, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x512 : Shape := ⟨2, ![8192, 512]⟩
abbrev S512x32 : Shape := ⟨2, ![512, 32]⟩
abbrev S8192x2 : Shape := ⟨2, ![8192, 2]⟩
abbrev S32x512x1024 : Shape := ⟨3, ![32, 512, 1024]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S8192x1x1 : Shape := ⟨3, ![8192, 1, 1]⟩
abbrev S8192x512x1024 : Shape := ⟨3, ![8192, 512, 1024]⟩
abbrev S8192x1024 : Shape := ⟨2, ![8192, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x32, .f32⟩
  | .hbm, ⟨2, _⟩ => ⟨S8192x2, .i32⟩
  | .hbm, ⟨3, _⟩ => ⟨S32x512x1024, .f32⟩
  | .hbm, ⟨4, _⟩ => ⟨S8192x32, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x32, .f32⟩
  | .hbm, ⟨9, _⟩ => ⟨S8192x32, .f32⟩
  | .hbm, ⟨10, _⟩ => ⟨S8192x32, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x32, .f32⟩
  | .hbm, ⟨15, _⟩ => ⟨S8192x32, .f32⟩
  | .hbm, ⟨16, _⟩ => ⟨S8192x1, .i32⟩
  | .hbm, ⟨17, _⟩ => ⟨S8192, .i32⟩
  | .hbm, ⟨18, _⟩ => ⟨S8192x1, .i32⟩
  | .hbm, ⟨19, _⟩ => ⟨S8192, .i32⟩
  | .hbm, ⟨20, _⟩ => ⟨S8192x1, .i32⟩
  | .hbm, ⟨21, _⟩ => ⟨S_, .i32⟩
  | .hbm, ⟨22, _⟩ => ⟨S8192x1, .i32⟩
  | .hbm, ⟨23, _⟩ => ⟨S8192x1, .i1⟩
  | .hbm, ⟨24, _⟩ => ⟨S_, .i32⟩
  | .hbm, ⟨25, _⟩ => ⟨S8192x1, .i32⟩
  | .hbm, ⟨26, _⟩ => ⟨S8192x1, .i32⟩
  | .hbm, ⟨27, _⟩ => ⟨S8192x1, .i32⟩
  | .hbm, ⟨28, _⟩ => ⟨S8192x1x1, .i32⟩
  | .hbm, ⟨29, _⟩ => ⟨S8192x1, .f32⟩
  | .hbm, ⟨30, _⟩ => ⟨S8192x1, .i32⟩
  | .hbm, ⟨31, _⟩ => ⟨S_, .i32⟩
  | .hbm, ⟨32, _⟩ => ⟨S8192x1, .i32⟩
  | .hbm, ⟨33, _⟩ => ⟨S8192x1, .i1⟩
  | .hbm, ⟨34, _⟩ => ⟨S_, .i32⟩
  | .hbm, ⟨35, _⟩ => ⟨S8192x1, .i32⟩
  | .hbm, ⟨36, _⟩ => ⟨S8192x1, .i32⟩
  | .hbm, ⟨37, _⟩ => ⟨S8192x1, .i32⟩
  | .hbm, ⟨38, _⟩ => ⟨S8192x1x1, .i32⟩
  | .hbm, ⟨39, _⟩ => ⟨S8192x1, .f32⟩
  | .hbm, ⟨40, _⟩ => ⟨S8192x1, .f32⟩
  | .hbm, ⟨41, _⟩ => ⟨S_, .i32⟩
  | .hbm, ⟨42, _⟩ => ⟨S8192, .i32⟩
  | .hbm, ⟨43, _⟩ => ⟨S8192, .i1⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .i32⟩
  | .hbm, ⟨48, _⟩ => ⟨S8192x1, .i32⟩
  | .hbm, ⟨49, _⟩ => ⟨S8192x512x1024, .f32⟩
  | .hbm, ⟨50, _⟩ => ⟨S8192x1024, .f32⟩
  | .hbm, ⟨51, _⟩ => ⟨S_, .i32⟩
  | .hbm, ⟨52, _⟩ => ⟨S8192, .i32⟩
  | .hbm, ⟨53, _⟩ => ⟨S8192, .i1⟩
  | .hbm, ⟨54, _⟩ => ⟨S_, .i32⟩
  | .hbm, ⟨55, _⟩ => ⟨S8192, .i32⟩
  | .hbm, ⟨56, _⟩ => ⟨S8192, .i32⟩
  | .hbm, ⟨57, _⟩ => ⟨S8192, .i32⟩
  | .hbm, ⟨58, _⟩ => ⟨S8192x1, .i32⟩
  | .hbm, ⟨59, _⟩ => ⟨S8192x512x1024, .f32⟩
  | .hbm, ⟨60, _⟩ => ⟨S8192x1024, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_v17 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_2 : Ref sig .tc := ⟨.hbm, 51, rfl⟩
abbrev main_v27 : Ref sig .tc := ⟨.hbm, 52, rfl⟩
abbrev main_v28 : Ref sig .tc := ⟨.hbm, 53, rfl⟩
abbrev main_c_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩

abbrev nD : Nat := 1
abbrev τ : Topo := Topo.v7x

variable {F : FTy → Type} [FloatOps F]
-- ==== Proof.Turn.lean ====
module
public import proofs.«01_k».proof.Proof.Gen.KernelIdeal.Skeleton
public import proofs.«01_k».proof.Proof.Gen.KernelIdeal.Points
public import proofs.«01_k».proof.Proof.Gen.KernelIdeal.Loops
@[expose] public section

/-! The ring of four devices: who sends which expert's weights to whom, and the closed forms of the offsets, devices and
    conditions the program computes from a device's number and a trip's number. -/

namespace Cert.Proof.KernelIdeal
open Cert.KernelIdeal Cert.KernelIdeal.Gen
open Idealize.ShloMosaic Idealize.ShloMosaic.TcCoe

/-- The device after `c` on the ring. -/
def rt (c : Dev nD) : Dev nD := ⟨(c.val + 1) % 4, Nat.mod_lt _ (by decide)⟩
/-- The device before `c` on the ring. -/
def lt (c : Dev nD) : Dev nD := ⟨(c.val + 3) % 4, Nat.mod_lt _ (by decide)⟩
/-- The device to which `c` sends expert `j` of every owner. -/
def nb (c : Dev nD) (j : Fin 8) : Dev nD := if j.val < 4 then rt c else lt c
/-- The device from which `c` receives expert `j`. -/
def pv (c : Dev nD) (j : Fin 8) : Dev nD := if j.val < 4 then lt c else rt c
/-- The owner whose expert `j` device `c` works on at step `s`. -/
def org (c : Dev nD) (s : ℕ) (j : Fin 8) : Fin 4 := ⟨(c.val + (if j.val < 4 then 3 * s else s)) % 4, Nat.mod_lt _ (by decide)⟩
/-- Expert `j`'s transfer at hop `h`, as one of the 24 transfers a device issues. -/
def tr (h : Fin 3) (j : Fin 8) : Fin 24 := ⟨8 * h.val + j.val, by omega⟩
/-- The hop of a transfer. -/
def hop (k : Fin 24) : ℕ := k.val / 8
/-- The expert of a transfer. -/
def ex (k : Fin 24) : Fin 8 := ⟨k.val % 8, Nat.mod_lt _ (by decide)⟩
/-- A transfer's place in the semaphore arrays. -/
def koff (k : Fin 24) : Fin 3 → ℕ := ![k.val / 8, k.val / 4 % 2, k.val % 4]

theorem rt_lt (c : Dev nD) : rt (lt c) = c := by revert c; decide
theorem lt_rt (c : Dev nD) : lt (rt c) = c := by revert c; decide
theorem nb_pv (c : Dev nD) (j : Fin 8) : nb (pv c j) j = c := by revert c j; decide
theorem pv_nb (c : Dev nD) (j : Fin 8) : pv (nb c j) j = c := by revert c j; decide
theorem ex_tr (h : Fin 3) (j : Fin 8) : ex (tr h j) = j := by revert h j; decide
theorem hop_tr (h : Fin 3) (j : Fin 8) : hop (tr h j) = h.val := by revert h j; decide
theorem org_zero (c : Dev nD) (j : Fin 8) : org c 0 j = c := by revert c j; decide
/-- What a neighbour receives at a hop is what it works on at the step after. -/
theorem org_nb (c : Dev nD) (h : Fin 3) (j : Fin 8) : org (nb c j) (h.val + 1) j = org c h.val j := by revert c h j; decide
theorem org_ne_self (c : Dev nD) (k : Fin 24) : org c (hop k + 1) (ex k) ≠ c := by revert c k; decide

theorem trips1 : k0_t1_loop.trips = 4 := by decide
theorem trips2 : k0_t2_loop.trips = 24 := by decide

theorem dev_lt (d : Dev nD) : (⟨k0_dev1 d, k0_dev1_lt d⟩ : Dev nD) = lt d := by revert d; decide
theorem dev_rt (d : Dev nD) : (⟨k0_dev2 d, k0_dev2_lt d⟩ : Dev nD) = rt d := by revert d; decide
theorem off10 (d : Dev nD) : k0_off10 d = ![d.val, 0, 0, 0] := by revert d; decide
theorem off51 (t : Fin k0_t2_loop.trips) : k0_off51 t = koff ⟨t.val, trips2 ▸ t.isLt⟩ := by revert t; decide

theorem send0_koff : k0_off1 1#1 0#32 = koff (tr 0 0) := by decide
theorem send0_off (d : Dev nD) : k0_off2 d = ![(org d 0 0).val, 0, 0, 0] := by revert d; decide
theorem send0_dev (d : Dev nD) : k0_dev3 d = (nb d 0).val := by revert d; decide
theorem send1_koff : k0_off1 1#1 1#32 = koff (tr 0 1) := by decide
theorem send1_off (d : Dev nD) : k0_off3 d = ![(org d 0 1).val, 1, 0, 0] := by revert d; decide
theorem send1_dev (d : Dev nD) : k0_dev4 d = (nb d 1).val := by revert d; decide
theorem send2_koff : k0_off1 1#1 2#32 = koff (tr 0 2) := by decide
theorem send2_off (d : Dev nD) : k0_off4 d = ![(org d 0 2).val, 2, 0, 0] := by revert d; decide
theorem send2_dev (d : Dev nD) : k0_dev5 d = (nb d 2).val := by revert d; decide
theorem send3_koff : k0_off1 1#1 3#32 = koff (tr 0 3) := by decide
theorem send3_off (d : Dev nD) : k0_off5 d = ![(org d 0 3).val, 3, 0, 0] := by revert d; decide
theorem send3_dev (d : Dev nD) : k0_dev6 d = (nb d 3).val := by revert d; decide
theorem send4_koff : k0_off1 0#1 4#32 = koff (tr 0 4) := by decide
theorem send4_off (d : Dev nD) : k0_off6 d = ![(org d 0 4).val, 4, 0, 0] := by revert d; decide
theorem send4_dev (d : Dev nD) : k0_dev7 d = (nb d 4).val := by revert d; decide
theorem send5_koff : k0_off1 0#1 5#32 = koff (tr 0 5) := by decide
theorem send5_off (d : Dev nD) : k0_off7 d = ![(org d 0 5).val, 5, 0, 0] := by revert d; decide
theorem send5_dev (d : Dev nD) : k0_dev8 d = (nb d 5).val := by revert d; decide
theorem send6_koff : k0_off1 0#1 6#32 = koff (tr 0 6) := by decide
theorem send6_off (d : Dev nD) : k0_off8 d = ![(org d 0 6).val, 6, 0, 0] := by revert d; decide
theorem send6_dev (d : Dev nD) : k0_dev9 d = (nb d 6).val := by revert d; decide
theorem send7_koff : k0_off1 0#1 7#32 = koff (tr 0 7) := by decide
theorem send7_off (d : Dev nD) : k0_off9 d = ![(org d 0 7).val, 7, 0, 0] := by revert d; decide
theorem send7_dev (d : Dev nD) : k0_dev10 d = (nb d 7).val := by revert d; decide
theorem sync0_c1 (t : Fin k0_t1_loop.trips) : k0_cond1 t = 1#1 ↔ 1 ≤ t.val := by revert t; decide
theorem sync0_c2 (t : Fin k0_t1_loop.trips) : k0_cond2 t = 1#1 ↔ t.val < 3 := by revert t; decide
theorem sync0_wait (t : Fin k0_t1_loop.trips) : ∀ h : Fin 3, t.val = h.val + 1 → k0_off11 t = koff (tr h 0) := by revert t; decide
theorem sync0_send (t : Fin k0_t1_loop.trips) : ∀ h : Fin 3, t.val = h.val → k0_off13 t = koff (tr h 0) := by revert t; decide
theorem sync0_off (d : Dev nD) (t : Fin k0_t1_loop.trips) : k0_off14 d t = ![(org d t.val 0).val, 0, 0, 0] := by revert d t; decide
theorem sync0_dev (d : Dev nD) : k0_dev11 d = (nb d 0).val := by revert d; decide
theorem sync0_src (d : Dev nD) (t : Fin k0_t1_loop.trips) : k0_off15 d t = ![(org d t.val 0).val, 0, 0, 0] := by revert d t; decide
theorem sync1_c1 (t : Fin k0_t1_loop.trips) : k0_cond3 t = 1#1 ↔ 1 ≤ t.val := by revert t; decide
theorem sync1_c2 (t : Fin k0_t1_loop.trips) : k0_cond4 t = 1#1 ↔ t.val < 3 := by revert t; decide
theorem sync1_wait (t : Fin k0_t1_loop.trips) : ∀ h : Fin 3, t.val = h.val + 1 → k0_off16 t = koff (tr h 4) := by revert t; decide
theorem sync1_send (t : Fin k0_t1_loop.trips) : ∀ h : Fin 3, t.val = h.val → k0_off18 t = koff (tr h 4) := by revert t; decide
theorem sync1_off (d : Dev nD) (t : Fin k0_t1_loop.trips) : k0_off19 d t = ![(org d t.val 4).val, 4, 0, 0] := by revert d t; decide
theorem sync1_dev (d : Dev nD) : k0_dev12 d = (nb d 4).val := by revert d; decide
theorem sync1_src (d : Dev nD) (t : Fin k0_t1_loop.trips) : k0_off20 d t = ![(org d t.val 4).val, 4, 0, 0] := by revert d t; decide
theorem sync2_c1 (t : Fin k0_t1_loop.trips) : k0_cond5 t = 1#1 ↔ 1 ≤ t.val := by revert t; decide
theorem sync2_c2 (t : Fin k0_t1_loop.trips) : k0_cond6 t = 1#1 ↔ t.val < 3 := by revert t; decide
theorem sync2_wait (t : Fin k0_t1_loop.trips) : ∀ h : Fin 3, t.val = h.val + 1 → k0_off21 t = koff (tr h 1) := by revert t; decide
theorem sync2_send (t : Fin k0_t1_loop.trips) : ∀ h : Fin 3, t.val = h.val → k0_off23 t = koff (tr h 1) := by revert t; decide
theorem sync2_off (d : Dev nD) (t : Fin k0_t1_loop.trips) : k0_off24 d t = ![(org d t.val 1).val, 1, 0, 0] := by revert d t; decide
theorem sync2_dev (d : Dev nD) : k0_dev13 d = (nb d 1).val := by revert d; decide
theorem sync2_src (d : Dev nD) (t : Fin k0_t1_loop.trips) : k0_off25 d t = ![(org d t.val 1).val, 1, 0, 0] := by revert d t; decide
theorem sync3_c1 (t : Fin k0_t1_loop.trips) : k0_cond7 t = 1#1 ↔ 1 ≤ t.val := by revert t; decide
theorem sync3_c2 (t : Fin k0_t1_loop.trips) : k0_cond8 t = 1#1 ↔ t.val < 3 := by revert t; decide
theorem sync3_wait (t : Fin k0_t1_loop.trips) : ∀ h : Fin 3, t.val = h.val + 1 → k0_off26 t = koff (tr h 5) := by revert t; decide
theorem sync3_send (t : Fin k0_t1_loop.trips) : ∀ h : Fin 3, t.val = h.val → k0_off28 t = koff (tr h 5) := by revert t; decide
theorem sync3_off (d : Dev nD) (t : Fin k0_t1_loop.trips) : k0_off29 d t = ![(org d t.val 5).val, 5, 0, 0] := by revert d t; decide
theorem sync3_dev (d : Dev nD) : k0_dev14 d = (nb d 5).val := by revert d; decide
theorem sync3_src (d : Dev nD) (t : Fin k0_t1_loop.trips) : k0_off30 d t = ![(org d t.val 5).val, 5, 0, 0] := by revert d t; decide
theorem sync4_c1 (t : Fin k0_t1_loop.trips) : k0_cond9 t = 1#1 ↔ 1 ≤ t.val := by revert t; decide
theorem sync4_c2 (t : Fin k0_t1_loop.trips) : k0_cond10 t = 1#1 ↔ t.val < 3 := by revert t; decide
theorem sync4_wait (t : Fin k0_t1_loop.trips) : ∀ h : Fin 3, t.val = h.val + 1 → k0_off31 t = koff (tr h 2) := by revert t; decide
theorem sync4_send (t : Fin k0_t1_loop.trips) : ∀ h : Fin 3, t.val = h.val → k0_off33 t = koff (tr h 2) := by revert t; decide
theorem sync4_off (d : Dev nD) (t : Fin k0_t1_loop.trips) : k0_off34 d t = ![(org d t.val 2).val, 2, 0, 0] := by revert d t; decide
theorem sync4_dev (d : Dev nD) : k0_dev15 d = (nb d 2).val := by revert d; decide
theorem sync4_src (d : Dev nD) (t : Fin k0_t1_loop.trips) : k0_off35 d t = ![(org d t.val 2).val, 2, 0, 0] := by revert d t; decide
theorem sync5_c1 (t : Fin k0_t1_loop.trips) : k0_cond11 t = 1#1 ↔ 1 ≤ t.val := by revert t; decide
theorem sync5_c2 (t : Fin k0_t1_loop.trips) : k0_cond12 t = 1#1 ↔ t.val < 3 := by revert t; decide
theorem sync5_wait (t : Fin k0_t1_loop.trips) : ∀ h : Fin 3, t.val = h.val + 1 → k0_off36 t = koff (tr h 6) := by revert t; decide
theorem sync5_send (t : Fin k0_t1_loop.trips) : ∀ h : Fin 3, t.val = h.val → k0_off38 t = koff (tr h 6) := by revert t; decide
theorem sync5_off (d : Dev nD) (t : Fin k0_t1_loop.trips) : k0_off39 d t = ![(org d t.val 6).val, 6, 0, 0] := by revert d t; decide
theorem sync5_dev (d : Dev nD) : k0_dev16 d = (nb d 6).val := by revert d; decide
theorem sync5_src (d : Dev nD) (t : Fin k0_t1_loop.trips) : k0_off40 d t = ![(org d t.val 6).val, 6, 0, 0] := by revert d t; decide
theorem sync6_c1 (t : Fin k0_t1_loop.trips) : k0_cond13 t = 1#1 ↔ 1 ≤ t.val := by revert t; decide
theorem sync6_c2 (t : Fin k0_t1_loop.trips) : k0_cond14 t = 1#1 ↔ t.val < 3 := by revert t; decide
theorem sync6_wait (t : Fin k0_t1_loop.trips) : ∀ h : Fin 3, t.val = h.val + 1 → k0_off41 t = koff (tr h 3) := by revert t; decide
theorem sync6_send (t : Fin k0_t1_loop.trips) : ∀ h : Fin 3, t.val = h.val → k0_off43 t = koff (tr h 3) := by revert t; decide
theorem sync6_off (d : Dev nD) (t : Fin k0_t1_loop.trips) : k0_off44 d t = ![(org d t.val 3).val, 3, 0, 0] := by revert d t; decide
theorem sync6_dev (d : Dev nD) : k0_dev17 d = (nb d 3).val := by revert d; decide
theorem sync6_src (d : Dev nD) (t : Fin k0_t1_loop.trips) : k0_off45 d t = ![(org d t.val 3).val, 3, 0, 0] := by revert d t; decide
theorem sync7_c1 (t : Fin k0_t1_loop.trips) : k0_cond15 t = 1#1 ↔ 1 ≤ t.val := by revert t; decide
theorem sync7_c2 (t : Fin k0_t1_loop.trips) : k0_cond16 t = 1#1 ↔ t.val < 3 := by revert t; decide
theorem sync7_wait (t : Fin k0_t1_loop.trips) : ∀ h : Fin 3, t.val = h.val + 1 → k0_off46 t = koff (tr h 7) := by revert t; decide
theorem sync7_send (t : Fin k0_t1_loop.trips) : ∀ h : Fin 3, t.val = h.val → k0_off48 t = koff (tr h 7) := by revert t; decide
theorem sync7_off (d : Dev nD) (t : Fin k0_t1_loop.trips) : k0_off49 d t = ![(org d t.val 7).val, 7, 0, 0] := by revert d t; decide
theorem sync7_dev (d : Dev nD) : k0_dev18 d = (nb d 7).val := by revert d; decide
theorem sync7_src (d : Dev nD) (t : Fin k0_t1_loop.trips) : k0_off50 d t = ![(org d t.val 7).val, 7, 0, 0] := by revert d t; decide

end Cert.Proof.KernelIdeal
end
-- ==== Proof.Sched.lean ====
module
public import proofs.«01_k».proof.Proof.Turn
public import proofs.«01_k».proof.Proof.Gen.KernelIdeal.Frame
public import Idealize.ShloMosaic.Lib.Pipeline.Regions
public import Idealize.ShloMosaic.Lib.Pipeline.Kit
public import Idealize.ShloMosaic.Lib.Rounds
public import Idealize.ShloMosaic.Lib.Transfers
public import Idealize.ShloMosaic.Lib.StableHlo
public import Idealize.ShloMosaic.Lib.Tactic
public import Idealize.ShloMosaic.Lib.ValueLayout
public import Idealize.ShloMosaic.Lib.Pipeline.RegionTalk
@[expose] public section

/-! The protocol of the expert rotation: the buffers by slots, what every slot holds once it is filled, the semaphore cells
    with their payloads, what every device owes, and the levels. -/

noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
variable {F : FTy → Type} [FloatOps F]

/-! ## Ghost state -/

/-- The pipeline's rounds, the ring's rounds (a barrier cell has two payers a round, told apart by a truth value), and the
    counters of copies inside one device. -/
abbrev UU : Type := UR sig nD τ × (Rounds.URounds (GSem nD τ sig) Bool × Counters)

local notation "𝕄" => MT nD τ sig Unit (Elt F) ℕ UU ℕ

abbrev EP : Emb (UR sig nD τ) (MT nD τ sig Unit (Elt F) ℕ UU ℕ) := embL
/-- The ring's rounds among the certificate's ghost state. -/
def ER : Emb (Rounds.URounds (GSem nD τ sig) Bool) (MT nD τ sig Unit (Elt F) ℕ UU ℕ) :=
  ((Emb.inl : Emb (Rounds.URounds (GSem nD τ sig) Bool) (Rounds.URounds (GSem nD τ sig) Bool × Counters)).trans
    (Emb.inr : Emb _ UU)).trans (uEmb (nD := nD) (τ := τ) (sig := sig) (Ix := Unit) (Val := Elt F) (Name := ℕ) (U := UU) (Lvl := ℕ)).toEmb
instance ER_landsIn : (ER : Emb _ (MT nD τ sig Unit (Elt F) ℕ UU ℕ)).LandsIn (upEmb : UEmb _ (MT nD τ sig Unit (Elt F) ℕ UU ℕ)) := by
  unfold ER; infer_instance
abbrev EC : UEmb Counters (MT nD τ sig Unit (Elt F) ℕ UU ℕ) := countersEmb

variable (m : (ℓ : Loc nD τ sig) → Buf (Elt F) ℓ)

/-! ## Slots -/

theorem inb_slot (o : Fin 4) (j : Fin 8) : ∀ a, (![o.val, j.val, 0, 0] : Fin 4 → ℕ) a + S1x1x512x1024.size a ≤ S4x8x512x1024.size a := by
  revert o j; decide
theorem inb_own (j : Fin 8) : ∀ a, (![j.val, 0, 0] : Fin 3 → ℕ) a + S1x512x1024.size a ≤ S8x512x1024.size a := by
  revert j; decide
theorem inb_stage (l p : Fin 2) : ∀ a, (![l.val, p.val, 0, 0] : Fin 4 → ℕ) a + S1x1x512x1024.size a ≤ S2x2x512x1024.size a := by
  revert l p; decide

/-- A matrix of the gathered weights at an offset. -/
abbrev cutAll (off : Fin 4 → ℕ) (h : ∀ a, off a + S1x1x512x1024.size a ≤ S4x8x512x1024.size a) : Memref sig .tc .hbm S512x1024 .bf16 :=
  ((Memref.whole main_v2_1).slice (Rect.unit (s := S4x8x512x1024) off S1x1x512x1024.size h) (fun _ => rfl)).squeeze S512x1024 squeezes_S1x1x512x1024_S512x1024
/-- A matrix of the device's own weights at an offset. -/
abbrev cutOwn (off : Fin 3 → ℕ) (h : ∀ a, off a + S1x512x1024.size a ≤ S8x512x1024.size a) : Memref sig .tc .hbm S512x1024 .bf16 :=
  ((Memref.whole main_v1).slice (Rect.unit (s := S8x512x1024) off S1x512x1024.size h) (fun _ => rfl)).squeeze S512x1024 squeezes_S1x512x1024_S512x1024
/-- A matrix of the staged weights at an offset. -/
abbrev cutStage (off : Fin 4 → ℕ) (h : ∀ a, off a + S1x1x512x1024.size a ≤ S2x2x512x1024.size a) : Memref sig .tc .vmem S512x1024 .bf16 :=
  ((Memref.whole cc0_scratch0).slice (Rect.unit (s := S2x2x512x1024) off S1x1x512x1024.size h) (fun _ => rfl)).squeeze S512x1024 squeezes_S1x1x512x1024_S512x1024

/-- Owner `o`'s expert `j` among the gathered weights. -/
abbrev slotM (o : Fin 4) (j : Fin 8) : Memref sig .tc .hbm S512x1024 .bf16 := cutAll ![o.val, j.val, 0, 0] (inb_slot o j)
/-- The device's own expert `j`. -/
abbrev ownM (j : Fin 8) : Memref sig .tc .hbm S512x1024 .bf16 := cutOwn ![j.val, 0, 0] (inb_own j)
/-- Place `p` of staging slot `l`. -/
abbrev stageM (l p : Fin 2) : Memref sig .tc .vmem S512x1024 .bf16 := cutStage ![l.val, p.val, 0, 0] (inb_stage l p)

theorem cutAll_eq {off : Fin 4 → ℕ} {h} (o : Fin 4) (j : Fin 8) (e : off = ![o.val, j.val, 0, 0]) : cutAll off h = slotM o j := by
  subst e; rfl

theorem mem_slot (o : Fin 4) (j : Fin 8) (i : S4x8x512x1024.Idx) : i ∈ (slotM o j).view.set ↔ i 0 = o ∧ i 1 = j := by
  refine Iff.trans (Eq.to_iff (congrArg (i ∈ ·) ((View.set_reshape _ _).trans (View.set_slice_whole _ _)))) (Iff.trans Rect.mem_set_unit ?_)
  constructor
  · intro h
    have h0 : o.val ≤ (i 0 : ℕ) ∧ (i 0 : ℕ) < o.val + 1 := h 0
    have h1 : j.val ≤ (i 1 : ℕ) ∧ (i 1 : ℕ) < j.val + 1 := h 1
    exact ⟨Fin.ext (by omega), Fin.ext (by omega)⟩
  · rintro ⟨rfl, rfl⟩
    have h2 : (i 2 : ℕ) < 512 := (i 2).isLt
    have h3 : (i 3 : ℕ) < 1024 := (i 3).isLt
    intro a
    match a with
    | 0 => exact ⟨le_refl _, Nat.lt_succ_self _⟩
    | 1 => exact ⟨le_refl _, Nat.lt_succ_self _⟩
    | 2 => exact ⟨Nat.zero_le _, by show (i 2 : ℕ) < 0 + 512; omega⟩
    | 3 => exact ⟨Nat.zero_le _, by show (i 3 : ℕ) < 0 + 1024; omega⟩

theorem mem_own (j : Fin 8) (i : S8x512x1024.Idx) : i ∈ (ownM j).view.set ↔ i 0 = j := by
  refine Iff.trans (Eq.to_iff (congrArg (i ∈ ·) ((View.set_reshape _ _).trans (View.set_slice_whole _ _)))) (Iff.trans Rect.mem_set_unit ?_)
  constructor
  · intro h
    have h0 : j.val ≤ (i 0 : ℕ) ∧ (i 0 : ℕ) < j.val + 1 := h 0
    exact Fin.ext (by omega)
  · rintro rfl
    have h1 : (i 1 : ℕ) < 512 := (i 1).isLt
    have h2 : (i 2 : ℕ) < 1024 := (i 2).isLt
    intro a
    match a with
    | 0 => exact ⟨le_refl _, Nat.lt_succ_self _⟩
    | 1 => exact ⟨Nat.zero_le _, by show (i 1 : ℕ) < 0 + 512; omega⟩
    | 2 => exact ⟨Nat.zero_le _, by show (i 2 : ℕ) < 0 + 1024; omega⟩

theorem mem_stage (l p : Fin 2) (i : S2x2x512x1024.Idx) : i ∈ (stageM l p).view.set ↔ i 0 = l ∧ i 1 = p := by
  refine Iff.trans (Eq.to_iff (congrArg (i ∈ ·) ((View.set_reshape _ _).trans (View.set_slice_whole _ _)))) (Iff.trans Rect.mem_set_unit ?_)
  constructor
  · intro h
    have h0 : l.val ≤ (i 0 : ℕ) ∧ (i 0 : ℕ) < l.val + 1 := h 0
    have h1 : p.val ≤ (i 1 : ℕ) ∧ (i 1 : ℕ) < p.val + 1 := h 1
    exact ⟨Fin.ext (by omega), Fin.ext (by omega)⟩
  · rintro ⟨rfl, rfl⟩
    have h2 : (i 2 : ℕ) < 512 := (i 2).isLt
    have h3 : (i 3 : ℕ) < 1024 := (i 3).isLt
    intro a
    match a with
    | 0 => exact ⟨le_refl _, Nat.lt_succ_self _⟩
    | 1 => exact ⟨le_refl _, Nat.lt_succ_self _⟩
    | 2 => exact ⟨Nat.zero_le _, by show (i 2 : ℕ) < 0 + 512; omega⟩
    | 3 => exact ⟨Nat.zero_le _, by show (i 3 : ℕ) < 0 + 1024; omega⟩

/-! ## Contents -/

/-- Every owner's weights, as the region finds them on each device, in the gathered layout: what the gathered buffer holds,
    the same on every device, wherever it has been filled. -/
def allW : S4x8x512x1024.Idx → Elt F .bf16 := fun i => V m (i 0) main_v1 (ix3 (i 1) (i 2) (i 3))

/-- A slot of device `c`'s gathered weights, at contents `f`, with a share. -/
abbrev slotPt (c : Dev nD) (o : Fin 4) (j : Fin 8) (q : PosShare TreeShare) (f : S4x8x512x1024.Idx → Elt F .bf16) : sProp 𝕄 :=
  (slotM o j).view.loc (c : Thread nD τ) ↦[(slotM o j).view.set]{q} f
/-- One of device `c`'s own experts. -/
abbrev ownPt (c : Dev nD) (j : Fin 8) (q : PosShare TreeShare) : sProp 𝕄 :=
  (ownM j).view.loc (c : Thread nD τ) ↦[(ownM j).view.set]{q} V m c main_v1
/-- A place of device `c`'s staged weights. -/
abbrev stagePt (c : Dev nD) (l p : Fin 2) (f : S2x2x512x1024.Idx → Elt F .bf16) : sProp 𝕄 :=
  (stageM l p).view.loc (c : Thread nD τ) ↦[(stageM l p).view.set]{fullShare} f

theorem emb_slot (o : Fin 4) (j : Fin 8) (a : Fin 512) (b : Fin 1024) :
    (slotM o j).view.emb (ix2 a b) = (ix4 o j a b : S4x8x512x1024.Idx) := by
  show (Rect.unit (s := S4x8x512x1024) _ S1x1x512x1024.size (inb_slot o j)).emb (Shape.reshapeEquiv _ (ix2 a b)) = _
  rw [reshapeEquiv_ix2_11ab]
  funext x
  refine Fin.ext ?_
  match x with
  | 0 => show o.val + 1 * 0 = o.val; omega
  | 1 => show j.val + 1 * 0 = j.val; omega
  | 2 => show 0 + 1 * a.val = a.val; omega
  | 3 => show 0 + 1 * b.val = b.val; omega
theorem emb_own (j : Fin 8) (a : Fin 512) (b : Fin 1024) :
    (ownM j).view.emb (ix2 a b) = (ix3 j a b : S8x512x1024.Idx) := by
  show (Rect.unit (s := S8x512x1024) _ S1x512x1024.size (inb_own j)).emb (Shape.reshapeEquiv _ (ix2 a b)) = _
  rw [reshapeEquiv_ix2_1ab]
  funext x
  refine Fin.ext ?_
  match x with
  | 0 => show j.val + 1 * 0 = j.val; omega
  | 1 => show 0 + 1 * a.val = a.val; omega
  | 2 => show 0 + 1 * b.val = b.val; omega
theorem emb_stage (l p : Fin 2) (a : Fin 512) (b : Fin 1024) :
    (stageM l p).view.emb (ix2 a b) = (ix4 l p a b : S2x2x512x1024.Idx) := by
  show (Rect.unit (s := S2x2x512x1024) _ S1x1x512x1024.size (inb_stage l p)).emb (Shape.reshapeEquiv _ (ix2 a b)) = _
  rw [reshapeEquiv_ix2_11ab]
  funext x
  refine Fin.ext ?_
  match x with
  | 0 => show l.val + 1 * 0 = l.val; omega
  | 1 => show p.val + 1 * 0 = p.val; omega
  | 2 => show 0 + 1 * a.val = a.val; omega
  | 3 => show 0 + 1 * b.val = b.val; omega

theorem ex_ix2 (x : S512x1024.Idx) : ∃ (a : Fin 512) (b : Fin 1024), x = ix2 a b := ⟨x 0, x 1, by funext i; match i with | 0 => rfl | 1 => rfl⟩

/-- What the staging slots hold at step `s` when pair `p` is staged: expert `p` of one owner in front, expert `p + 4` of
    another behind. -/
def stg (c : Dev nD) (s : ℕ) (p : Fin 4) : S2x2x512x1024.Idx → Elt F .bf16 := fun i =>
  let j : Fin 8 := ⟨p.val + 4 * (i 1).val, by have h : (i 1).val < 2 := (i 1).isLt; omega⟩
  allW m (ix4 (org c s j) j (i 2) (i 3))

/-- A slot sent to the same slot of another device keeps what it holds. -/
theorem write_slot_slot (o : Fin 4) (j : Fin 8) (fd : S4x8x512x1024.Idx → Elt F .bf16) (i : S4x8x512x1024.Idx)
    (hi : i ∈ (slotM o j).view.set) :
    (slotM o j).view.write (Elt F) fd ((slotM o j).view.read (Elt F) (allW m)) Finset.univ i = allW m i := by
  obtain ⟨x, -, rfl⟩ := Finset.mem_map.mp hi
  exact View.write_emb_of_mem _ _ (Finset.mem_univ x)
/-- An own expert sent to the owner's row of another device. -/
theorem write_slot_own (c : Dev nD) (j : Fin 8) (fd : S4x8x512x1024.Idx → Elt F .bf16) (i : S4x8x512x1024.Idx)
    (hi : i ∈ (slotM c j).view.set) :
    (slotM c j).view.write (Elt F) fd ((ownM j).view.read (Elt F) (V m c main_v1)) Finset.univ i = allW m i := by
  obtain ⟨x, -, rfl⟩ := Finset.mem_map.mp hi
  obtain ⟨a, b, rfl⟩ := ex_ix2 x
  refine (View.write_emb_of_mem _ _ (Finset.mem_univ _)).trans ?_
  rw [emb_slot]
  show V m c main_v1 ((ownM j).view.emb (ix2 a b)) = _
  rw [emb_own]; rfl
/-- A slot staged. -/
theorem write_stage_slot (c : Dev nD) (s : ℕ) (p : Fin 4) (l q : Fin 2) (j : Fin 8) (hj : j.val = p.val + 4 * q.val)
    (fd : S2x2x512x1024.Idx → Elt F .bf16) (i : S2x2x512x1024.Idx) (hi : i ∈ (stageM l q).view.set) :
    (stageM l q).view.write (Elt F) fd ((slotM (org c s j) j).view.read (Elt F) (allW m)) Finset.univ i = stg m c s p i := by
  obtain ⟨x, -, rfl⟩ := Finset.mem_map.mp hi
  obtain ⟨a, b, rfl⟩ := ex_ix2 x
  refine (View.write_emb_of_mem _ _ (Finset.mem_univ _)).trans ?_
  rw [emb_stage]
  show allW m ((slotM (org c s j) j).view.emb (ix2 a b)) = _
  rw [emb_slot]
  have hb : p.val + 4 * q.val < 8 := hj ▸ j.isLt
  have e : (⟨p.val + 4 * q.val, hb⟩ : Fin 8) = j := Fin.ext hj.symm
  show _ = allW m (ix4 (org c s ⟨p.val + 4 * q.val, hb⟩) ⟨p.val + 4 * q.val, hb⟩ a b)
  rw [e]

/-! ## Cells -/

/-- The semaphore a device's transfer `k` reports to when its source is free, -/
abbrev sendS (k : Fin 24) : DmaSem sig := ⟨9 + k.val, by have := k.isLt; show 9 + k.val < 57; omega⟩
/-- and when what comes in by transfer `k` has landed. -/
abbrev recvS (k : Fin 24) : DmaSem sig := ⟨33 + k.val, by have := k.isLt; show 33 + k.val < 57; omega⟩
/-- The semaphore of a staging copy. -/
abbrev copyS (l p : Fin 2) : DmaSem sig := ⟨4 + 2 * l.val + p.val, by have := l.isLt; have := p.isLt; show 4 + 2 * l.val + p.val < 57; omega⟩
/-- The semaphore of the copy of the device's own row. -/
abbrev rowS : DmaSem sig := ⟨8, by decide⟩

theorem sem_send (k : Fin 24) {off : Fin 3 → ℕ} {h} (e : off = koff k) :
    ((cc0_scratch3.slice (Rect.unit (s := S3x2x4) off S1x1x1.size h)).squeeze S_ squeezes_S1x1x1_S_).sem = sendS k := by
  subst e; revert k; decide
theorem sem_recv (k : Fin 24) {off : Fin 3 → ℕ} {h} (e : off = koff k) :
    ((cc0_scratch4.slice (Rect.unit (s := S3x2x4) off S1x1x1.size h)).squeeze S_ squeezes_S1x1x1_S_).sem = recvS k := by
  subst e; revert k; decide

abbrev barCell (c : Dev nD) : GSem nD τ sig := ((c : Thread nD τ), .reg barrier0)
abbrev sendCell (c : Dev nD) (k : Fin 24) : GSem nD τ sig := ((c : Thread nD τ), .dma (sendS k))
abbrev recvCell (c : Dev nD) (k : Fin 24) : GSem nD τ sig := ((c : Thread nD τ), .dma (recvS k))

/-- What one transfer of a matrix counts. -/
def N : ℕ := (slotM 0 0).view.dmaCredit
theorem N_pos : 0 < N := View.dmaCredit_pos _ (by decide)
theorem credit_slot (o : Fin 4) (j : Fin 8) : (slotM o j).view.dmaCredit = N := rfl

/-- Transfer `k`'s destination on the neighbour of `c`, to be written, and that its cell there is open. -/
def grant (c : Dev nD) (k : Fin 24) : sProp 𝕄 :=
  iprop((∃ f, slotPt (nb c (ex k)) (org c (hop k) (ex k)) (ex k) fullShare f) ∗ reached ER (recvCell (nb c (ex k)) k) 0)
/-- The transfers that go right (`true`) or left (`false`). -/
abbrev side (b : Bool) : Finset (Fin 24) := Finset.univ.filter fun k => decide ((ex k).val < 4) = b
/-- What a neighbour pays into `c`'s barrier: leave to write into its slots. -/
def barPay (c : Dev nD) (b : Bool) : sProp 𝕄 := bigSep (side b) fun k => grant c k
/-- What landed on `c` by transfer `k`. -/
def recvPay (c : Dev nD) (k : Fin 24) : sProp 𝕄 := slotPt c (org c (hop k + 1) (ex k)) (ex k) fullShare (allW m)

/-- The schedule: one round on every barrier, send and receive cell. -/
def sched : Rounds.Schedule (GSem nD τ sig) Bool 𝕄 where
  duties g r := if r = 0 ∧ g.1.2 = .tc then
      (match g.2 with | .reg _ => Finset.univ | .dma i => if 9 ≤ i.val then {true} else ∅)
    else ∅
  unitless _ := False
  amount g _ _ := match g.2 with | .reg _ => 1 | .dma _ => N
  payload g _ d := match g.2 with
    | .reg _ => barPay g.1.1 d
    | .dma i => if h : 33 ≤ i.val then recvPay m g.1.1 ⟨i.val - 33, by have h2 : i.val < 57 := i.isLt; omega⟩ else iprop(emp)
  amount_pos g _ _ _ := by
    split
    · exact Nat.one_pos
    · exact N_pos

instance sched_storable (g : GSem nD τ sig) (r : ℕ) (d : Bool) : BI.Storable (upEmb : UEmb _ 𝕄) ((sched (F := F) m).payload g r d) := by
  obtain ⟨t, sm⟩ := g
  cases sm with
  | reg i =>
    show BI.Storable upEmb (bigSep (side d) fun k => grant t.1 k)
    unfold grant; infer_instance
  | dma i =>
    show BI.Storable upEmb (if h : 33 ≤ i.val then recvPay m t.1 ⟨i.val - 33, _⟩ else iprop(emp))
    unfold recvPay; split <;> infer_instance

theorem duties_bar (c : Dev nD) : (sched (F := F) m).duties (barCell c) 0 = Finset.univ := rfl
theorem duties_send (c : Dev nD) (k : Fin 24) : (sched (F := F) m).duties (sendCell c k) 0 = {true} := by
  show (if 9 ≤ 9 + k.val then ({true} : Finset Bool) else ∅) = {true}
  rw [if_pos (by omega)]
theorem duties_recv (c : Dev nD) (k : Fin 24) : (sched (F := F) m).duties (recvCell c k) 0 = {true} := by
  show (if 9 ≤ 33 + k.val then ({true} : Finset Bool) else ∅) = {true}
  rw [if_pos (by omega)]
theorem duties_later (g : GSem nD τ sig) : ∀ r, 0 + 1 ≤ r → (sched (F := F) m).duties g r = ∅ :=
  fun r hr => if_neg fun h => by omega
theorem amount_bar (c : Dev nD) (d : Bool) : (sched (F := F) m).amount (barCell c) 0 d = 1 := rfl
theorem amount_send (c : Dev nD) (k : Fin 24) (d : Bool) : (sched (F := F) m).amount (sendCell c k) 0 d = N := rfl
theorem amount_recv (c : Dev nD) (k : Fin 24) (d : Bool) : (sched (F := F) m).amount (recvCell c k) 0 d = N := rfl
theorem expect_bar (c : Dev nD) : (sched (F := F) m).expect (barCell c) 0 = 2 := rfl
theorem expect_send (c : Dev nD) (k : Fin 24) : (sched (F := F) m).expect (sendCell c k) 0 = N := by
  unfold Schedule.expect Schedule.amountOf; rw [duties_send, Finset.sum_singleton, amount_send]
theorem expect_recv (c : Dev nD) (k : Fin 24) : (sched (F := F) m).expect (recvCell c k) 0 = N := by
  unfold Schedule.expect Schedule.amountOf; rw [duties_recv, Finset.sum_singleton, amount_recv]
theorem payload_bar (c : Dev nD) (d : Bool) : (sched (F := F) m).payload (barCell c) 0 d = barPay c d := rfl
theorem payload_send (c : Dev nD) (k : Fin 24) (d : Bool) : (sched (F := F) m).payload (sendCell c k) 0 d = iprop(emp) := by
  show (if h : 33 ≤ 9 + k.val then recvPay m c ⟨9 + k.val - 33, _⟩ else iprop(emp)) = _
  rw [dif_neg (by have := k.isLt; omega)]
theorem payload_recv (c : Dev nD) (k : Fin 24) (d : Bool) : (sched (F := F) m).payload (recvCell c k) 0 d = recvPay m c k := by
  show (if h : 33 ≤ 33 + k.val then recvPay m c ⟨33 + k.val - 33, _⟩ else iprop(emp)) = _
  rw [dif_pos (by omega)]
  congr 1
  exact Fin.ext (Nat.add_sub_cancel_left _ _)
/-- Both neighbours' payments: leave for every transfer. -/
theorem rest_bar (c : Dev nD) : bigSep ((sched (F := F) m).duties (barCell c) 0 \ ∅) (fun d => (sched (F := F) m).payload (barCell c) 0 d)
    = bigSep Finset.univ (fun k => grant (F := F) c k) := by
  rw [Finset.sdiff_empty, duties_bar, show (Finset.univ : Finset Bool) = {true, false} from rfl, BI.bigSep_insert (by decide), BI.bigSep_singleton, payload_bar, payload_bar]
  unfold barPay
  rw [show (Finset.univ : Finset (Fin 24)) = side true ∪ side false from by decide, bigSep_union (by decide)]
theorem rest_recv (c : Dev nD) (k : Fin 24) :
    bigSep ((sched (F := F) m).duties (recvCell c k) 0 \ ∅) (fun d => (sched (F := F) m).payload (recvCell c k) 0 d) = recvPay m c k := by
  rw [Finset.sdiff_empty, duties_recv, bigSep_singleton, payload_recv]

/-! ## Debts and levels -/

/-- The receive credits on the neighbours' cells for a set of transfers. -/
def due (c : Dev nD) (S : Finset (Fin 24)) : CellTallies nD τ sig Unit := ∑ k ∈ S, tallyAt (recvCell (nb c (ex k)) k) () N
/-- What a device owes at launch: every transfer, and a unit to each neighbour's barrier. -/
def O₀ (c : Dev nD) : CellTallies nD τ sig Unit := due c Finset.univ + tallyAt (barCell (rt c)) () 1 + tallyAt (barCell (lt c)) () 1

def L (g : GSem nD τ sig) : Finset Unit := if g.1.2 = .tc then {()} else ∅
/-- The barrier at 1, the receive cells by their hop from 2 on, everything else at 0. -/
def lv (g : GSem nD τ sig) (_ : Unit) : ℕ := match g.2 with | .reg _ => 1 | .dma i => if 33 ≤ i.val then 2 + (i.val - 33) / 8 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 24) (u : Unit) : lv (recvCell c k) u = 2 + hop k := by
  show (if 33 ≤ 33 + k.val then 2 + (33 + k.val - 33) / 8 else 0) = _
  rw [if_pos (by omega), Nat.add_sub_cancel_left]; rfl

theorem due_pos {c : Dev nD} {S : Finset (Fin 24)} {g : GSem nD τ sig} {u : Unit} (h : 0 < due c S g u) :
    ∃ k ∈ S, g = recvCell (nb c (ex k)) k := by
  by_contra hn
  have hz : due c S g u = 0 := by
    unfold due
    rw [Finset.sum_apply, Finsupp.finset_sum_apply]
    refine Finset.sum_eq_zero fun k hk => ?_
    rw [tallyAt_apply, if_neg fun e => hn ⟨k, hk, e.1⟩]
  omega

/-- A device may wait on a cell below everything it still owes. -/
theorem mayWait (c : Dev nD) (sm : SemLoc sig) (S : Finset (Fin 24)) (n : ℕ) (hn : lv ((c : Thread nD τ), sm) () ≤ n) (hS : ∀ k ∈ S, n < 2 + hop k) :
    (levAts L lv : sProp 𝕄) ⊢ MayWait (c : Thread nD τ) sm () (due c S) :=
  MayOwe.of_cut (L := L) (lev := lv) n (fun p hp => by rw [Finset.mem_singleton.mp hp, L_tc]; exact Finset.mem_singleton_self _)
    (fun g u hg => by obtain ⟨k, -, rfl⟩ := due_pos hg; rw [L_tc]; exact Finset.mem_singleton_self _)
    (fun p hp => by rw [Finset.mem_singleton.mp hp]; exact hn)
    (fun g u hg => by obtain ⟨k, hk, rfl⟩ := due_pos hg; rw [lv_recv]; exact hS k hk)

theorem due_erase (c : Dev nD) (S : Finset (Fin 24)) (k : Fin 24) (hk : k ∈ S) :
    due c S = due c (S.erase k) + tallyAt (recvCell (nb c (ex k)) k) () N := by
  unfold due; exact (Finset.sum_erase_add _ _ hk).symm

/-- In a trip the experts are taken in turn from the two directions. -/
def turn (j : Fin 8) : ℕ := if j.val < 4 then 2 * j.val else 2 * (j.val - 4) + 1
/-- What is still to be sent at step `s` after `i` of its experts. -/
def left (s i : ℕ) : Finset (Fin 24) := Finset.univ.filter fun k => hop k ≠ 0 ∧ (s < hop k ∨ s = hop k ∧ i ≤ turn (ex k))

end Cert.Proof.KernelIdeal
end
-- ==== Proof.Steps.lean ====
module
public import proofs.«01_k».proof.Proof.Sched
@[expose] public section

/-! One step of the device's program at a time: a transfer sent on, a transfer waited for, a matrix staged, a staged pair
    read, and what each does to the device's holdings. -/

noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
variable {F : FTy → Type} [FloatOps F]

local notation "𝕄" => MT nD τ sig Unit (Elt F) ℕ UU ℕ
local notation "𝕋" => Prog (TpuEff nD τ sig (Elt F) Λ₀ (Proc.tc (τ := τ)))

variable (m : (ℓ : Loc nD τ sig) → Buf (Elt F) ℓ)
abbrev 𝒱₀ : Variants := Variants.none

/-! ## What every device knows -/

/-- The invariants of every device's cells, the levels, and that the device's own send cells are open. -/
def env (K : GSem nD τ sig → ℕ) (c : Dev nD) : sProp 𝕄 :=
  iprop((bigSep Finset.univ fun d : Dev nD => cellInv ER (sched m) (K (barCell d)) (barCell d))
    ∗ (bigSep Finset.univ fun p : Dev nD × Fin 24 => cellInv ER (sched m) (K (sendCell p.1 p.2)) (sendCell p.1 p.2))
    ∗ (bigSep Finset.univ fun p : Dev nD × Fin 24 => cellInv ER (sched m) (K (recvCell p.1 p.2)) (recvCell p.1 p.2))
    ∗ (bigSep Finset.univ fun k : Fin 24 => reached ER (sendCell c k) 0)
    ∗ levAts L lv)
instance env_persistent (K : GSem nD τ sig → ℕ) (c : Dev nD) : BI.Persistent (env (F := F) m K c) := by unfold env; infer_instance

variable (K : GSem nD τ sig → ℕ) (c : Dev nD)

theorem env_bar (d : Dev nD) : env (F := F) m K c ⊢ cellInv ER (sched m) (K (barCell d)) (barCell d) := by
  refine BIBase.Entails.trans ?_ (bigSep_elim (Φ := fun d : Dev nD => cellInv ER (sched m) (K (barCell d)) (barCell d)) (Finset.mem_univ d))
  unfold env; iintro ⟨H, -, -, -, -⟩; iexact H
theorem env_send (d : Dev nD) (k : Fin 24) : env (F := F) m K c ⊢ cellInv ER (sched m) (K (sendCell d k)) (sendCell d k) := by
  refine BIBase.Entails.trans ?_ (bigSep_elim (Φ := fun p : Dev nD × Fin 24 => cellInv ER (sched m) (K (sendCell p.1 p.2)) (sendCell p.1 p.2)) (Finset.mem_univ (d, k)))
  unfold env; iintro ⟨-, H, -, -, -⟩; iexact H
theorem env_recv (d : Dev nD) (k : Fin 24) : env (F := F) m K c ⊢ cellInv ER (sched m) (K (recvCell d k)) (recvCell d k) := by
  refine BIBase.Entails.trans ?_ (bigSep_elim (Φ := fun p : Dev nD × Fin 24 => cellInv ER (sched m) (K (recvCell p.1 p.2)) (recvCell p.1 p.2)) (Finset.mem_univ (d, k)))
  unfold env; iintro ⟨-, -, H, -, -⟩; iexact H
theorem env_reached (k : Fin 24) : env (F := F) m K c ⊢ reached ER (sendCell c k) 0 := by
  refine BIBase.Entails.trans ?_ (bigSep_elim (Φ := fun k : Fin 24 => reached ER (sendCell c k) 0) (Finset.mem_univ k))
  unfold env; iintro ⟨-, -, -, H, -⟩; iexact H
theorem env_lev : env (F := F) m K c ⊢ levAts L lv := by
  unfold env; iintro ⟨-, -, -, -, H⟩; iexact H

/-- A cell whose one round is over gives its counter back at zero. -/
theorem closed (κ : ℕ) (g : GSem nD τ sig) :
    iprop(cellInv ER (sched (F := F) m) κ g ∗ atPos ER g (0 + 1) ∅ 0) ⊢ (|={Set.univ}=> semVal g 0 : sProp 𝕄) :=
  Rounds.cell_close ER (sched m) (Set.mem_univ κ) id (duties_later m g)

/-- What a device still owes: the transfers of a set. -/
def owing (S : Finset (Fin 24)) : sProp 𝕄 := iprop(∃ W, owes (c : Thread nD τ) (due c S) W)

theorem org_nb_hop (k : Fin 24) : org (nb c (ex k)) (hop k + 1) (ex k) = org c (hop k) (ex k) := by revert c k; decide

/-- The weakest precondition of a program of device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable {α : Type}

/-! ## Transfers between devices -/

/-- What paying for a transfer takes: the two duties, and leave to write the neighbour's slot. -/
def pay (k : Fin 24) : sProp 𝕄 :=
  iprop(dutyTok ER (sendCell c k) 0 true ∗ dutyTok ER (recvCell (nb c (ex k)) k) 0 true ∗ grant c k)

/-- A transfer issued: the source is lent for good, the neighbour's slot is filled, one debt is paid. -/
theorem wp_issue {sp : Space} {src : Memref sig .tc sp S512x1024 .bf16} {fs : Buf (Elt F) (src.view.loc (c : Thread nD τ))} {q : PosShare TreeShare}
    (k : Fin 24) (S : Finset (Fin 24)) (hk : k ∈ S)
    (hw : ∀ fd i, i ∈ (slotM (org c (hop k) (ex k)) (ex k)).view.set →
      (slotM (org c (hop k) (ex k)) (ex k)).view.write (Elt F) fd (src.view.read (Elt F) fs) Finset.univ i = allW m i)
    {o : Fin 4} {j : Fin 8} (ho : o = org c (hop k) (ex k)) (hj : j = ex k) {d : Dev nD} (hd : d = nb c (ex k))
    {sS sR : DmaSem sig} (hS : sS = sendS k) (hR : sR = recvS k)
    {hsrc : src.view.WordExact} {hdst : (slotM o j).view.WordExact} {hsem : DmaTarget.Typed (nD := nD) sp (.dma sR) (.remote (Dev.tc d) (slotM o j) (.dma sS) rfl)}
    {kk : PUnit → 𝕋 α} {Q : α → sProp 𝕄} :
    iprop(env m K c ∗ (src.view.loc (c : Thread nD τ) ↦[src.view.set]{q} fs) ∗ pay c k ∗ owing c S)
      ⊢ iprop(((cred (tallyAt (sendCell c k) () N) ∗ owing c (S.erase k)) -∗ WP c (kk ⟨⟩) Q)
          -∗ WP c
              (.op (.enqueueDma src (.remote (Dev.tc d) (slotM o j) (.dma sS)) (.dma sR) hsrc hdst hsem) kk) Q) := by
  subst ho hj hd hS hR
  unfold pay grant owing
  iintro ⟨#He, Hs, ⟨HtS, HtR, ⟨%fd, Hd⟩, #HrR⟩, ⟨%W, HO⟩⟩ Hk
  iapply (Rounds.wp_send_pointsTo 𝒱₀ ER (sched m) (c : Thread nD τ) none (c' := (nb c (ex k) : Thread nD τ)) (src := src)
      (dst := slotM (org c (hop k) (ex k)) (ex k))
      (sS := .dma (sendS k)) (sem := .dma (recvS k)) (q := q) (fs := fs) (κ₁ := K (sendCell c k)) (κ₂ := K (recvCell (nb c (ex k)) k))
      (r₁ := 0) (r₂ := 0) (d₁ := true) (d₂ := true) (fd := fd)
      (by rw [duties_send]; exact Finset.mem_singleton_self _) (by rw [duties_recv]; exact Finset.mem_singleton_self _)
      () () N rfl (amount_send m c k true) (amount_recv m (nb c (ex k)) k true) (due c (S.erase k)) (due_erase c S k hk) (W := W)
      (by rw [payload_send]; iintro -; iempintro)
      (by rw [payload_recv]; unfold recvPay slotPt; rw [org_nb_hop]; exact Entails.of_eq (pointsTo_congr fun i hi => hw fd i hi))) $$ [Hs Hd HO HtS HtR]
  · isplitr; · iapply (env_send m K c c k); iexact He
    isplitr; · iapply (env_recv m K c (nb c (ex k)) k); iexact He
    isplitl [Hs]; · iexact Hs
    isplitl [Hd]; · iexact Hd
    isplitl [HO]; · iexact HO
    isplitl [HtS]; · iexact HtS
    isplitr; · iapply (env_reached m K c k); iexact He
    isplitl [HtR]; · iexact HtR
    iexact HrR
  iintro ⟨HcS, HO⟩
  iapply Hk
  isplitl [HcS]; · iexact HcS
  iexists W; iexact HO

/-- A transfer waited for: its slot is filled, its cell done with. -/
theorem wp_arrive (k : Fin 24) (S : Finset (Fin 24)) (hS : ∀ k' ∈ S, hop k < hop k')
    {sR : DmaSem sig} (hR : sR = recvS k) {v v' : Memref sig .tc .hbm S512x1024 .bf16} (hv : v'.view.dmaCredit = N)
    {hsrc : v.view.WordExact} {hdst : v'.view.WordExact} {kk : PUnit → 𝕋 α} {Q : α → sProp 𝕄} :
    iprop(env m K c ∗ (cred (tallyAt (recvCell c k) () N) ∗ atPos ER (recvCell c k) 0 ∅ 0) ∗ owing c S)
      ⊢ iprop(((recvPay m c k ∗ semVal (recvCell c k) 0 ∗ owing c S) -∗ WP c (kk ⟨⟩) Q)
          -∗ WP c (.op (.waitDma2 sR v v' hsrc hdst) kk) Q) := by
  subst hR
  unfold owing
  iintro ⟨#He, ⟨Hc, Hat⟩, ⟨%W, HO⟩⟩ Hk
  iapply (Rounds.wp_wait_rest_token 𝒱₀ ER (sched m) (c : Thread nD τ) none (κ := K (recvCell c k))
      (wpE_waitDma2_eq 𝒱₀ (c : Thread nD τ) none Set.univ) (Set.mem_univ _) () (O := due c S) (W := W) (R := 0) (m := 0) (T := ∅)
      ((Nat.zero_add _).trans (hv.trans (expect_recv m c k).symm))) $$ [Hc HO Hat]
  · isplitr; · iapply (env_recv m K c c k); iexact He
    isplitl [Hc]; · rw [hv]; iexact Hc
    isplitl [HO]; · iexact HO
    isplitr; · iapply (mayWait c (.dma (recvS k)) S (2 + hop k) (le_of_eq (lv_recv c k ())) (fun k' hk' => Nat.add_lt_add_left (hS k' hk') 2)); iapply (env_lev m K c); iexact He
    iexact Hat
  iintro ⟨HO, Hat, -, Hpay⟩
  ihave Hp := (Entails.of_eq (rest_recv m c k)) $$ Hpay
  imod (closed m (K (recvCell c k)) (recvCell c k)) $$ [Hat] with Hv
  · isplitr; · iapply (env_recv m K c c k); iexact He
    iexact Hat
  iapply Hk
  isplitl [Hp]; · iexact Hp
  isplitl [Hv]; · iexact Hv
  iexists _; iexact HO

/-- The end of a transfer's sending waited for, with nothing owed: its cell is done with. -/
theorem wp_sent (k : Fin 24) {sR : DmaSem sig} (hR : sR = sendS k) {v v' : Memref sig .tc .hbm S512x1024 .bf16} (hv : v'.view.dmaCredit = N)
    {hsrc : v.view.WordExact} {hdst : v'.view.WordExact} {kk : PUnit → 𝕋 α} {Q : α → sProp 𝕄} :
    iprop(env m K c ∗ (cred (tallyAt (sendCell c k) () N) ∗ atPos ER (sendCell c k) 0 ∅ 0) ∗ owing c ∅)
      ⊢ iprop(((semVal (sendCell c k) 0 ∗ owing c ∅) -∗ WP c (kk ⟨⟩) Q)
          -∗ WP c (.op (.waitDma2 sR v v' hsrc hdst) kk) Q) := by
  subst hR
  unfold owing
  iintro ⟨#He, ⟨Hc, Hat⟩, ⟨%W, HO⟩⟩ Hk
  iapply (Rounds.wp_wait_rest_token 𝒱₀ ER (sched m) (c : Thread nD τ) none (κ := K (sendCell c k))
      (wpE_waitDma2_eq 𝒱₀ (c : Thread nD τ) none Set.univ) (Set.mem_univ _) () (O := due c ∅) (W := W) (R := 0) (m := 0) (T := ∅)
      ((Nat.zero_add _).trans (hv.trans (expect_send m c k).symm))) $$ [Hc HO Hat]
  · isplitr; · iapply (env_send m K c c k); iexact He
    isplitl [Hc]; · rw [hv]; iexact Hc
    isplitl [HO]; · iexact HO
    isplitr; · iapply (mayWait c (.dma (sendS k)) ∅ _ (le_refl _) (fun k' hk' => absurd hk' (Finset.notMem_empty k'))); iapply (env_lev m K c); iexact He
    iexact Hat
  iintro ⟨HO, Hat, -, -⟩
  imod (closed m (K (sendCell c k)) (sendCell c k)) $$ [Hat] with Hv
  · isplitr; · iapply (env_send m K c c k); iexact He
    iexact Hat
  iapply Hk
  isplitl [Hv]; · iexact Hv
  iexists _; iexact HO

end Cert.Proof.KernelIdeal
end
-- ==== Proof.Sync.lean ====
module
public import proofs.«01_k».proof.Proof.Steps
@[expose] public section

/-! One expert's turn of the ring at one step, and one matrix staged: the program text of each, and what each does to the
    device's holdings. -/

noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
variable {F : FTy → Type} [FloatOps F]

local notation "𝕄" => MT nD τ sig Unit (Elt F) ℕ UU ℕ
local notation "𝕋" => Prog (TpuEff nD τ sig (Elt F) Λ₀ (Proc.tc (τ := τ)))

variable (m : (ℓ : Loc nD τ sig) → Buf (Elt F) ℓ) (K : GSem nD τ sig → ℕ) (c : Dev nD)
variable {α : Type}

/-! ## An expert's holdings -/

/-- The receive cell of hop `h` of expert `j` when `s` steps of the expert are over. -/
def recvSt (h : Fin 3) (j : Fin 8) (s : ℕ) : sProp 𝕄 :=
  if h.val + 1 < s then semVal (recvCell c (tr h j)) 0 else iprop(cred (tallyAt (recvCell c (tr h j)) () N) ∗ atPos ER (recvCell c (tr h j)) 0 ∅ 0)
/-- The sending of hop `h` of expert `j` when `s` steps of the expert are over: issued, or to be issued. -/
def sendSt (h : Fin 3) (j : Fin 8) (s : ℕ) : sProp 𝕄 :=
  if h.val = 0 ∨ h.val < s then cred (tallyAt (sendCell c (tr h j)) () N) else pay c (tr h j)
/-- What the device holds of expert `j` when `s` steps of it are over. -/
def bank (s : ℕ) (j : Fin 8) : sProp 𝕄 :=
  iprop((if s = 0 then slotPt c c j fullShare (allW m) else iprop(emp)) ∗ (recvSt c 0 j s ∗ recvSt c 1 j s ∗ recvSt c 2 j s)
    ∗ (sendSt c 0 j s ∗ sendSt c 1 j s ∗ sendSt c 2 j s))

/-- Half of a slot held in full. -/
theorem slot_half (d : Dev nD) (o : Fin 4) (j : Fin 8) (f : S4x8x512x1024.Idx → Elt F .bf16) :
    (slotPt d o j fullShare f : sProp 𝕄) ⊢ iprop(slotPt d o j fullShare.left f ∗ slotPt d o j fullShare.right f) :=
  (pointsTo_share (PosShare.mem_left_op_right fullShare)).1

/-- Half of what came in. -/
theorem recv_half (k : Fin 24) : (recvPay m c k : sProp 𝕄) ⊢ iprop(slotPt c (org c (hop k + 1) (ex k)) (ex k) fullShare.left (allW m)
    ∗ slotPt c (org c (hop k + 1) (ex k)) (ex k) fullShare.right (allW m)) := slot_half c _ _ _

/-! ## An expert's turn -/

abbrev sendAt (off : Fin 3 → ℕ) (h : ∀ a, off a + S1x1x1.size a ≤ S3x2x4.size a) : DmaSem sig :=
  ((cc0_scratch3.slice (Rect.unit (s := S3x2x4) off S1x1x1.size h)).squeeze S_ squeezes_S1x1x1_S_).sem
abbrev recvAt (off : Fin 3 → ℕ) (h : ∀ a, off a + S1x1x1.size a ≤ S3x2x4.size a) : DmaSem sig :=
  ((cc0_scratch4.slice (Rect.unit (s := S3x2x4) off S1x1x1.size h)).squeeze S_ squeezes_S1x1x1_S_).sem
abbrev copyAt (off : Fin 2 → ℕ) (h : ∀ a, off a + S1x1.size a ≤ S2x2.size a) : DmaSem sig :=
  ((cc0_scratch1.slice (Rect.unit (s := S2x2) off S1x1.size h)).squeeze S_ squeezes_S1x1_S_).sem

/-- Wait for what comes in of an expert, and send it on, each if the step asks for it. -/
def ringSync (c1 c2 : BitVec 1) (ow os : Fin 3 → ℕ) (vw vs : Fin 4 → ℕ) (dv : ℕ)
    (how : c1 = 1#1 → ∀ a, ow a + S1x1x1.size a ≤ S3x2x4.size a)
    (hvw : c1 = 1#1 → ∀ a, vw a + S1x1x512x1024.size a ≤ S4x8x512x1024.size a)
    (hww : ∀ h, (cutAll vw (hvw h)).view.WordExact)
    (hos : c1 = 1#1 → c2 = 1#1 → ∀ a, os a + S1x1x1.size a ≤ S3x2x4.size a)
    (hvs : c1 = 1#1 → c2 = 1#1 → ∀ a, vs a + S1x1x512x1024.size a ≤ S4x8x512x1024.size a)
    (hws : ∀ h h', (cutAll vs (hvs h h')).view.WordExact)
    (hd : c1 = 1#1 → c2 = 1#1 → dv < nD) (k : 𝕋 α) : 𝕋 α :=
  if h1 : c1 = 1#1 then
    .op (.waitDma2 (recvAt ow (how h1)) (cutAll vw (hvw h1)) (cutAll vw (hvw h1)) (hww h1) (hww h1)) fun _ =>
      if h2 : c2 = 1#1 then
        .op (.enqueueDma (cutAll vs (hvs h1 h2)) (.remote (Dev.tc (⟨dv, hd h1 h2⟩ : Dev nD)) (cutAll vs (hvs h1 h2)) (.dma (sendAt os (hos h1 h2))))
          (.dma (recvAt os (hos h1 h2))) (hws h1 h2) (hws h1 h2) ⟨⟨rfl, Or.inl rfl⟩, trivial⟩) fun _ => k
      else k
  else k

theorem left_step (s : ℕ) (h : Fin 3) (hs : s = h.val) (h0 : h.val ≠ 0) (j : Fin 8) :
    left s (turn j + 1) = (left s (turn j)).erase (tr h j) ∧ tr h j ∈ left s (turn j) := by
  subst hs; revert h j; decide
theorem left_keep (s : ℕ) (hs : s = 0 ∨ s = 3) (j : Fin 8) : left s (turn j + 1) = left s (turn j) := by
  rcases hs with rfl | rfl <;> revert j <;> decide
theorem left_next (s : ℕ) (hs : s < 4) : left (s + 1) 0 = left s 8 := by
  match s, hs with
  | 0, _ | 1, _ | 2, _ | 3, _ => decide
theorem left_above (s : ℕ) (h : Fin 3) (hs : s = h.val + 1) (j : Fin 8) : ∀ k ∈ left s (turn j), hop (tr h j) < hop k := by
  subst hs; revert h j; decide
theorem hop_ex_tr (h : Fin 3) (j : Fin 8) : hop (tr h j) = h.val ∧ ex (tr h j) = j := ⟨hop_tr h j, ex_tr h j⟩

theorem credit_cut (off h) : (cutAll off h).view.dmaCredit = N := rfl

/-- A slot sent on as it is. -/
theorem wp_pass (k : Fin 24) (S : Finset (Fin 24)) (hk : k ∈ S) {q : PosShare TreeShare} {Q : α → sProp 𝕄}
    {v : Fin 4 → ℕ} {hv} (e : v = ![(org c (hop k) (ex k)).val, (ex k).val, 0, 0]) {d : Dev nD} (hd : d = nb c (ex k))
    {sS sR : DmaSem sig} (hS : sS = sendS k) (hR : sR = recvS k)
    {hsrc hdst : (cutAll v hv).view.WordExact} {hsem : DmaTarget.Typed (nD := nD) .hbm (.dma sR) (.remote (Dev.tc d) (cutAll v hv) (.dma sS) rfl)}
    {kk : PUnit → 𝕋 α} :
    iprop(env m K c ∗ slotPt c (org c (hop k) (ex k)) (ex k) q (allW m) ∗ pay c k ∗ owing c S)
      ⊢ iprop(((cred (tallyAt (sendCell c k) () N) ∗ owing c (S.erase k)) -∗ WP c (kk ⟨⟩) Q)
          -∗ WP c (.op (.enqueueDma (cutAll v hv) (.remote (Dev.tc d) (cutAll v hv) (.dma sS)) (.dma sR) hsrc hdst hsem) kk) Q) := by
  subst e
  exact wp_issue m K c (src := slotM (org c (hop k) (ex k)) (ex k)) k S hk (write_slot_slot m _ _) rfl rfl hd hS hR

/-- An expert's turn at step `s`: its holdings move on by a step, half of the slot to be used now is handed out. -/
theorem wp_sync (s : ℕ) (hs : s < 4) (j : Fin 8) (i : ℕ) (hi : i = turn j) {c1 c2 : BitVec 1} (hc1 : c1 = 1#1 ↔ 1 ≤ s) (hc2 : c2 = 1#1 ↔ s < 3)
    {ow os : Fin 3 → ℕ} {vw vs : Fin 4 → ℕ} {dv : ℕ} {how hvw hww hos hvs hws hd}
    (eow : ∀ h : Fin 3, s = h.val + 1 → ow = koff (tr h j)) (eos : ∀ h : Fin 3, s = h.val → os = koff (tr h j))
    (evs : vs = ![(org c s j).val, j.val, 0, 0]) (edv : dv = (nb c j).val) {k : 𝕋 α} {Q : α → sProp 𝕄} :
    iprop(env m K c ∗ bank m c s j ∗ owing c (left s i))
      ⊢ iprop(((bank m c (s + 1) j ∗ slotPt c (org c s j) j fullShare.left (allW m) ∗ owing c (left s (i + 1))) -∗ WP c k Q)
          -∗ WP c (ringSync c1 c2 ow os vw vs dv how hvw hww hos hvs hws hd k) Q) := by
  subst hi
  unfold ringSync
  by_cases h1 : c1 = 1#1
  · rw [dif_pos h1]
    have s1 : 1 ≤ s := hc1.mp h1
    obtain ⟨hw, ehw⟩ : ∃ hw : Fin 3, s = hw.val + 1 := ⟨⟨s - 1, by omega⟩, by show s = s - 1 + 1; omega⟩
    by_cases h2 : c2 = 1#1
    · have s3 : s < 3 := hc2.mp h2
      obtain ⟨hh, ehh⟩ : ∃ hh : Fin 3, s = hh.val := ⟨⟨s, s3⟩, rfl⟩
      have hsrc : org c s j = org c (hop (tr hh j)) (ex (tr hh j)) := by rw [hop_tr, ex_tr, ← ehh]
      have step := left_step s hh ehh (by omega) j
      -- one hop in, the next out
      have key : bank m c s j ⊢ iprop((cred (tallyAt (recvCell c (tr hw j)) () N) ∗ atPos ER (recvCell c (tr hw j)) 0 ∅ 0) ∗ pay c (tr hh j)
            ∗ ((semVal (recvCell c (tr hw j)) 0 ∗ cred (tallyAt (sendCell c (tr hh j)) () N)) -∗ bank m c (s + 1) j)) := by
        unfold bank
        match s, s1, s3, hw, ehw, hh, ehh with
        | 1, _, _, 0, _, 1, _ =>
          simp only [recvSt, sendSt, Fin.val_two, Fin.val_one, Fin.val_zero, if_true, if_false, Nat.reduceLT, Nat.reduceAdd, Nat.reduceEqDiff, reduceIte, _root_.or_true, _root_.true_or, _root_.or_false, _root_.false_or]
          iintro ⟨-, ⟨R0, R1, R2⟩, ⟨S0, S1, S2⟩⟩
          isplitl [R0]; · iexact R0
          isplitl [S1]; · iexact S1
          iintro ⟨R0, S1⟩
          isplitr; · iempintro
          isplitl [R0 R1 R2]
          · isplitl [R0]; · iexact R0
            isplitl [R1]; · iexact R1
            iexact R2
          isplitl [S0]; · iexact S0
          isplitl [S1]; · iexact S1
          iexact S2
        | 2, _, _, 1, _, 2, _ =>
          simp only [recvSt, sendSt, Fin.val_two, Fin.val_one, Fin.val_zero, if_true, if_false, Nat.reduceLT, Nat.reduceAdd, Nat.reduceEqDiff, reduceIte, _root_.or_true, _root_.true_or, _root_.or_false, _root_.false_or]
          iintro ⟨-, ⟨R0, R1, R2⟩, ⟨S0, S1, S2⟩⟩
          isplitl [R1]; · iexact R1
          isplitl [S2]; · iexact S2
          iintro ⟨R1, S2⟩
          isplitr; · iempintro
          isplitl [R0 R1 R2]
          · isplitl [R0]; · iexact R0
            isplitl [R1]; · iexact R1
            iexact R2
          isplitl [S0]; · iexact S0
          isplitl [S1]; · iexact S1
          iexact S2
      iintro ⟨#He, HB, HO⟩ Hk
      ihave HB := key $$ HB
      icases HB with ⟨HR, HP, HB⟩
      iapply (wp_arrive m K c (tr hw j) (left s (turn j)) (left_above s hw ehw j) (sem_recv (tr hw j) (eow hw ehw)) (credit_cut vw (hvw h1))) $$ [HR HO]
      · isplitr; · iexact He
        isplitl [HR]; · iexact HR
        iexact HO
      iintro ⟨HS, HV, HO⟩
      rw [dif_pos h2]
      ihave HS := (recv_half m c (tr hw j)) $$ HS
      icases HS with ⟨HS, HS'⟩
      rw [hop_tr, ex_tr, ← ehw]
      iapply (wp_pass m K c (tr hh j) (left s (turn j)) step.2 (q := fullShare.right) (by rw [evs, ← hsrc, ex_tr]) (Fin.ext (by rw [ex_tr]; exact edv))
        (sem_send (tr hh j) (eos hh ehh)) (sem_recv (tr hh j) (eos hh ehh))) $$ [HS' HP HO]
      · isplitr; · iexact He
        isplitl [HS']; · rw [← hsrc, ex_tr]; iexact HS'
        isplitl [HP]; · iexact HP
        iexact HO
      iintro ⟨HC, HO⟩
      iapply Hk
      isplitl [HB HV HC]
      · iapply HB
        isplitl [HV]; · iexact HV
        iexact HC
      isplitl [HS]; · iexact HS
      rw [step.1]; iexact HO
    · have s3 : s = 3 := by have h3 : ¬ s < 3 := fun h => h2 (hc2.mpr h); omega
      subst s3
      obtain rfl : hw = 2 := Fin.ext (by show hw.val = 2; omega)
      have key : bank m c 3 j ⊢ iprop((cred (tallyAt (recvCell c (tr 2 j)) () N) ∗ atPos ER (recvCell c (tr 2 j)) 0 ∅ 0)
            ∗ (semVal (recvCell c (tr 2 j)) 0 -∗ bank m c (3 + 1) j)) := by
        unfold bank
        simp only [recvSt, sendSt, Fin.val_two, Fin.val_one, Fin.val_zero, if_true, if_false, Nat.reduceLT, Nat.reduceAdd, Nat.reduceEqDiff, reduceIte, _root_.or_true, _root_.true_or, _root_.or_false, _root_.false_or]
        iintro ⟨-, ⟨R0, R1, R2⟩, ⟨S0, S1, S2⟩⟩
        isplitl [R2]; · iexact R2
        iintro R2
        isplitr; · iempintro
        isplitl [R0 R1 R2]
        · isplitl [R0]; · iexact R0
          isplitl [R1]; · iexact R1
          iexact R2
        isplitl [S0]; · iexact S0
        isplitl [S1]; · iexact S1
        iexact S2
      iintro ⟨#He, HB, HO⟩ Hk
      ihave HB := key $$ HB
      icases HB with ⟨HR, HB⟩
      iapply (wp_arrive m K c (tr 2 j) (left 3 (turn j)) (left_above 3 2 ehw j) (sem_recv (tr 2 j) (eow 2 ehw)) (credit_cut vw (hvw h1))) $$ [HR HO]
      · isplitr; · iexact He
        isplitl [HR]; · iexact HR
        iexact HO
      iintro ⟨HS, HV, HO⟩
      rw [dif_neg h2]
      ihave HS := (recv_half m c (tr 2 j)) $$ HS
      icases HS with ⟨HS, -⟩
      rw [hop_tr, ex_tr]
      iapply Hk
      isplitl [HB HV]
      · iapply HB; iexact HV
      isplitl [HS]; · iexact HS
      rw [left_keep 3 (.inr rfl)]; iexact HO
  · rw [dif_neg h1]
    have s0 : s = 0 := by have h3 : ¬ 1 ≤ s := fun h => h1 (hc1.mpr h); omega
    subst s0
    have key : bank m c 0 j ⊢ iprop(slotPt c c j fullShare (allW m) ∗ bank m c (0 + 1) j) := by
      unfold bank
      simp only [recvSt, sendSt, Fin.val_two, Fin.val_one, Fin.val_zero, if_true, if_false, Nat.reduceLT, Nat.reduceAdd, Nat.reduceEqDiff, reduceIte, _root_.or_true, _root_.true_or, _root_.or_false, _root_.false_or]
      iintro ⟨H, ⟨R0, R1, R2⟩, ⟨S0, S1, S2⟩⟩
      isplitl [H]; · iexact H
      isplitr; · iempintro
      isplitl [R0 R1 R2]
      · isplitl [R0]; · iexact R0
        isplitl [R1]; · iexact R1
        iexact R2
      isplitl [S0]; · iexact S0
      isplitl [S1]; · iexact S1
      iexact S2
    iintro ⟨-, HB, HO⟩ Hk
    ihave HB := key $$ HB
    icases HB with ⟨HS, HB⟩
    ihave HS := (slot_half c _ _ _) $$ HS
    icases HS with ⟨HS, -⟩
    iapply Hk
    isplitl [HB]; · iexact HB
    isplitl [HS]; · rw [org_zero]; iexact HS
    rw [left_keep 0 (.inl rfl)]; iexact HO

/-! ## Staging -/

/-- What the copy of one matrix counts. -/
def NS : ℕ := (stageM 0 0).view.dmaCredit
theorem NS_pos : 0 < NS := View.dmaCredit_pos _ (by decide)

theorem sem_copy (l q : Fin 2) {h} : copyAt ![l.val, q.val] h = copyS l q := by revert l q; decide

/-- A matrix under way to a staging place. -/
def fly (s : ℕ) (p : Fin 4) (l q : Fin 2) : sProp 𝕄 :=
  Transfers.Flight EC (c : Thread nD τ) (.dma (copyS l q)) () NS (stagePt c l q (stg m c s p))
/-- A staging place at rest. -/
def rest (l q : Fin 2) : sProp 𝕄 := iprop(semVal ((c : Thread nD τ), .dma (copyS l q)) 0 ∗ ∃ f, stagePt c l q f)

/-- Start staging a slot. -/
def stageStart (l q : Fin 2) (v : Fin 4 → ℕ) (hl : ∀ a, (![l.val, q.val] : Fin 2 → ℕ) a + S1x1.size a ≤ S2x2.size a)
    (hs : ∀ a, (![l.val, q.val, 0, 0] : Fin 4 → ℕ) a + S1x1x512x1024.size a ≤ S2x2x512x1024.size a) (hv : ∀ a, v a + S1x1x512x1024.size a ≤ S4x8x512x1024.size a) (hw : (cutAll v hv).view.WordExact) (hw' : (cutStage ![l.val, q.val, 0, 0] hs).view.WordExact) (k : 𝕋 α) : 𝕋 α :=
  .op (.enqueueDma (cutAll v hv) (.here (cutStage ![l.val, q.val, 0, 0] hs)) (.dma (copyAt ![l.val, q.val] hl)) hw hw' ⟨Or.inl rfl, trivial⟩) fun _ => k
/-- Wait for a slot to be staged. -/
def stageWait (l q : Fin 2) (v : Fin 4 → ℕ) (hl : ∀ a, (![l.val, q.val] : Fin 2 → ℕ) a + S1x1.size a ≤ S2x2.size a)
    (hs : ∀ a, (![l.val, q.val, 0, 0] : Fin 4 → ℕ) a + S1x1x512x1024.size a ≤ S2x2x512x1024.size a) (hv : ∀ a, v a + S1x1x512x1024.size a ≤ S4x8x512x1024.size a) (hw : (cutAll v hv).view.WordExact) (hw' : (cutStage ![l.val, q.val, 0, 0] hs).view.WordExact) (k : 𝕋 α) : 𝕋 α :=
  .op (.waitDma2 (copyAt ![l.val, q.val] hl) (cutAll v hv) (cutStage ![l.val, q.val, 0, 0] hs) hw hw') fun _ => k

theorem landed (s : ℕ) (p : Fin 4) (l q : Fin 2) (j : Fin 8) (hj : j.val = p.val + 4 * q.val) (f : S2x2x512x1024.Idx → Elt F .bf16) :
    iprop(((stageM l q).view.loc (c : Thread nD τ) ↦[(stageM l q).view.set]{fullShare}
      ((stageM l q).view.write (Elt F) f ((slotM (org c s j) j).view.read (Elt F) (allW m)) Finset.univ)) ∗ slotPt c (org c s j) j fullShare.left (allW m))
      ⊢ (stagePt c l q (stg m c s p) : sProp 𝕄) := by
  iintro ⟨H, -⟩
  ihave H := (Entails.of_eq (pointsTo_congr fun i hi => write_stage_slot m c s p l q j hj f i hi)) $$ H
  iexact H
theorem lv_copy (l q : Fin 2) : lv ((c : Thread nD τ), .dma (copyS l q)) () ≤ 0 := by
  show (if 33 ≤ 4 + 2 * l.val + q.val then 2 + (4 + 2 * l.val + q.val - 33) / 8 else 0) ≤ 0
  rw [if_neg (by omega)]

/-- A copy to a staging place, started. -/
theorem wp_copy (s : ℕ) (p : Fin 4) (l q : Fin 2) (j : Fin 8) (hj : j.val = p.val + 4 * q.val) {sm : DmaSem sig} (hsm : sm = copyS l q)
    {hsrc : (slotM (org c s j) j).view.WordExact} {hdst : (stageM l q).view.WordExact} {hsem : DmaTarget.Typed (nD := nD) (τ := τ) (p := .tc) .hbm (.dma sm) (.here (stageM l q))}
    {k : PUnit → 𝕋 α} {Q : α → sProp 𝕄} :
    iprop(slotPt c (org c s j) j fullShare.left (allW m) ∗ rest c l q)
      ⊢ iprop((fly m c s p l q -∗ WP c (k ⟨⟩) Q) -∗ WP c (.op (.enqueueDma (slotM (org c s j) j) (.here (stageM l q)) (.dma sm) hsrc hdst hsem) k) Q) := by
  subst hsm
  unfold rest
  iintro ⟨Hs, ⟨Hv, ⟨%f, Hd⟩⟩⟩ Hk
  iapply (Transfers.wp_dmaLocal EC 𝒱₀ (c : Thread nD τ) none (src := slotM (org c s j) j) (dst := stageM l q) (Sd := (stageM l q).view.set) () NS rfl NS_pos (subset_refl _)) $$ [Hs Hv Hd]
  · isplitl [Hs]; · iexact Hs
    isplitl [Hd]; · iexact Hd
    iexact Hv
  iintro HF
  iapply Hk
  unfold fly
  iapply (Transfers.Flight_mono EC (c : Thread nD τ) (landed m c s p l q j hj f)) $$ HF

/-- A copy to a staging place, waited for. -/
theorem wp_copied (S : Finset (Fin 24)) (s : ℕ) (p : Fin 4) (l q : Fin 2) {sm : DmaSem sig} (hsm : sm = copyS l q)
    {v : Memref sig .tc .hbm S512x1024 .bf16} {hsrc : v.view.WordExact} {hdst : (stageM l q).view.WordExact} {k : PUnit → 𝕋 α} {Q : α → sProp 𝕄} :
    iprop(env m K c ∗ fly m c s p l q ∗ owing c S)
      ⊢ iprop(((semVal ((c : Thread nD τ), .dma (copyS l q)) 0 ∗ stagePt c l q (stg m c s p) ∗ owing c S) -∗ WP c (k ⟨⟩) Q)
        -∗ WP c (.op (.waitDma2 sm v (stageM l q) hsrc hdst) k) Q) := by
  subst hsm
  unfold owing fly
  iintro ⟨#He, Hf, ⟨%W, HO⟩⟩ Hk
  iapply (Transfers.wp_waitLocalO EC 𝒱₀ (c : Thread nD τ) none () (N := NS) (show (stageM l q).view.dmaCredit = NS from rfl)) $$ [Hf HO]
  · isplitl [Hf]; · iexact Hf
    isplitl [HO]; · iexact HO
    iapply (mayWait c (.dma (copyS l q)) S 0 (lv_copy c l q) (fun k' _ => by omega)); iapply (env_lev m K c); iexact He
  iintro ⟨HD, Hv, HO⟩
  iapply Hk
  isplitl [Hv]; · iexact Hv
  isplitl [HD]; · iexact HD
  iexists _; iexact HO

theorem wp_stageStart (s : ℕ) (p : Fin 4) (l q : Fin 2) (j : Fin 8) (hj : j.val = p.val + 4 * q.val) {v : Fin 4 → ℕ} (e : v = ![(org c s j).val, j.val, 0, 0])
    {hl hs hv hw hw'} {k : 𝕋 α} {Q : α → sProp 𝕄} :
    iprop(slotPt c (org c s j) j fullShare.left (allW m) ∗ rest c l q)
      ⊢ iprop((fly m c s p l q -∗ WP c k Q) -∗ WP c (stageStart l q v hl hs hv hw hw' k) Q) := by
  subst e
  unfold stageStart; exact wp_copy m c s p l q j hj (sem_copy l q) (k := fun _ => k)

theorem wp_stageWait (S : Finset (Fin 24)) (s : ℕ) (p : Fin 4) (l q : Fin 2) {v : Fin 4 → ℕ}
    {hl hs hv hw hw'} {k : 𝕋 α} {Q : α → sProp 𝕄} :
    iprop(env m K c ∗ fly m c s p l q ∗ owing c S)
      ⊢ iprop(((semVal ((c : Thread nD τ), .dma (copyS l q)) 0 ∗ stagePt c l q (stg m c s p) ∗ owing c S) -∗ WP c k Q)
        -∗ WP c (stageWait l q v hl hs hv hw hw' k) Q) := by
  unfold stageWait; exact wp_copied m K c S s p l q (sem_copy l q) (k := fun _ => k)

end Cert.Proof.KernelIdeal
end
-- ==== Proof.Trip.lean ====
module
public import proofs.«01_k».proof.Proof.Sync
@[expose] public section

/-! One step of the ring: its twelve parts, each with what it takes and what it leaves. -/

noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
variable {F : FTy → Type} [FloatOps F]

local notation "𝕄" => MT nD τ sig Unit (Elt F) ℕ UU ℕ
local notation "𝕋" => Prog (TpuEff nD τ sig (Elt F) Λ₀ (Proc.tc (τ := τ)))

variable (m : (ℓ : Loc nD τ sig) → Buf (Elt F) ℓ) (K : GSem nD τ sig → ℕ) (c : Dev nD)
variable {α : Type}

/-- A part of the body, on the call's own buffers. -/
abbrev onBuf {β : Type 1} (f : (arg0 : Memref sig .tc .vmem S2048x512 .f32) → (harg0 : arg0.IsWhole) → (arg1 : Memref sig .tc .vmem S512x32 .f32) → (harg1 : arg1.IsWhole) →
    (arg2 : Memref sig .tc .vmem S2048x2 .i32) → (harg2 : arg2.IsWhole) → (arg3 : Memref sig .tc .hbm S8x512x1024 .bf16) → (harg3 : arg3.IsWhole) →
    (arg4 : Memref sig .tc .vmem S2048x1024 .f32) → (harg4 : arg4.IsWhole) → (arg5 : Memref sig .tc .hbm S4x8x512x1024 .bf16) → (harg5 : arg5.IsWhole) →
    (arg6 : Memref sig .tc .vmem S2x2x512x1024 .bf16) → (harg6 : arg6.IsWhole) → DmaSems sig S2x2 → DmaSems sig S_ → DmaSems sig S3x2x4 → DmaSems sig S3x2x4 → β) : β :=
  f (Memref.whole cc0_stg0_0) (Memref.isWhole_whole _) (Memref.whole cc0_stg1_0) (Memref.isWhole_whole _) (Memref.whole cc0_stg2_0) (Memref.isWhole_whole _)
    (Memref.whole main_v1) (Memref.isWhole_whole _) (Memref.whole cc0_stg3_0) (Memref.isWhole_whole _) (Memref.whole main_v2_1) (Memref.isWhole_whole _)
    (Memref.whole cc0_scratch0) (Memref.isWhole_whole _) cc0_scratch1 cc0_scratch2 cc0_scratch3 cc0_scratch4

/-! ## The state between parts -/

/-- Every expert's holdings, and what is owed, at step `s` after the turns of `i` experts. -/
def ring (s i : ℕ) : sProp 𝕄 :=
  iprop((bigSep Finset.univ fun j : Fin 8 => bank m c (if turn j < i then s + 1 else s) j) ∗ owing c (left s i))
/-- Half of the slot that expert `j` is read from at step `s`. -/
def half (s : ℕ) (j : Fin 8) : sProp 𝕄 := slotPt c (org c s j) j fullShare.left (allW m)
/-- A staging place filled, its semaphore at rest. -/
def got (s : ℕ) (p : Fin 4) (l q : Fin 2) : sProp 𝕄 := iprop(semVal ((c : Thread nD τ), .dma (copyS l q)) 0 ∗ stagePt c l q (stg m c s p))
/-- The accumulator. -/
def outPt (f : S2048x1024.Idx → Elt F .f32) : sProp 𝕄 := ((Memref.whole cc0_stg3_0).view.loc (c : Thread nD τ) ↦[Finset.univ]{fullShare} f)

theorem turn_inj {j j' : Fin 8} (h : turn j = turn j') : j = j' := by revert j j'; decide

/-- A turn of an expert, in the state between parts. -/
theorem wp_turn (s : ℕ) (hs : s < 4) (j : Fin 8) (i : ℕ) (hi : i = turn j) {c1 c2 : BitVec 1} (hc1 : c1 = 1#1 ↔ 1 ≤ s) (hc2 : c2 = 1#1 ↔ s < 3)
    {ow os : Fin 3 → ℕ} {vw vs : Fin 4 → ℕ} {dv : ℕ} {how hvw hww hos hvs hws hd}
    (eow : ∀ h : Fin 3, s = h.val + 1 → ow = koff (tr h j)) (eos : ∀ h : Fin 3, s = h.val → os = koff (tr h j))
    (evs : vs = ![(org c s j).val, j.val, 0, 0]) (edv : dv = (nb c j).val) {k : 𝕋 α} {Q : α → sProp 𝕄} :
    iprop(env m K c ∗ ring m c s i)
      ⊢ iprop(((ring m c s (i + 1) ∗ half m c s j) -∗ WP c k Q) -∗ WP c (ringSync c1 c2 ow os vw vs dv how hvw hww hos hvs hws hd k) Q) := by
  subst hi
  unfold ring half
  iintro ⟨#He, ⟨HB, HO⟩⟩ Hk
  ihave HB := (bigSep_univ_update (M := 𝕄) (Φ := fun j' : Fin 8 => bank m c (if turn j' < turn j then s + 1 else s) j')
    (Ψ := fun j' : Fin 8 => bank m c (if turn j' < turn j + 1 then s + 1 else s) j') j (fun j' hj' => by
      have : turn j' ≠ turn j := fun h => hj' (turn_inj h)
      by_cases h : turn j' < turn j
      · rw [if_pos h, if_pos (by omega)]
      · rw [if_neg h, if_neg (by omega)])) $$ HB
  icases HB with ⟨HB, HR⟩
  rw [if_neg (lt_irrefl _), if_pos (Nat.lt_succ_self _)]
  iapply (wp_sync m K c s hs j (turn j) rfl hc1 hc2 eow eos evs edv) $$ [HB HO]
  · isplitr; · iexact He
    isplitl [HB]; · iexact HB
    iexact HO
  iintro ⟨HB, HS, HO⟩
  iapply Hk
  isplitl [HB HR HO]
  · isplitl [HB HR]
    · iapply HR; iexact HB
    iexact HO
  iexact HS

/-- The start of a copy of half a slot. -/
theorem wp_start (s : ℕ) (p : Fin 4) (l q : Fin 2) (j : Fin 8) (hj : j.val = p.val + 4 * q.val) {v : Fin 4 → ℕ} (e : v = ![(org c s j).val, j.val, 0, 0])
    {hl hs hv hw hw'} {k : 𝕋 α} {Q : α → sProp 𝕄} :
    iprop(half m c s j ∗ rest c l q) ⊢ iprop((fly m c s p l q -∗ WP c k Q) -∗ WP c (stageStart l q v hl hs hv hw hw' k) Q) :=
  wp_stageStart m c s p l q j hj e

/-- The wait for a copy, in the state between parts. -/
theorem wp_finish (s i : ℕ) (s' : ℕ) (p : Fin 4) (l q : Fin 2) {v : Fin 4 → ℕ} {hl hs hv hw hw'} {k : 𝕋 α} {Q : α → sProp 𝕄} :
    iprop(env m K c ∗ fly m c s' p l q ∗ ring m c s i)
      ⊢ iprop(((got m c s' p l q ∗ ring m c s i) -∗ WP c k Q) -∗ WP c (stageWait l q v hl hs hv hw hw' k) Q) := by
  unfold ring got
  iintro ⟨#He, HF, ⟨HB, HO⟩⟩ Hk
  iapply (wp_stageWait m K c (left s i) s' p l q) $$ [HF HO]
  · isplitr; · iexact He
    isplitl [HF]; · iexact HF
    iexact HO
  iintro ⟨HV, HD, HO⟩
  iapply Hk
  isplitl [HV HD]
  · isplitl [HV]; · iexact HV
    iexact HD
  isplitl [HB]; · iexact HB
  iexact HO

theorem got_rest (s : ℕ) (p : Fin 4) (l q : Fin 2) : got m c s p l q ⊢ (rest c l q : sProp 𝕄) := by
  unfold got rest
  iintro ⟨HV, HD⟩
  isplitl [HV]; · iexact HV
  iexists _; iexact HD

/-! ## Reading and writing -/

/-- The rectangle of staging slot `l`. -/
abbrev slotR (l : Fin 2) (h : ∀ a, (![l.val, 0, 0, 0] : Fin 4 → ℕ) a + S1x2x512x1024.size a ≤ S2x2x512x1024.size a) : Rect S2x2x512x1024 :=
  Rect.unit (s := S2x2x512x1024) ![l.val, 0, 0, 0] S1x2x512x1024.size h
/-- The pair of matrices that staging slot `l` holds. -/
def pair (s : ℕ) (p : Fin 4) (l : Fin 2) : S1x2x512x1024.Idx → Elt F .bf16 :=
  (Memref.whole cc0_scratch0).view.readAt (Elt F) (slotR l (by revert l; decide)).toLoadRect (stg m c s p)

theorem pair_sub (l : Fin 2) (h) : ((Memref.whole cc0_scratch0 : Memref sig .tc _ _ _).access (slotR l h)).set ⊆ (stageM l 0).view.set ∪ (stageM l 1).view.set := by
  intro i hi
  have hi := Rect.mem_set_unit.mp ((Eq.to_iff (congrArg (i ∈ ·) (View.set_slice_whole _ _))).mp hi)
  have h0 : (l.val ≤ (i 0).val) ∧ (i 0).val < l.val + 1 := hi 0
  have h1 : (i 1).val < 2 := (i 1).isLt
  have e0 : i 0 = l := Fin.ext (by omega)
  rw [Finset.mem_union]
  by_cases hz : (i 1).val = 0
  · exact .inl ((mem_stage l 0 i).mpr ⟨e0, Fin.ext hz⟩)
  · exact .inr ((mem_stage l 1 i).mpr ⟨e0, Fin.ext (by show (i 1).val = 1; omega)⟩)
theorem stage_disj (l : Fin 2) : Disjoint (stageM l 0).view.set (stageM l 1).view.set := by
  refine Finset.disjoint_left.mpr fun i h h' => ?_
  have h1 := ((mem_stage l 0 i).mp h).2
  have h2 := ((mem_stage l 1 i).mp h').2
  rw [h1] at h2; exact absurd (congrArg Fin.val h2) Nat.zero_ne_one

theorem stage_join (l : Fin 2) (f : S2x2x512x1024.Idx → Elt F .bf16) :
    iprop(stagePt c l 0 f ∗ stagePt c l 1 f)
      = ((Memref.whole cc0_scratch0).view.loc (c : Thread nD τ) ↦[((stageM l 0).view.set ∪ (stageM l 1).view.set : Finset S2x2x512x1024.Idx)]{fullShare} f : sProp 𝕄) :=
  Idealize.SL.BI.Entails.antisymm (pointsTo_union (ℓ := (Memref.whole cc0_scratch0).view.loc (c : Thread nD τ)) (stage_disj l)).2
    (pointsTo_union (ℓ := (Memref.whole cc0_scratch0).view.loc (c : Thread nD τ)) (stage_disj l)).1

/-- A pair read while both places are filled. -/
theorem wp_pair (s : ℕ) (p : Fin 4) (l : Fin 2) {h hl} {k : (S1x2x512x1024.Idx → Elt F .bf16) → 𝕋 α} {Q : α → sProp 𝕄} :
    iprop(got m c s p l 0 ∗ got m c s p l 1)
      ⊢ iprop(((got m c s p l 0 ∗ got m c s p l 1) -∗ WP c (k (pair m c s p l)) Q)
        -∗ WP c (.op (.load (Memref.whole cc0_scratch0) (slotR l h).toLoadRect hl) k) Q) := by
  unfold got
  iintro ⟨⟨Hv, H⟩, ⟨Hv', H'⟩⟩ Hk
  ihave H := (Entails.of_eq (stage_join c l (stg m c s p))) $$ [H H']
  · isplitl [H]; · iexact H
    iexact H'
  iapply (wp_load_rect 𝒱₀ (c : Thread nD τ) none Set.univ (m := Memref.whole cc0_scratch0) (r := slotR l h) (f := stg m c s p) (pair_sub l h)) $$ H
  iintro H
  ihave H := (Entails.of_eq (stage_join c l (stg m c s p)).symm) $$ H
  icases H with ⟨H, H'⟩
  iapply Hk
  isplitl [Hv H]
  · isplitl [Hv]; · iexact Hv
    iexact H
  isplitl [Hv']; · iexact Hv'
  iexact H'

/-- The accumulator read. -/
theorem wp_outLoad (f : S2048x1024.Idx → Elt F .f32) {h hl} {k : (S2048x1024.Idx → Elt F .f32) → 𝕋 α} {Q : α → sProp 𝕄} :
    outPt c f ⊢ iprop((outPt c f -∗ WP c (k f) Q)
        -∗ WP c (.op (.load (Memref.whole cc0_stg3_0) (Rect.unit (s := S2048x1024) ![0, 0] S2048x1024.size h).toLoadRect hl) k) Q) := by
  unfold outPt
  iintro H Hk
  iapply (wp_load 𝒱₀ (c : Thread nD τ) none Set.univ (Finset.subset_univ _)) $$ H
  iintro H
  have e : (Memref.whole cc0_stg3_0 : Memref sig .tc _ _ _).view.readAt (Elt F) (Rect.unit (s := S2048x1024) ![0, 0] S2048x1024.size h).toLoadRect f = f :=
    Memref.readAt_unit_zero (Elt F) cc0_stg3_0 (by funext a; revert a; decide) _ _
  rw [e]
  iapply Hk; iexact H

/-- The accumulator written. -/
theorem wp_outStore (f w : S2048x1024.Idx → Elt F .f32) {h hx hm} {k : PUnit → 𝕋 α} {Q : α → sProp 𝕄} :
    outPt c f ⊢ iprop((outPt c w -∗ WP c (k ⟨⟩) Q)
        -∗ WP c (.op (.store (Memref.whole cc0_stg3_0) (Rect.unit (s := S2048x1024) ![0, 0] S2048x1024.size h) w Finset.univ hx hm) k) Q) := by
  unfold outPt
  iintro H Hk
  iapply (wp_store 𝒱₀ (c : Thread nD τ) none Set.univ (m := Memref.whole cc0_stg3_0) (r := Rect.unit (s := S2048x1024) ![0, 0] S2048x1024.size h) (f := f) (Finset.subset_univ _)) $$ H
  iintro H
  iapply Hk
  have e : ((Memref.whole cc0_stg3_0 : Memref sig .tc _ _ _).access (Rect.unit (s := S2048x1024) ![0, 0] S2048x1024.size h)).write (Elt F) f w Finset.univ = w :=
    Memref.write_access_unit_zero_univ (Elt F) cc0_stg3_0 (by funext a; revert a; decide) _ _ _
  rw [e]
  iexact H

/-- A run of a program is a run of the same program in another form. -/
theorem wp_form {P X : sProp 𝕄} {Q : α → sProp 𝕄} {p p' : 𝕋 α} (e : p = p') (h : P ⊢ iprop(X -∗ WP c p' Q)) : P ⊢ iprop(X -∗ WP c p Q) := e ▸ h

/-- A part, then what follows it. -/
theorem wp_seq {β : Type} {p : 𝕋 β} {k : β → 𝕋 α} {Q : α → sProp 𝕄} : WP c p (fun a => WP c (k a) Q) ⊢ WP c (p >>= k) Q := by
  show _ ⊢ wp _ _ _ (p >>= k) Q
  rw [wp_bind]

/-- The end of a part. -/
theorem wp_done {Q : α → sProp 𝕄} (a : α) : Q a ⊢ WP c (.ret a) Q := by
  show Q a ⊢ wp _ _ _ (.ret a) Q
  rw [wp_ret]; iintro H; imodintro; iexact H

variable (f : S2048x1024.Idx → Elt F .f32)

/-- The second place of a pair waited for, the pair and the accumulator read: the end of parts 4, 7 and 10. -/
theorem wp_read (s i : ℕ) (p : Fin 4) (l : Fin 2) {v : Fin 4 → ℕ} {hl hs hv hw hw' h h' hl' hl''} {k : (S1x2x512x1024.Idx → Elt F .bf16) → (S2048x1024.Idx → Elt F .f32) → 𝕋 α} {Q : α → sProp 𝕄} :
    iprop(env m K c ∗ ring m c s i ∗ got m c s p l 0 ∗ fly m c s p l 1 ∗ outPt c f)
      ⊢ iprop(((ring m c s i ∗ rest c l 0 ∗ rest c l 1 ∗ outPt c f) -∗ WP c (k (pair m c s p l) f) Q)
        -∗ WP c (stageWait l 1 v hl hs hv hw hw' (.op (.load (Memref.whole cc0_scratch0) (slotR l h).toLoadRect hl') fun w =>
            .op (.load (Memref.whole cc0_stg3_0) (Rect.unit (s := S2048x1024) ![0, 0] S2048x1024.size h').toLoadRect hl'') fun f => k w f)) Q) := by
  iintro ⟨#He, HR, H0, H1, HO⟩ Hk
  iapply (wp_finish m K c s i s p l 1) $$ [HR H1]
  · isplitr; · iexact He
    isplitl [H1]; · iexact H1
    iexact HR
  iintro ⟨H1, HR⟩
  iapply (wp_pair m c s p l) $$ [H0 H1]
  · isplitl [H0]; · iexact H0
    iexact H1
  iintro ⟨H0, H1⟩
  iapply (wp_outLoad c f) $$ HO
  iintro HO
  iapply Hk
  isplitl [HR]; · iexact HR
  isplitl [H0]; · iapply (got_rest m c s p l 0); iexact H0
  isplitl [H1]; · iapply (got_rest m c s p l 1); iexact H1
  iexact HO

end Cert.Proof.KernelIdeal
end
-- ==== Proof.Parts.lean ====
module
public import proofs.«01_k».proof.Proof.Trip
@[expose] public section

/-! The twelve parts of one step of the ring, each with what it takes and what it leaves. -/

noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
variable {F : FTy → Type} [FloatOps F]

local notation "𝕄" => MT nD τ sig Unit (Elt F) ℕ UU ℕ
local notation "𝕋" => Prog (TpuEff nD τ sig (Elt F) Λ₀ (Proc.tc (τ := τ)))

variable (m : (ℓ : Loc nD τ sig) → Buf (Elt F) ℓ) (K : GSem nD τ sig → ℕ) (c : Dev nD)
variable {α : Type}

variable (v2 v5 v7 : BitVec 32) (t : Fin k0_t1_loop.trips)
theorem trip_lt : t.val < 4 := trips1 ▸ t.isLt

set_option maxRecDepth 65536 in
theorem wp_part1 {Q : BitVec 32 → sProp 𝕄} :
    iprop(env m K c ∗ ring m c t.val 0 ∗ rest c 0 0)
      ⊢ iprop(((ring m c t.val 2 ∗ half m c t.val 4 ∗ fly m c t.val 0 0 0) -∗ Q (Scf.iv 0#32 1#32 t))
        -∗ WP c (onBuf (k0_part1 (F := F)) c v2 v5 v7 0#32 1#32 t) Q) := by
  rw [k0_part1_eq_skeleton]
  refine wp_form c (p' := ringSync _ _ _ _ _ _ _ _ _ _ _ _ _ _ (stageStart 0 0 _ _ _ _ _ _ (ringSync _ _ _ _ _ _ _ _ _ _ _ _ _ _ (.ret (Scf.iv 0#32 1#32 t))))) rfl ?_
  iintro ⟨#He, HR, H00⟩ Hk
  iapply (wp_turn m K c t.val (trip_lt t) 0 0 (by decide) (sync0_c1 t) (sync0_c2 t) (sync0_wait t) (sync0_send t) (sync0_off c t) (sync0_dev c)) $$ [HR]
  · isplitr; · iexact He
    iexact HR
  iintro ⟨HR, HH⟩
  iapply (wp_start m c t.val 0 0 0 0 rfl (sync0_src c t)) $$ [HH H00]
  · isplitl [HH]; · iexact HH
    iexact H00
  iintro HF
  iapply (wp_turn m K c t.val (trip_lt t) 4 1 (by decide) (sync1_c1 t) (sync1_c2 t) (sync1_wait t) (sync1_send t) (sync1_off c t) (sync1_dev c)) $$ [HR]
  · isplitr; · iexact He
    iexact HR
  iintro ⟨HR, HH⟩
  iapply (wp_done c) $$ [Hk HR HH HF]
  iapply Hk
  isplitl [HR]; · iexact HR
  isplitl [HH]; · iexact HH
  iexact HF

set_option maxRecDepth 65536 in
theorem wp_part2 {Q : PUnit → sProp 𝕄} (a : BitVec 32) :
    iprop(env m K c ∗ ring m c t.val 2 ∗ half m c t.val 4 ∗ rest c 0 1 ∗ rest c 1 0)
      ⊢ iprop(((ring m c t.val 4 ∗ half m c t.val 5 ∗ fly m c t.val 0 0 1 ∗ fly m c t.val 1 1 0) -∗ Q ⟨⟩)
        -∗ WP c (onBuf (k0_part2 (F := F)) c v2 v5 v7 t a) Q) := by
  rw [k0_part2_eq_skeleton]
  refine wp_form c (p' := stageStart 0 1 _ _ _ _ _ _ (ringSync _ _ _ _ _ _ _ _ _ _ _ _ _ _ (stageStart 1 0 _ _ _ _ _ _ (ringSync _ _ _ _ _ _ _ _ _ _ _ _ _ _ (.ret ⟨⟩))))) rfl ?_
  iintro ⟨#He, HR, HH, H01, H10⟩ Hk
  iapply (wp_start m c t.val 0 0 1 4 rfl (sync1_src c t)) $$ [HH H01]
  · isplitl [HH]; · iexact HH
    iexact H01
  iintro H01
  iapply (wp_turn m K c t.val (trip_lt t) 1 2 (by decide) (sync2_c1 t) (sync2_c2 t) (sync2_wait t) (sync2_send t) (sync2_off c t) (sync2_dev c)) $$ [HR]
  · isplitr; · iexact He
    iexact HR
  iintro ⟨HR, HH⟩
  iapply (wp_start m c t.val 1 1 0 1 rfl (sync2_src c t)) $$ [HH H10]
  · isplitl [HH]; · iexact HH
    iexact H10
  iintro H10
  iapply (wp_turn m K c t.val (trip_lt t) 5 3 (by decide) (sync3_c1 t) (sync3_c2 t) (sync3_wait t) (sync3_send t) (sync3_off c t) (sync3_dev c)) $$ [HR]
  · isplitr; · iexact He
    iexact HR
  iintro ⟨HR, HH⟩
  iapply (wp_done c)
  iapply Hk
  isplitl [HR]; · iexact HR
  isplitl [HH]; · iexact HH
  isplitl [H01]; · iexact H01
  iexact H10

set_option maxRecDepth 65536 in
theorem wp_part3 {Q : PUnit → sProp 𝕄} (a : BitVec 32) :
    iprop(env m K c ∗ ring m c t.val 4 ∗ half m c t.val 5 ∗ rest c 1 1 ∗ fly m c t.val 0 0 0)
      ⊢ iprop(((ring m c t.val 4 ∗ fly m c t.val 1 1 1 ∗ got m c t.val 0 0 0) -∗ Q ⟨⟩)
        -∗ WP c (onBuf (k0_part3 (F := F)) c v2 t a) Q) := by
  rw [k0_part3_eq_skeleton]
  refine wp_form c (p' := stageStart 1 1 _ _ _ _ _ _ (stageWait 0 0 _ _ _ _ _ _ (.ret ⟨⟩))) rfl ?_
  iintro ⟨#He, HR, HH, H11, H00⟩ Hk
  iapply (wp_start m c t.val 1 1 1 5 rfl (sync3_src c t)) $$ [HH H11]
  · isplitl [HH]; · iexact HH
    iexact H11
  iintro H11
  iapply (wp_finish m K c t.val 4 t.val 0 0 0) $$ [HR H00]
  · isplitr; · iexact He
    isplitl [H00]; · iexact H00
    iexact HR
  iintro ⟨H00, HR⟩
  iapply (wp_done c)
  iapply Hk
  isplitl [HR]; · iexact HR
  isplitl [H11]; · iexact H11
  iexact H00

variable (v191 v192 : IVec S2048x1 32) (v207 v208 : FVec F S2048x1 .f32) (v209 : FVec F S2048x512 .bf16) (f : S2048x1024.Idx → Elt F .f32)

set_option maxRecDepth 65536 in
theorem wp_part4 {Q : (Σ' (_ : FVec F S2048x1024 .bf16) (_ : FVec F S1024x1024 .bf16) (_ : FVec F S2048x1024 .f32), FVec F S2048x1024 .f32) → sProp 𝕄} (a : BitVec 32) :
    iprop(env m K c ∗ ring m c t.val 4 ∗ got m c t.val 0 0 0 ∗ fly m c t.val 0 0 1 ∗ outPt c f)
      ⊢ iprop(((ring m c t.val 4 ∗ rest c 0 0 ∗ rest c 0 1 ∗ outPt c f)
          -∗ Q ⟨k0_pay8 v2 v191 v192 v207 v208 v209 a, k0_pay9 (pair m c t.val 0 0), k0_pay10 f, constant S2048x1024 .f32 0x00000000#32⟩)
        -∗ WP c (onBuf (k0_part4 (F := F)) c v2 v191 v192 v207 v208 v209 t a) Q) := by
  rw [k0_part4_eq_skeleton]
  refine wp_form c (p' := stageWait 0 1 _ _ _ _ _ _ (.op (.load (Memref.whole cc0_scratch0) (slotR 0 _).toLoadRect _) fun w =>
    .op (.load (Memref.whole cc0_stg3_0) (Rect.unit (s := S2048x1024) ![0, 0] S2048x1024.size _).toLoadRect _) fun f =>
      .ret ⟨k0_pay8 v2 v191 v192 v207 v208 v209 a, k0_pay9 w, k0_pay10 f, constant S2048x1024 .f32 0x00000000#32⟩)) rfl ?_
  iintro H Hk
  iapply (wp_read m K c f t.val 4 0 0) $$ H
  iintro H
  iapply (wp_done c)
  iapply Hk; iexact H

set_option maxRecDepth 65536 in
theorem wp_part5 {Q : PUnit → sProp 𝕄} (a : BitVec 32) (x1 : FVec F S2048x1024 .bf16) (x2 : FVec F S1024x1024 .bf16) (x3 x4 : FVec F S2048x1024 .f32) :
    iprop(env m K c ∗ ring m c t.val 4 ∗ rest c 0 0 ∗ outPt c f)
      ⊢ iprop(((ring m c t.val 6 ∗ half m c t.val 6 ∗ fly m c t.val 2 0 0 ∗ outPt c (k0_pay11 x1 x2 x3 x4)) -∗ Q ⟨⟩)
        -∗ WP c (onBuf (k0_part5 (F := F)) c v2 v5 v7 t a x1 x2 x3 x4) Q) := by
  rw [k0_part5_eq_skeleton]
  refine wp_form c (p' := .op (.load (Memref.whole cc0_stg3_0) (Rect.unit (s := S2048x1024) ![0, 0] S2048x1024.size _).toLoadRect _) fun _ =>
    .op (.store (Memref.whole cc0_stg3_0) (Rect.unit (s := S2048x1024) ![0, 0] S2048x1024.size _) (k0_pay11 x1 x2 x3 x4) Finset.univ _ _) fun _ =>
      (ringSync _ _ _ _ _ _ _ _ _ _ _ _ _ _ (stageStart 0 0 _ _ _ _ _ _ (ringSync _ _ _ _ _ _ _ _ _ _ _ _ _ _ (.ret ⟨⟩))))) rfl ?_
  iintro ⟨#He, HR, H00, HO⟩ Hk
  iapply (wp_outLoad c f) $$ HO
  iintro HO
  iapply (wp_outStore c f) $$ HO
  iintro HO
  iapply (wp_turn m K c t.val (trip_lt t) 2 4 (by decide) (sync4_c1 t) (sync4_c2 t) (sync4_wait t) (sync4_send t) (sync4_off c t) (sync4_dev c)) $$ [HR]
  · isplitr; · iexact He
    iexact HR
  iintro ⟨HR, HH⟩
  iapply (wp_start m c t.val 2 0 0 2 rfl (sync4_src c t)) $$ [HH H00]
  · isplitl [HH]; · iexact HH
    iexact H00
  iintro H00
  iapply (wp_turn m K c t.val (trip_lt t) 6 5 (by decide) (sync5_c1 t) (sync5_c2 t) (sync5_wait t) (sync5_send t) (sync5_off c t) (sync5_dev c)) $$ [HR]
  · isplitr; · iexact He
    iexact HR
  iintro ⟨HR, HH⟩
  iapply (wp_done c)
  iapply Hk
  isplitl [HR]; · iexact HR
  isplitl [HH]; · iexact HH
  isplitl [H00]; · iexact H00
  iexact HO

set_option maxRecDepth 65536 in
theorem wp_part6 {Q : PUnit → sProp 𝕄} (a : BitVec 32) :
    iprop(env m K c ∗ ring m c t.val 6 ∗ half m c t.val 6 ∗ rest c 0 1 ∗ fly m c t.val 1 1 0)
      ⊢ iprop(((ring m c t.val 6 ∗ fly m c t.val 2 0 1 ∗ got m c t.val 1 1 0) -∗ Q ⟨⟩)
        -∗ WP c (onBuf (k0_part6 (F := F)) c v2 t a) Q) := by
  rw [k0_part6_eq_skeleton]
  refine wp_form c (p' := stageStart 0 1 _ _ _ _ _ _ (stageWait 1 0 _ _ _ _ _ _ (.ret ⟨⟩))) rfl ?_
  iintro ⟨#He, HR, HH, H01, H10⟩ Hk
  iapply (wp_start m c t.val 2 0 1 6 rfl (sync5_src c t)) $$ [HH H01]
  · isplitl [HH]; · iexact HH
    iexact H01
  iintro H01
  iapply (wp_finish m K c t.val 6 t.val 1 1 0) $$ [HR H10]
  · isplitr; · iexact He
    isplitl [H10]; · iexact H10
    iexact HR
  iintro ⟨H10, HR⟩
  iapply (wp_done c)
  iapply Hk
  isplitl [HR]; · iexact HR
  isplitl [H01]; · iexact H01
  iexact H10

set_option maxRecDepth 65536 in
theorem wp_part7 {Q : (Σ' (_ : FVec F S2048x1024 .bf16) (_ : FVec F S1024x1024 .bf16), FVec F S2048x1024 .f32) → sProp 𝕄} (a : BitVec 32) :
    iprop(env m K c ∗ ring m c t.val 6 ∗ got m c t.val 1 1 0 ∗ fly m c t.val 1 1 1 ∗ outPt c f)
      ⊢ iprop(((ring m c t.val 6 ∗ rest c 1 0 ∗ rest c 1 1 ∗ outPt c f)
          -∗ Q ⟨k0_pay12 v2 v191 v192 v207 v208 v209 a, k0_pay13 (pair m c t.val 1 1), k0_pay14 f⟩)
        -∗ WP c (onBuf (k0_part7 (F := F)) c v2 v191 v192 v207 v208 v209 t a) Q) := by
  rw [k0_part7_eq_skeleton]
  refine wp_form c (p' := stageWait 1 1 _ _ _ _ _ _ (.op (.load (Memref.whole cc0_scratch0) (slotR 1 _).toLoadRect _) fun w =>
    .op (.load (Memref.whole cc0_stg3_0) (Rect.unit (s := S2048x1024) ![0, 0] S2048x1024.size _).toLoadRect _) fun f =>
      .ret ⟨k0_pay12 v2 v191 v192 v207 v208 v209 a, k0_pay13 w, k0_pay14 f⟩)) rfl ?_
  iintro H Hk
  iapply (wp_read m K c f t.val 6 1 1) $$ H
  iintro H
  iapply (wp_done c)
  iapply Hk; iexact H

set_option maxRecDepth 65536 in
theorem wp_part8 {Q : PUnit → sProp 𝕄} (a : BitVec 32) (x1 : FVec F S2048x1024 .bf16) (x2 : FVec F S1024x1024 .bf16) (x3 : FVec F S2048x1024 .f32) :
    iprop(env m K c ∗ ring m c t.val 6 ∗ rest c 1 0 ∗ outPt c f)
      ⊢ iprop(((ring m c t.val 8 ∗ half m c t.val 7 ∗ fly m c t.val 3 1 0 ∗ outPt c (k0_pay15 x1 x2 x3)) -∗ Q ⟨⟩)
        -∗ WP c (onBuf (k0_part8 (F := F)) c v2 v5 v7 t a x1 x2 x3) Q) := by
  rw [k0_part8_eq_skeleton]
  refine wp_form c (p' := .op (.load (Memref.whole cc0_stg3_0) (Rect.unit (s := S2048x1024) ![0, 0] S2048x1024.size _).toLoadRect _) fun _ =>
    .op (.store (Memref.whole cc0_stg3_0) (Rect.unit (s := S2048x1024) ![0, 0] S2048x1024.size _) (k0_pay15 x1 x2 x3) Finset.univ _ _) fun _ =>
      (ringSync _ _ _ _ _ _ _ _ _ _ _ _ _ _ (stageStart 1 0 _ _ _ _ _ _ (ringSync _ _ _ _ _ _ _ _ _ _ _ _ _ _ (.ret ⟨⟩))))) rfl ?_
  iintro ⟨#He, HR, H10, HO⟩ Hk
  iapply (wp_outLoad c f) $$ HO
  iintro HO
  iapply (wp_outStore c f) $$ HO
  iintro HO
  iapply (wp_turn m K c t.val (trip_lt t) 3 6 (by decide) (sync6_c1 t) (sync6_c2 t) (sync6_wait t) (sync6_send t) (sync6_off c t) (sync6_dev c)) $$ [HR]
  · isplitr; · iexact He
    iexact HR
  iintro ⟨HR, HH⟩
  iapply (wp_start m c t.val 3 1 0 3 rfl (sync6_src c t)) $$ [HH H10]
  · isplitl [HH]; · iexact HH
    iexact H10
  iintro H10
  iapply (wp_turn m K c t.val (trip_lt t) 7 7 (by decide) (sync7_c1 t) (sync7_c2 t) (sync7_wait t) (sync7_send t) (sync7_off c t) (sync7_dev c)) $$ [HR]
  · isplitr; · iexact He
    iexact HR
  iintro ⟨HR, HH⟩
  iapply (wp_done c)
  iapply Hk
  isplitl [HR]; · iexact HR
  isplitl [HH]; · iexact HH
  isplitl [H10]; · iexact H10
  iexact HO

set_option maxRecDepth 65536 in
theorem wp_part9 {Q : PUnit → sProp 𝕄} (a : BitVec 32) :
    iprop(env m K c ∗ ring m c t.val 8 ∗ half m c t.val 7 ∗ rest c 1 1 ∗ fly m c t.val 2 0 0)
      ⊢ iprop(((ring m c t.val 8 ∗ fly m c t.val 3 1 1 ∗ got m c t.val 2 0 0) -∗ Q ⟨⟩)
        -∗ WP c (onBuf (k0_part9 (F := F)) c v2 t a) Q) := by
  rw [k0_part9_eq_skeleton]
  refine wp_form c (p' := stageStart 1 1 _ _ _ _ _ _ (stageWait 0 0 _ _ _ _ _ _ (.ret ⟨⟩))) rfl ?_
  iintro ⟨#He, HR, HH, H11, H00⟩ Hk
  iapply (wp_start m c t.val 3 1 1 7 rfl (sync7_src c t)) $$ [HH H11]
  · isplitl [HH]; · iexact HH
    iexact H11
  iintro H11
  iapply (wp_finish m K c t.val 8 t.val 2 0 0) $$ [HR H00]
  · isplitr; · iexact He
    isplitl [H00]; · iexact H00
    iexact HR
  iintro ⟨H00, HR⟩
  iapply (wp_done c)
  iapply Hk
  isplitl [HR]; · iexact HR
  isplitl [H11]; · iexact H11
  iexact H00

set_option maxRecDepth 65536 in
theorem wp_part10 {Q : (Σ' (_ : FVec F S2048x1024 .bf16) (_ : FVec F S1024x1024 .bf16), Vec F S2048x1024 .f32) → sProp 𝕄} (a : BitVec 32) :
    iprop(env m K c ∗ ring m c t.val 8 ∗ got m c t.val 2 0 0 ∗ fly m c t.val 2 0 1 ∗ outPt c f)
      ⊢ iprop(((ring m c t.val 8 ∗ rest c 0 0 ∗ rest c 0 1 ∗ outPt c f)
          -∗ Q ⟨k0_pay16 v2 v191 v192 v207 v208 v209 a, k0_pay17 (pair m c t.val 2 0), f⟩)
        -∗ WP c (onBuf (k0_part10 (F := F)) c v2 v191 v192 v207 v208 v209 t a) Q) := by
  rw [k0_part10_eq_skeleton]
  refine wp_form c (p' := stageWait 0 1 _ _ _ _ _ _ (.op (.load (Memref.whole cc0_scratch0) (slotR 0 _).toLoadRect _) fun w =>
    .op (.load (Memref.whole cc0_stg3_0) (Rect.unit (s := S2048x1024) ![0, 0] S2048x1024.size _).toLoadRect _) fun f =>
      .ret ⟨k0_pay16 v2 v191 v192 v207 v208 v209 a, k0_pay17 w, f⟩)) rfl ?_
  iintro H Hk
  iapply (wp_read m K c f t.val 8 2 0) $$ H
  iintro H
  iapply (wp_done c)
  iapply Hk; iexact H

set_option maxRecDepth 65536 in
theorem wp_part11 {Q : PUnit → sProp 𝕄} (a : BitVec 32) (x1 : FVec F S2048x1024 .bf16) (x2 : FVec F S1024x1024 .bf16) (x3 : Vec F S2048x1024 .f32) :
    iprop(env m K c ∗ ring m c t.val 8 ∗ fly m c t.val 3 1 0 ∗ fly m c t.val 3 1 1 ∗ outPt c f)
      ⊢ iprop(((ring m c t.val 8 ∗ got m c t.val 3 1 0 ∗ got m c t.val 3 1 1 ∗ outPt c (k0_pay18 x1 x2 x3)) -∗ Q ⟨⟩)
        -∗ WP c (onBuf (k0_part11 (F := F)) c v2 t a x1 x2 x3) Q) := by
  rw [k0_part11_eq_skeleton]
  refine wp_form c (p' := .op (.load (Memref.whole cc0_stg3_0) (Rect.unit (s := S2048x1024) ![0, 0] S2048x1024.size _).toLoadRect _) fun _ =>
    .op (.store (Memref.whole cc0_stg3_0) (Rect.unit (s := S2048x1024) ![0, 0] S2048x1024.size _) (k0_pay18 x1 x2 x3) Finset.univ _ _) fun _ =>
      (stageWait 1 0 _ _ _ _ _ _ (stageWait 1 1 _ _ _ _ _ _ (.ret ⟨⟩)))) rfl ?_
  iintro ⟨#He, HR, H10, H11, HO⟩ Hk
  iapply (wp_outLoad c f) $$ HO
  iintro HO
  iapply (wp_outStore c f) $$ HO
  iintro HO
  iapply (wp_finish m K c t.val 8 t.val 3 1 0) $$ [HR H10]
  · isplitr; · iexact He
    isplitl [H10]; · iexact H10
    iexact HR
  iintro ⟨H10, HR⟩
  iapply (wp_finish m K c t.val 8 t.val 3 1 1) $$ [HR H11]
  · isplitr; · iexact He
    isplitl [H11]; · iexact H11
    iexact HR
  iintro ⟨H11, HR⟩
  iapply (wp_done c)
  iapply Hk
  isplitl [HR]; · iexact HR
  isplitl [H10]; · iexact H10
  isplitl [H11]; · iexact H11
  iexact HO

set_option maxRecDepth 65536 in
theorem wp_part12 {Q : (Σ' (_ : FVec F S2048x1024 .f32), FVec F S2048x1024 .f32) → sProp 𝕄} (a : BitVec 32) :
    iprop(got m c t.val 3 1 0 ∗ got m c t.val 3 1 1 ∗ outPt c f)
      ⊢ iprop(((rest c 1 0 ∗ rest c 1 1 ∗ outPt c f)
          -∗ Q ⟨k0_pay19 f, k0_pay20 v2 v191 v192 v207 v208 v209 a (pair m c t.val 3 1)⟩)
        -∗ WP c (onBuf (k0_part12 (F := F)) v2 v191 v192 v207 v208 v209 a) Q) := by
  rw [k0_part12_eq_skeleton]
  refine wp_form c (p' := .op (.load (Memref.whole cc0_scratch0) (slotR 1 _).toLoadRect _) fun w =>
    .op (.load (Memref.whole cc0_stg3_0) (Rect.unit (s := S2048x1024) ![0, 0] S2048x1024.size _).toLoadRect _) fun f =>
      .ret ⟨k0_pay19 f, k0_pay20 v2 v191 v192 v207 v208 v209 a w⟩) rfl ?_
  iintro ⟨H0, H1, HO⟩ Hk
  iapply (wp_pair m c t.val 3 1) $$ [H0 H1]
  · isplitl [H0]; · iexact H0
    iexact H1
  iintro ⟨H0, H1⟩
  iapply (wp_outLoad c f) $$ HO
  iintro HO
  iapply (wp_done c)
  iapply Hk
  isplitl [H0]; · iapply (got_rest m c t.val 3 1 0); iexact H0
  isplitl [H1]; · iapply (got_rest m c t.val 3 1 1); iexact H1
  iexact HO

end Cert.Proof.KernelIdeal
end
-- ==== Proof.Loop.lean ====
module
public import proofs.«01_k».proof.Proof.Parts
@[expose] public section

/-! One whole step of the ring, and the loop over its four steps. -/

noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
variable {F : FTy → Type} [FloatOps F]

local notation "𝕄" => MT nD τ sig Unit (Elt F) ℕ UU ℕ
local notation "𝕋" => Prog (TpuEff nD τ sig (Elt F) Λ₀ (Proc.tc (τ := τ)))

variable (m : (ℓ : Loc nD τ sig) → Buf (Elt F) ℓ) (K : GSem nD τ sig → ℕ) (c : Dev nD)
variable {α : Type}
variable (v2 v5 v7 : BitVec 32) (v176 : FVec F S2048x512 .f32) (v188 : FVec F S2048x32 .f32) (v191 v192 : IVec S2048x1 32) (v199 : FVec F S2048x1 .f32) (v201 : IVec S2048x32 1)

/-- The accumulator after one step, from what it held and the four pairs of matrices. -/
def stepv (a : BitVec 32) (w0 w1 w2 w3 : S1x2x512x1024.Idx → Elt F .bf16) (f : S2048x1024.Idx → Elt F .f32) : S2048x1024.Idx → Elt F .f32 :=
  let g := k0_pay3 v188 v199 v201
  let h := k0_pay4 v188 v199 v201
  let x := k0_pay5 v176
  let f1 := k0_pay11 (k0_pay8 v2 v191 v192 g h x a) (k0_pay9 w0) (k0_pay10 f) (constant S2048x1024 .f32 0x00000000#32)
  let f2 := k0_pay15 (k0_pay12 v2 v191 v192 g h x a) (k0_pay13 w1) (k0_pay14 f1)
  let f3 := k0_pay18 (k0_pay16 v2 v191 v192 g h x a) (k0_pay17 w2) f2
  k0_pay7 (k0_pay19 f3) (k0_pay20 v2 v191 v192 g h x a w3)

/-- The accumulator before step `n`. -/
def accv : ℕ → S2048x1024.Idx → Elt F .f32
  | 0 => k0_pay6
  | n + 1 => stepv v2 v176 v188 v191 v192 v199 v201 (Scf.iv 0#32 1#32 n) (pair m c n 0 0) (pair m c n 1 1) (pair m c n 2 0) (pair m c n 3 1) (accv n)

/-- The four staging places at rest. -/
def rests : sProp 𝕄 := iprop(rest c 0 0 ∗ rest c 0 1 ∗ rest c 1 0 ∗ rest c 1 1)

/-- What holds before step `n`. -/
def before (n : ℕ) : sProp 𝕄 := iprop(ring m c n 0 ∗ rests c ∗ outPt c (accv m c v2 v176 v188 v191 v192 v199 v201 n))

/-- The end of a step is the beginning of the next. -/
theorem ring_next (s : ℕ) (hs : s < 4) : ring m c s 8 ⊢ ring m c (s + 1) 0 := by
  unfold ring
  rw [left_next s hs]
  simp only [Nat.not_lt_zero, if_false, show ∀ j : Fin 8, turn j < 8 from by decide, if_true]
  exact .rfl

set_option maxRecDepth 65536 in
theorem wp_trip (t : Fin k0_t1_loop.trips) (u : Unit) :
    iprop(env m K c ∗ before m c v2 v176 v188 v191 v192 v199 v201 t.val)
      ⊢ WP c (onBuf (k0_t1_body (F := F)) c v2 v5 v7 v176 v188 v191 v192 v199 v201 t u) (fun _ => before m c v2 v176 v188 v191 v192 v199 v201 (t.val + 1)) := by
  unfold onBuf k0_t1_body before rests
  iintro ⟨#He, HR, ⟨R00, R01, R10, R11⟩, HO⟩
  iapply (wp_seq c)
  iapply (wp_part1 m K c v2 v5 v7 t) $$ [HR R00]
  · isplitr; · iexact He
    isplitl [HR]; · iexact HR
    iexact R00
  iintro ⟨HR, HH, F00⟩
  iapply (wp_seq c)
  iapply (wp_part2 m K c v2 v5 v7 t) $$ [HR HH R01 R10]
  · isplitr; · iexact He
    isplitl [HR]; · iexact HR
    isplitl [HH]; · iexact HH
    isplitl [R01]; · iexact R01
    iexact R10
  iintro ⟨HR, HH, F01, F10⟩
  iapply (wp_seq c)
  iapply (wp_part3 m K c v2 t) $$ [HR HH R11 F00]
  · isplitr; · iexact He
    isplitl [HR]; · iexact HR
    isplitl [HH]; · iexact HH
    isplitl [R11]; · iexact R11
    iexact F00
  iintro ⟨HR, F11, G00⟩
  iapply (wp_seq c)
  iapply (wp_part4 m K c v2 t v191 v192) $$ [HR G00 F01 HO]
  · isplitr; · iexact He
    isplitl [HR]; · iexact HR
    isplitl [G00]; · iexact G00
    isplitl [F01]; · iexact F01
    iexact HO
  iintro ⟨HR, R00, R01, HO⟩
  dsimp only
  iapply (wp_seq c)
  iapply (wp_part5 m K c v2 v5 v7 t) $$ [HR R00 HO]
  · isplitr; · iexact He
    isplitl [HR]; · iexact HR
    isplitl [R00]; · iexact R00
    iexact HO
  iintro ⟨HR, HH, F00, HO⟩
  iapply (wp_seq c)
  iapply (wp_part6 m K c v2 t) $$ [HR HH R01 F10]
  · isplitr; · iexact He
    isplitl [HR]; · iexact HR
    isplitl [HH]; · iexact HH
    isplitl [R01]; · iexact R01
    iexact F10
  iintro ⟨HR, F01, G10⟩
  iapply (wp_seq c)
  iapply (wp_part7 m K c v2 t v191 v192) $$ [HR G10 F11 HO]
  · isplitr; · iexact He
    isplitl [HR]; · iexact HR
    isplitl [G10]; · iexact G10
    isplitl [F11]; · iexact F11
    iexact HO
  iintro ⟨HR, R10, R11, HO⟩
  dsimp only
  iapply (wp_seq c)
  iapply (wp_part8 m K c v2 v5 v7 t) $$ [HR R10 HO]
  · isplitr; · iexact He
    isplitl [HR]; · iexact HR
    isplitl [R10]; · iexact R10
    iexact HO
  iintro ⟨HR, HH, F10, HO⟩
  iapply (wp_seq c)
  iapply (wp_part9 m K c v2 t) $$ [HR HH R11 F00]
  · isplitr; · iexact He
    isplitl [HR]; · iexact HR
    isplitl [HH]; · iexact HH
    isplitl [R11]; · iexact R11
    iexact F00
  iintro ⟨HR, F11, G00⟩
  iapply (wp_seq c)
  iapply (wp_part10 m K c v2 t v191 v192) $$ [HR G00 F01 HO]
  · isplitr; · iexact He
    isplitl [HR]; · iexact HR
    isplitl [G00]; · iexact G00
    isplitl [F01]; · iexact F01
    iexact HO
  iintro ⟨HR, R00, R01, HO⟩
  dsimp only
  iapply (wp_seq c)
  iapply (wp_part11 m K c v2 t) $$ [HR F10 F11 HO]
  · isplitr; · iexact He
    isplitl [HR]; · iexact HR
    isplitl [F10]; · iexact F10
    isplitl [F11]; · iexact F11
    iexact HO
  iintro ⟨HR, G10, G11, HO⟩
  iapply (wp_seq c)
  iapply (wp_part12 m c v2 t v191 v192) $$ [G10 G11 HO]
  · isplitl [G10]; · iexact G10
    isplitl [G11]; · iexact G11
    iexact HO
  iintro ⟨R10, R11, HO⟩
  dsimp only
  iapply (wp_outLoad c) $$ HO
  iintro HO
  iapply (wp_outStore c) $$ HO
  iintro HO
  iapply (wp_done c)
  isplitl [HR]; · iapply (ring_next m c t.val (trip_lt t)); iexact HR
  isplitl [R00 R01 R10 R11]
  · isplitl [R00]; · iexact R00
    isplitl [R01]; · iexact R01
    isplitl [R10]; · iexact R10
    iexact R11
  iexact HO

end Cert.Proof.KernelIdeal
end
-- ==== Proof.Drain.lean ====
module
public import proofs.«01_k».proof.Proof.Loop
@[expose] public section

/-! The two loops: the four steps of the ring, and the wait for the end of every sending. -/

noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
variable {F : FTy → Type} [FloatOps F]

local notation "𝕄" => MT nD τ sig Unit (Elt F) ℕ UU ℕ
local notation "𝕋" => Prog (TpuEff nD τ sig (Elt F) Λ₀ (Proc.tc (τ := τ)))

variable (m : (ℓ : Loc nD τ sig) → Buf (Elt F) ℓ) (K : GSem nD τ sig → ℕ) (c : Dev nD)
variable {α : Type}

/-- What is persistent is there at the end too. -/
theorem wp_keep (P : sProp 𝕄) [BI.Persistent P] {k : 𝕋 α} {Q : α → sProp 𝕄} : iprop(P ∗ WP c k Q) ⊢ WP c k (fun a => iprop(P ∗ Q a)) := by
  iintro ⟨#HP, HW⟩
  iapply (wp_wand frame (wpE (defs₀ (F := F)) 𝒱₀ (c : Thread nD τ) none)) $$ HW
  iintro %a HQ
  isplitr; · iexact HP
  iexact HQ

set_option maxRecDepth 65536 in
/-- The four steps. -/
theorem wp_steps (v2 v5 v7 : BitVec 32) (v176 : FVec F S2048x512 .f32) (v188 : FVec F S2048x32 .f32) (v191 v192 : IVec S2048x1 32) (v199 : FVec F S2048x1 .f32) (v201 : IVec S2048x32 1)
    {kk : Unit → 𝕋 α} {Q : α → sProp 𝕄} :
    iprop(env m K c ∗ before m c v2 v176 v188 v191 v192 v199 v201 0)
      ⊢ iprop((before m c v2 v176 v188 v191 v192 v199 v201 4 -∗ WP c (kk ⟨⟩) Q)
        -∗ WP c (Scf.Loop.for k0_t1_loop k0_t1_ok ⟨⟩ (onBuf (k0_t1_body (F := F)) c v2 v5 v7 v176 v188 v191 v192 v199 v201) >>= kk) Q) := by
  iintro ⟨#He, HB⟩ Hk
  iapply (Scf.wp_for_bind frame (wpE (defs₀ (F := F)) 𝒱₀ (c : Thread nD τ) none) Set.univ k0_t1_loop.lb k0_t1_loop.ub k0_t1_loop.st k0_t1_ok ⟨⟩
    (onBuf (k0_t1_body (F := F)) c v2 v5 v7 v176 v188 v191 v192 v199 v201)
    (fun n _ => iprop(env m K c ∗ before m c v2 v176 v188 v191 v192 v199 v201 n)) (fun t u => by
      iintro ⟨#He, HB⟩
      iapply (wp_keep c (env m K c) (k := onBuf (k0_t1_body (F := F)) c v2 v5 v7 v176 v188 v191 v192 v199 v201 t u))
      isplitr; · iexact He
      iapply (wp_trip m K c v2 v5 v7 v176 v188 v191 v192 v199 v201 t u)
      isplitr; · iexact He
      iexact HB)) $$ [HB]
  · isplitr; · iexact He
    iexact HB
  iintro %u ⟨-, HB⟩
  iapply Hk
  rw [show Scf.trips k0_t1_loop.lb k0_t1_loop.ub k0_t1_loop.st = 4 from trips1]
  iexact HB

/-! ## The end of every sending -/

/-- A send cell when the first `n` have been waited for. -/
def drainSt (n : ℕ) (k : Fin 24) : sProp 𝕄 :=
  if k.val < n then semVal (sendCell c k) 0 else iprop(cred (tallyAt (sendCell c k) () N) ∗ atPos ER (sendCell c k) 0 ∅ 0)
/-- The send cells when the first `n` have been waited for. -/
def drain (n : ℕ) : sProp 𝕄 :=
  iprop((bigSep Finset.univ fun k : Fin 24 => drainSt c n k) ∗ owing c ∅)

theorem wp_drain1 (k : Fin 24) {sm : DmaSem sig} (hsm : sm = sendS k) {v v' : Memref sig .tc .hbm S512x1024 .bf16} (hv : v'.view.dmaCredit = N)
    {hsrc : v.view.WordExact} {hdst : v'.view.WordExact} {kk : PUnit → 𝕋 α} {Q : α → sProp 𝕄} :
    iprop(env m K c ∗ drain c k.val) ⊢ iprop((drain c (k.val + 1) -∗ WP c (kk ⟨⟩) Q) -∗ WP c (.op (.waitDma2 sm v v' hsrc hdst) kk) Q) := by
  unfold drain
  iintro ⟨#He, ⟨HB, HO⟩⟩ Hk
  ihave HB := (bigSep_univ_update (M := 𝕄) (Φ := fun k' : Fin 24 => drainSt c k.val k') (Ψ := fun k' : Fin 24 => drainSt c (k.val + 1) k') k
    (fun k' hk' => by
      have : k'.val ≠ k.val := fun h => hk' (Fin.ext h)
      unfold drainSt
      by_cases h : k'.val < k.val
      · rw [if_pos h, if_pos (by omega)]
      · rw [if_neg h, if_neg (by omega)])) $$ HB
  icases HB with ⟨HB, HR⟩
  ihave HB := (Entails.of_eq (show drainSt (F := F) c k.val k = iprop(cred (tallyAt (sendCell c k) () N) ∗ atPos ER (sendCell c k) 0 ∅ 0) from if_neg (lt_irrefl _))) $$ HB
  iapply (wp_sent m K c k hsm hv) $$ [HB HO]
  · isplitr; · iexact He
    isplitl [HB]; · iexact HB
    iexact HO
  iintro ⟨HB, HO⟩
  iapply Hk
  isplitl [HB HR]
  · iapply HR; iapply (Entails.of_eq (show semVal (sendCell c k) 0 = drainSt (F := F) c (k.val + 1) k from (if_pos (Nat.lt_succ_self _)).symm)); iexact HB
  iexact HO

set_option maxRecDepth 65536 in
theorem wp_drainTrip (v2 v5 v7 : BitVec 32) (t : Fin k0_t2_loop.trips) (u : Unit) :
    iprop(env m K c ∗ drain c t.val) ⊢ WP c (onBuf (k0_t2_body (F := F)) c v2 v5 v7 t u) (fun _ => drain c (t.val + 1)) := by
  unfold onBuf k0_t2_body
  rw [k0_part13_eq_skeleton]
  iintro ⟨#He, HD⟩
  iapply (wp_seq c)
  iapply (wp_done c)
  iapply (wp_drain1 m K c ⟨t.val, trips2 ▸ t.isLt⟩ (sem_send _ (off51 t)) (credit_cut _ _)) $$ [HD]
  · isplitr; · iexact He
    iexact HD
  iintro HD
  iapply (wp_done c)
  iexact HD

set_option maxRecDepth 65536 in
theorem wp_drain (v2 v5 v7 : BitVec 32) {kk : Unit → 𝕋 α} {Q : α → sProp 𝕄} :
    iprop(env m K c ∗ drain c 0)
      ⊢ iprop((drain c 24 -∗ WP c (kk ⟨⟩) Q) -∗ WP c (Scf.Loop.for k0_t2_loop k0_t2_ok ⟨⟩ (onBuf (k0_t2_body (F := F)) c v2 v5 v7) >>= kk) Q) := by
  iintro ⟨#He, HB⟩ Hk
  iapply (Scf.wp_for_bind frame (wpE (defs₀ (F := F)) 𝒱₀ (c : Thread nD τ) none) Set.univ k0_t2_loop.lb k0_t2_loop.ub k0_t2_loop.st k0_t2_ok ⟨⟩
    (onBuf (k0_t2_body (F := F)) c v2 v5 v7)
    (fun n _ => iprop(env m K c ∗ drain c n)) (fun t u => by
      iintro ⟨#He, HB⟩
      iapply (wp_keep c (env m K c) (k := onBuf (k0_t2_body (F := F)) c v2 v5 v7 t u))
      isplitr; · iexact He
      iapply (wp_drainTrip m K c v2 v5 v7 t u)
      isplitr; · iexact He
      iexact HB)) $$ [HB]
  · isplitr; · iexact He
    iexact HB
  iintro %u ⟨-, HB⟩
  iapply Hk
  rw [show Scf.trips k0_t2_loop.lb k0_t2_loop.ub k0_t2_loop.st = 24 from trips2]
  iexact HB

/-! ## Experts and transfers -/

/-- Over all transfers is over all experts, hop by hop. -/
theorem byExpert (Φ : Fin 24 → sProp 𝕄) :
    bigSep Finset.univ Φ = bigSep Finset.univ fun j : Fin 8 => iprop(Φ (tr 0 j) ∗ Φ (tr 1 j) ∗ Φ (tr 2 j)) := by
  have h3 : (Finset.univ : Finset (Fin 3)) = {0, 1, 2} := by decide
  rw [bigSep_univ_equiv (finProdFinEquiv (m := 3) (n := 8)) Φ, bigSep_univ_prod, h3, BI.bigSep_insert (by decide), BI.bigSep_insert (by decide), bigSep_singleton]
  rw [bigSep_sep', bigSep_sep']
  have e : ∀ h : Fin 3, ∀ j : Fin 8, finProdFinEquiv (m := 3) (n := 8) (h, j) = tr h j := by decide
  simp only [e]; rfl

theorem left_none : left 4 0 = ∅ := by decide

/-- After the four steps: what came in has been received, all has been sent, nothing is owed. -/
theorem ring_done : ring m c 4 0 ⊢ iprop((bigSep Finset.univ fun k : Fin 24 => semVal (recvCell c k) 0)
    ∗ (bigSep Finset.univ fun k : Fin 24 => cred (tallyAt (sendCell c k) () N)) ∗ owing c ∅ : sProp 𝕄) := by
  have key : (bigSep Finset.univ fun j : Fin 8 => bank m c (if turn j < 0 then 4 + 1 else 4) j)
      ⊢ (bigSep Finset.univ fun j : Fin 8 => iprop((semVal (recvCell c (tr 0 j)) 0 ∗ semVal (recvCell c (tr 1 j)) 0 ∗ semVal (recvCell c (tr 2 j)) 0)
        ∗ (cred (tallyAt (sendCell c (tr 0 j)) () N) ∗ cred (tallyAt (sendCell c (tr 1 j)) () N) ∗ cred (tallyAt (sendCell c (tr 2 j)) () N))) : sProp 𝕄) :=
    bigSep_mono fun j _ => by
      show (_ : sProp 𝕄) ⊢ _
      rw [if_neg (Nat.not_lt_zero _)]
      unfold bank
      simp only [recvSt, sendSt, Fin.val_two, Fin.val_one, Fin.val_zero, if_true, if_false, Nat.reduceLT, Nat.reduceAdd, Nat.reduceEqDiff, reduceIte, _root_.or_true, _root_.true_or, _root_.or_false, _root_.false_or]
      iintro ⟨-, H⟩; iexact H
  unfold ring
  rw [left_none, byExpert, byExpert]
  iintro ⟨HB, HO⟩
  ihave HB := (key.trans (Entails.of_eq (bigSep_sep' _ _ _))) $$ HB
  icases HB with ⟨HR, HS⟩
  isplitl [HR]; · iexact HR
  isplitl [HS]; · iexact HS
  iexact HO

theorem drain_start : iprop((bigSep Finset.univ fun k : Fin 24 => cred (tallyAt (sendCell c k) () N)) ∗ (bigSep Finset.univ fun k : Fin 24 => atPos ER (sendCell c k) 0 ∅ 0) ∗ owing c ∅)
    ⊢ (drain c 0 : sProp 𝕄) := by
  unfold drain drainSt
  simp only [Nat.not_lt_zero, if_false]
  rw [bigSep_sep']
  iintro ⟨HC, HA, HO⟩
  isplitl [HC HA]
  · isplitl [HC]; · iexact HC
    iexact HA
  iexact HO
theorem drain_end : drain c 24 ⊢ (iprop((bigSep Finset.univ fun k : Fin 24 => semVal (sendCell c k) 0) ∗ owing c ∅) : sProp 𝕄) := by
  unfold drain drainSt
  rw [bigSep_congr (s := Finset.univ) (Ψ := fun k : Fin 24 => (semVal (sendCell c k) 0 : sProp 𝕄)) (fun k _ => if_pos k.isLt)]

end Cert.Proof.KernelIdeal
end
-- ==== Proof.Open.lean ====
module
public import proofs.«01_k».proof.Proof.Drain
@[expose] public section

/-! What goes before the loops: the barrier, the first sending of every expert, and the copy of the own row. -/

noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
variable {F : FTy → Type} [FloatOps F]

local notation "𝕄" => MT nD τ sig Unit (Elt F) ℕ UU ℕ
local notation "𝕋" => Prog (TpuEff nD τ sig (Elt F) Λ₀ (Proc.tc (τ := τ)))

variable (m : (ℓ : Loc nD τ sig) → Buf (Elt F) ℓ) (K : GSem nD τ sig → ℕ) (c : Dev nD)
variable {α : Type}

/-- Two runs over devices and experts in either order. -/
theorem bigSep_comm_rows {a b : ℕ} (Φ : Fin a → Fin b → sProp 𝕄) :
    (bigSep Finset.univ fun d : Fin a => bigSep Finset.univ fun j : Fin b => Φ d j) = bigSep Finset.univ fun j : Fin b => bigSep Finset.univ fun d : Fin a => Φ d j := by
  rw [← bigSep_univ_prod (fun p : Fin a × Fin b => Φ p.1 p.2), ← bigSep_univ_prod (fun p : Fin b × Fin a => Φ p.2 p.1), bigSep_univ_equiv (Equiv.prodComm (Fin b) (Fin a))]
  rfl

/-! ## The gathered weights by row and slot -/

theorem inb_row (d : Fin 4) : ∀ a, (![d.val, 0, 0, 0] : Fin 4 → ℕ) a + S1x8x512x1024.size a ≤ S4x8x512x1024.size a := by
  revert d; decide
/-- The gathered weights at an offset, a row of them. -/
abbrev cutRow (off : Fin 4 → ℕ) (h : ∀ a, off a + S1x8x512x1024.size a ≤ S4x8x512x1024.size a) : Memref sig .tc .hbm S8x512x1024 .bf16 :=
  ((Memref.whole main_v2_1).slice (Rect.unit (s := S4x8x512x1024) off S1x8x512x1024.size h) (fun _ => rfl)).squeeze S8x512x1024 squeezes_S1x8x512x1024_S8x512x1024
abbrev rowM (d : Fin 4) : Memref sig .tc .hbm S8x512x1024 .bf16 := cutRow ![d.val, 0, 0, 0] (inb_row d)
abbrev wholeM : Memref sig .tc .hbm S8x512x1024 .bf16 := Memref.whole main_v1

theorem mem_row (d : Fin 4) (i : S4x8x512x1024.Idx) : i ∈ (rowM d).view.set ↔ i 0 = d := by
  refine Iff.trans (Eq.to_iff (congrArg (i ∈ ·) ((View.set_reshape _ _).trans (View.set_slice_whole _ _)))) (Iff.trans Rect.mem_set_unit ?_)
  constructor
  · intro h
    have h0 : d.val ≤ (i 0 : ℕ) ∧ (i 0 : ℕ) < d.val + 1 := h 0
    exact Fin.ext (by omega)
  · rintro rfl
    have h1 : (i 1 : ℕ) < 8 := (i 1).isLt
    have h2 : (i 2 : ℕ) < 512 := (i 2).isLt
    have h3 : (i 3 : ℕ) < 1024 := (i 3).isLt
    intro a
    match a with
    | 0 => exact ⟨le_refl _, Nat.lt_succ_self _⟩
    | 1 => exact ⟨Nat.zero_le _, by show (i 1 : ℕ) < 0 + 8; omega⟩
    | 2 => exact ⟨Nat.zero_le _, by show (i 2 : ℕ) < 0 + 512; omega⟩
    | 3 => exact ⟨Nat.zero_le _, by show (i 3 : ℕ) < 0 + 1024; omega⟩

theorem emb_row (d : Fin 4) (j : Fin 8) (a : Fin 512) (b : Fin 1024) : (rowM d).view.emb (ix3 j a b) = (ix4 d j a b : S4x8x512x1024.Idx) := by
  show (Rect.unit (s := S4x8x512x1024) _ S1x8x512x1024.size (inb_row d)).emb (Shape.reshapeEquiv _ (ix3 j a b)) = _
  rw [reshapeEquiv_ix3_1abc]
  funext x
  refine Fin.ext ?_
  match x with
  | 0 => show d.val + 1 * 0 = d.val; omega
  | 1 => show 0 + 1 * j.val = j.val; omega
  | 2 => show 0 + 1 * a.val = a.val; omega
  | 3 => show 0 + 1 * b.val = b.val; omega
theorem ex_ix3 (x : S8x512x1024.Idx) : ∃ (j : Fin 8) (a : Fin 512) (b : Fin 1024), x = ix3 j a b :=
  ⟨x 0, x 1, x 2, by funext i; match i with | 0 => rfl | 1 => rfl | 2 => rfl⟩

/-- The own row as the own weights are copied there. -/
theorem write_row (fd : S4x8x512x1024.Idx → Elt F .bf16) (i : S4x8x512x1024.Idx) (hi : i ∈ (rowM c).view.set) :
    (rowM c).view.write (Elt F) fd (wholeM.view.read (Elt F) (V m c main_v1)) Finset.univ i = allW m i := by
  obtain ⟨x, -, rfl⟩ := Finset.mem_map.mp hi
  obtain ⟨j, a, b, rfl⟩ := ex_ix3 x
  refine (View.write_emb_of_mem _ _ (Finset.mem_univ _)).trans ?_
  rw [emb_row]; rfl

/-- A row is its eight slots. -/
theorem row_slots (d : Fin 4) (f : S4x8x512x1024.Idx → Elt F .bf16) :
    ((rowM d).view.loc (c : Thread nD τ) ↦[(rowM d).view.set]{fullShare} f : sProp 𝕄) = bigSep Finset.univ fun j : Fin 8 => slotPt c d j fullShare f := by
  have e : ((rowM d).view.set : Finset S4x8x512x1024.Idx) = Finset.univ.biUnion fun j : Fin 8 => ((slotM d j).view.set : Finset S4x8x512x1024.Idx) := by
    ext i
    rw [mem_row, Finset.mem_biUnion]
    exact ⟨fun h => ⟨i 1, Finset.mem_univ _, (mem_slot d (i 1) i).mpr ⟨h, rfl⟩⟩, fun ⟨j, _, h⟩ => ((mem_slot d j i).mp h).1⟩
  refine Eq.trans (congrArg (fun S : Finset S4x8x512x1024.Idx => ((rowM d).view.loc (c : Thread nD τ) ↦[S]{fullShare} f : sProp 𝕄)) e) ?_
  exact pointsTo_biUnion (ℓ := (rowM d).view.loc (c : Thread nD τ)) Finset.univ (fun j : Fin 8 => ((slotM d j).view.set : Finset S4x8x512x1024.Idx)) (fun j _ j' _ hj =>
    Finset.disjoint_left.mpr fun i h h' => hj (((mem_slot d j i).mp h).2.symm.trans ((mem_slot d j' i).mp h').2))
/-- The whole is its four rows. -/
theorem all_rows (f : S4x8x512x1024.Idx → Elt F .bf16) :
    ((Memref.whole main_v2_1).view.loc (c : Thread nD τ) ↦[Finset.univ]{fullShare} f : sProp 𝕄)
      = bigSep Finset.univ fun d : Fin 4 => ((rowM d).view.loc (c : Thread nD τ) ↦[(rowM d).view.set]{fullShare} f) := by
  have e : (Finset.univ : Finset S4x8x512x1024.Idx) = Finset.univ.biUnion fun d : Fin 4 => ((rowM d).view.set : Finset S4x8x512x1024.Idx) := by
    ext i
    rw [Finset.mem_biUnion]
    exact ⟨fun _ => ⟨i 0, Finset.mem_univ _, (mem_row (i 0) i).mpr rfl⟩, fun _ => Finset.mem_univ _⟩
  refine Eq.trans (congrArg (fun S : Finset S4x8x512x1024.Idx => ((Memref.whole main_v2_1).view.loc (c : Thread nD τ) ↦[S]{fullShare} f : sProp 𝕄)) e) ?_
  exact pointsTo_biUnion (ℓ := (Memref.whole main_v2_1).view.loc (c : Thread nD τ)) Finset.univ (fun d : Fin 4 => ((rowM d).view.set : Finset S4x8x512x1024.Idx)) (fun d _ d' _ hd =>
    Finset.disjoint_left.mpr fun i h h' => hd (((mem_row d i).mp h).symm.trans ((mem_row d' i).mp h')))
/-- The own weights are their eight experts. -/
theorem own_experts (q : PosShare TreeShare) :
    (wholeM.view.loc (c : Thread nD τ) ↦[Finset.univ]{q} V m c main_v1 : sProp 𝕄) = bigSep Finset.univ fun j : Fin 8 => ownPt m c j q := by
  have e : (Finset.univ : Finset S8x512x1024.Idx) = Finset.univ.biUnion fun j : Fin 8 => ((ownM j).view.set : Finset S8x512x1024.Idx) := by
    ext i
    rw [Finset.mem_biUnion]
    exact ⟨fun _ => ⟨i 0, Finset.mem_univ _, (mem_own (i 0) i).mpr rfl⟩, fun _ => Finset.mem_univ _⟩
  refine Eq.trans (congrArg (fun S : Finset S8x512x1024.Idx => (wholeM.view.loc (c : Thread nD τ) ↦[S]{q} V m c main_v1 : sProp 𝕄)) e) ?_
  exact pointsTo_biUnion (ℓ := wholeM.view.loc (c : Thread nD τ)) Finset.univ (fun j : Fin 8 => ((ownM j).view.set : Finset S8x512x1024.Idx)) (fun j _ j' _ hj =>
    Finset.disjoint_left.mpr fun i h h' => hj (((mem_own j i).mp h).symm.trans ((mem_own j' i).mp h')))

/-- The slot that transfer `k` of the neighbour fills on `c`, at any contents. -/
def free (k : Fin 24) : sProp 𝕄 := iprop(∃ f, slotPt c (org c (hop k + 1) (ex k)) (ex k) fullShare f)

theorem owners (j : Fin 8) : (Finset.univ : Finset (Fin 4)) = {c, org c 1 j, org c 2 j, org c 3 j} ∧ c ∉ ({org c 1 j, org c 2 j, org c 3 j} : Finset (Fin 4))
    ∧ org c 1 j ∉ ({org c 2 j, org c 3 j} : Finset (Fin 4)) ∧ org c 2 j ∉ ({org c 3 j} : Finset (Fin 4)) := by revert c j; decide

/-- The gathered weights, taken apart: the own row, and a slot for every transfer that comes in. -/
theorem carve (f : S4x8x512x1024.Idx → Elt F .bf16) :
    ((Memref.whole main_v2_1).view.loc (c : Thread nD τ) ↦[Finset.univ]{fullShare} f : sProp 𝕄)
      ⊢ iprop(((rowM c).view.loc (c : Thread nD τ) ↦[(rowM c).view.set]{fullShare} f) ∗ bigSep Finset.univ fun k : Fin 24 => free c k) := by
  have key : (bigSep Finset.univ fun j : Fin 8 => bigSep Finset.univ fun d : Fin 4 => slotPt c d j fullShare f)
      ⊢ (bigSep Finset.univ fun j : Fin 8 => iprop(slotPt c c j fullShare f ∗ (free c (tr 0 j) ∗ free c (tr 1 j) ∗ free c (tr 2 j))) : sProp 𝕄) :=
    bigSep_mono fun j _ => by
      show (_ : sProp 𝕄) ⊢ _
      obtain ⟨e, h1, h2, h3⟩ := owners c j
      rw [e, BI.bigSep_insert h1, BI.bigSep_insert h2, BI.bigSep_insert h3, bigSep_singleton]
      unfold free
      show iprop(slotPt c c j fullShare f ∗ slotPt c (org c 1 j) j fullShare f ∗ slotPt c (org c 2 j) j fullShare f ∗ slotPt c (org c 3 j) j fullShare f) ⊢ _
      simp only [hop_tr, ex_tr, Fin.val_two, Fin.val_one, Fin.val_zero, Nat.reduceAdd]
      iintro ⟨H, H1, H2, H3⟩
      isplitl [H]; · iexact H
      isplitl [H1]; · iexists f; iexact H1
      isplitl [H2]; · iexists f; iexact H2
      iexists f; iexact H3
  rw [all_rows, bigSep_congr (s := Finset.univ) (fun d _ => row_slots c d f), bigSep_comm_rows, row_slots, byExpert]
  refine key.trans (Entails.of_eq (bigSep_sep' _ _ _))

/-! ## The barrier -/

theorem grant_right (k : Fin 24) (hk : decide ((ex k).val < 4) = true) : nb (lt c) (ex k) = c ∧ org (lt c) (hop k) (ex k) = org c (hop k + 1) (ex k) := by
  revert c k; decide
theorem grant_left (k : Fin 24) (hk : decide ((ex k).val < 4) = false) : nb (rt c) (ex k) = c ∧ org (rt c) (hop k) (ex k) = org c (hop k + 1) (ex k) := by
  revert c k; decide

/-- The slots to be filled go to the neighbours that fill them. -/
theorem granting : iprop((bigSep Finset.univ fun k : Fin 24 => free c k) ∗ (bigSep Finset.univ fun k : Fin 24 => reached ER (recvCell c k) 0))
    ⊢ (iprop(barPay (lt c) true ∗ barPay (rt c) false) : sProp 𝕄) := by
  have key : ∀ (d : Dev nD) (b : Bool) (h : ∀ k, decide ((ex k).val < 4) = b → nb d (ex k) = c ∧ org d (hop k) (ex k) = org c (hop k + 1) (ex k)),
      (bigSep (side b) fun k : Fin 24 => iprop(free c k ∗ reached ER (recvCell c k) 0)) ⊢ (barPay d b : sProp 𝕄) := fun d b h =>
    bigSep_mono fun k hk => by
      show (_ : sProp 𝕄) ⊢ _
      obtain ⟨e1, e2⟩ := h k (Finset.mem_filter.mp hk).2
      unfold grant free
      rw [e1, e2]
  rw [← bigSep_sep', show (Finset.univ : Finset (Fin 24)) = side true ∪ side false from by decide, bigSep_union (by decide)]
  exact BIBase.Entails.trans BIBase.Entails.rfl (BIClass.sep_mono (key (lt c) true (grant_right c)) (key (rt c) false (grant_left c)))

/-- What the barrier takes. -/
def hello : sProp 𝕄 :=
  iprop((dutyTok ER (barCell (lt c)) 0 true ∗ dutyTok ER (barCell (rt c)) 0 false) ∗ (reached ER (barCell (lt c)) 0 ∗ reached ER (barCell (rt c)) 0)
    ∗ (cred (tallyAt (barCell c) () 2) ∗ atPos ER (barCell c) 0 ∅ 0) ∗ (barPay (lt c) true ∗ barPay (rt c) false) ∗ ∃ W, owes (c : Thread nD τ) (O₀ c) W)

theorem wp_meet {dl dr : Dev nD} (hl : dl = lt c) (hr : dr = rt c) {k : 𝕋 α} {Q : α → sProp 𝕄} :
    iprop(env m K c ∗ hello c)
      ⊢ iprop((((bigSep Finset.univ fun t : Fin 24 => grant c t) ∗ semVal (barCell c) 0 ∗ owing c Finset.univ) -∗ WP c k Q)
        -∗ WP c (.op (.semSignal (dl : Thread nD τ) barrier0 1) fun _ => .op (.semSignal (dr : Thread nD τ) barrier0 1) fun _ => .op (.semWait barrier0 2) fun _ => k) Q) := by
  subst hl hr
  unfold hello
  iintro ⟨#He, ⟨⟨HtL, HtR⟩, ⟨#HrL, #HrR⟩, ⟨Hc, Hat⟩, ⟨HpL, HpR⟩, ⟨%W, HO⟩⟩⟩ Hk
  iapply (Rounds.wp_signal 𝒱₀ ER (sched m) (c : Thread nD τ) none (dst := (lt c : Thread nD τ)) (sem := barrier0) (r := 0) (d := true) (κ := K (barCell (lt c)))
      (Finset.mem_univ true) (amount_bar m (lt c) true) () (due c Finset.univ + tallyAt (barCell (rt c)) () 1) rfl) $$ [HO HtL HpL]
  · isplitr; · iapply (env_bar m K c (lt c)); iexact He
    isplitl [HO]; · iexact HO
    isplitl [HtL]; · iexact HtL
    isplitl [HpL]; · rw [payload_bar]; iexact HpL
    iexact HrL
  iintro HO
  iapply (Rounds.wp_signal 𝒱₀ ER (sched m) (c : Thread nD τ) none (dst := (rt c : Thread nD τ)) (sem := barrier0) (r := 0) (d := false) (κ := K (barCell (rt c)))
      (Finset.mem_univ false) (amount_bar m (rt c) false) () (due c Finset.univ) rfl) $$ [HO HtR HpR]
  · isplitr; · iapply (env_bar m K c (rt c)); iexact He
    isplitl [HO]; · iexact HO
    isplitl [HtR]; · iexact HtR
    isplitl [HpR]; · rw [payload_bar]; iexact HpR
    iexact HrR
  iintro HO
  iapply (Rounds.wp_wait_rest_token 𝒱₀ ER (sched m) (c : Thread nD τ) none (κ := K (barCell c))
      (wpE_semWait_eq 𝒱₀ (c : Thread nD τ) none Set.univ) (Set.mem_univ _) () (O := due c Finset.univ) (W := W) (R := 0) (m := 0) (T := ∅)
      ((Nat.zero_add _).trans (expect_bar m c).symm)) $$ [Hc HO Hat]
  · isplitr; · iapply (env_bar m K c c); iexact He
    isplitl [Hc]; · iexact Hc
    isplitl [HO]; · iexact HO
    isplitr; · iapply (mayWait c (.reg barrier0) Finset.univ 1 (le_refl _) (fun k' _ => by omega)); iapply (env_lev m K c); iexact He
    iexact Hat
  iintro ⟨HO, Hat, -, Hpay⟩
  ihave Hp := (Entails.of_eq (rest_bar m c)) $$ Hpay
  imod (closed m (K (barCell c)) (barCell c)) $$ [Hat] with Hv
  · isplitr; · iapply (env_bar m K c c); iexact He
    iexact Hat
  iapply Hk
  isplitl [Hp]; · iexact Hp
  isplitl [Hv]; · iexact Hv
  unfold owing; iexists _; iexact HO

/-! ## The first sending of every expert -/

/-- The transfers still to be issued after the first `n` experts have been sent. -/
def toSend (n : ℕ) : Finset (Fin 24) := Finset.univ.filter fun k => hop k ≠ 0 ∨ n ≤ (ex k).val
theorem toSend_zero : toSend 0 = Finset.univ := by decide
theorem toSend_eight : toSend 8 = left 0 0 := by decide
theorem toSend_next (j : Fin 8) : tr 0 j ∈ toSend j.val ∧ toSend (j.val + 1) = (toSend j.val).erase (tr 0 j) := by revert j; decide

/-- An expert to be sent, or sent, when the first `n` have been. -/
def sentSt (n : ℕ) (j : Fin 8) : sProp 𝕄 :=
  if j.val < n then cred (tallyAt (sendCell c (tr 0 j)) () N) else iprop(pay c (tr 0 j) ∗ ownPt m c j fullShare.right)
def sent (n : ℕ) : sProp 𝕄 := iprop((bigSep Finset.univ fun j : Fin 8 => sentSt m c n j) ∗ owing c (toSend n))

/-- Send an own expert. -/
def sendFirst (j : Fin 8) (o : Fin 3 → ℕ) (v : Fin 4 → ℕ) (dv : ℕ) (ho : ∀ a, o a + S1x1x1.size a ≤ S3x2x4.size a)
    (hj : ∀ a, (![j.val, 0, 0] : Fin 3 → ℕ) a + S1x512x1024.size a ≤ S8x512x1024.size a) (hv : ∀ a, v a + S1x1x512x1024.size a ≤ S4x8x512x1024.size a) (hd : dv < nD)
    (hw : (cutOwn ![j.val, 0, 0] hj).view.WordExact) (hw' : (cutAll v hv).view.WordExact) (k : 𝕋 α) : 𝕋 α :=
  .op (.enqueueDma (cutOwn ![j.val, 0, 0] hj) (.remote (Dev.tc (⟨dv, hd⟩ : Dev nD)) (cutAll v hv) (.dma (sendAt o ho))) (.dma (recvAt o ho)) hw hw' ⟨⟨rfl, Or.inl rfl⟩, trivial⟩) fun _ => k

theorem wp_first (j : Fin 8) {o : Fin 3 → ℕ} {v : Fin 4 → ℕ} {dv : ℕ} {ho hj hv hd hw hw'} (eo : o = koff (tr 0 j)) (ev : v = ![(org c 0 j).val, j.val, 0, 0])
    (ed : dv = (nb c j).val) {k : 𝕋 α} {Q : α → sProp 𝕄} :
    iprop(env m K c ∗ sent m c j.val) ⊢ iprop((sent m c (j.val + 1) -∗ WP c k Q) -∗ WP c (sendFirst j o v dv ho hj hv hd hw hw' k) Q) := by
  subst ev
  unfold sendFirst sent
  iintro ⟨#He, ⟨HB, HO⟩⟩ Hk
  ihave HB := (bigSep_univ_update (M := 𝕄) (Φ := fun j' : Fin 8 => sentSt m c j.val j') (Ψ := fun j' : Fin 8 => sentSt m c (j.val + 1) j') j
    (fun j' hj' => by
      have : j'.val ≠ j.val := fun h => hj' (Fin.ext h)
      unfold sentSt
      by_cases h : j'.val < j.val
      · rw [if_pos h, if_pos (by omega)]
      · rw [if_neg h, if_neg (by omega)])) $$ HB
  icases HB with ⟨HB, HR⟩
  ihave HB := (Entails.of_eq (show sentSt m c j.val j = iprop(pay c (tr 0 j) ∗ ownPt m c j fullShare.right) from if_neg (lt_irrefl _))) $$ HB
  icases HB with ⟨HP, HS⟩
  iapply (wp_issue m K c (src := ownM j) (fs := V m c main_v1) (q := fullShare.right) (tr 0 j) (toSend j.val) (toSend_next j).1
    (fun fd i hi => by
      have e : org c (hop (tr 0 j)) (ex (tr 0 j)) = c := by rw [hop_tr]; exact org_zero c _
      rw [e, ex_tr] at hi ⊢
      exact write_slot_own m c j fd i hi)
    (o := org c 0 j) (j := j) (by rw [hop_tr, ex_tr]; rfl) (ex_tr 0 j).symm (Fin.ext (by rw [ex_tr]; exact ed))
    (sem_send (tr 0 j) eo) (sem_recv (tr 0 j) eo)) $$ [HS HP HO]
  · isplitr; · iexact He
    isplitl [HS]; · iexact HS
    isplitl [HP]; · iexact HP
    iexact HO
  iintro ⟨HC, HO⟩
  iapply Hk
  isplitl [HC HR]
  · iapply HR; iapply (Entails.of_eq (show cred (tallyAt (sendCell c (tr 0 j)) () N) = sentSt m c (j.val + 1) j from (if_pos (Nat.lt_succ_self _)).symm)); iexact HC
  rw [(toSend_next j).2]; iexact HO

/-! ## The copy of the own row -/

def NR : ℕ := (rowM 0).view.dmaCredit
theorem NR_pos : 0 < NR := View.dmaCredit_pos _ (by decide)
theorem lv_row : lv ((c : Thread nD τ), .dma rowS) () ≤ 0 := by decide +revert

/-- The own row under way. -/
def rowFly : sProp 𝕄 := Transfers.Flight EC (c : Thread nD τ) (.dma rowS) () NR (bigSep Finset.univ fun j : Fin 8 => slotPt c c j fullShare (allW m))

theorem row_landed (f : S4x8x512x1024.Idx → Elt F .bf16) :
    iprop(((rowM c).view.loc (c : Thread nD τ) ↦[(rowM c).view.set]{fullShare} ((rowM c).view.write (Elt F) f (wholeM.view.read (Elt F) (V m c main_v1)) Finset.univ))
        ∗ (wholeM.view.loc (c : Thread nD τ) ↦[wholeM.view.set]{fullShare.left} V m c main_v1))
      ⊢ (bigSep Finset.univ fun j : Fin 8 => slotPt c c j fullShare (allW m) : sProp 𝕄) := by
  iintro ⟨H, -⟩
  ihave H := (Entails.of_eq (pointsTo_congr fun i hi => write_row m c f i hi)) $$ H
  iapply (Entails.of_eq (row_slots c c (allW m)))
  iexact H

theorem wp_row {v : Fin 4 → ℕ} {h} (e : v = ![c.val, 0, 0, 0]) {hsrc : wholeM.view.WordExact} {hdst : (cutRow v h).view.WordExact}
    {hsem : DmaTarget.Typed (nD := nD) (τ := τ) (p := .tc) .hbm (.dma rowS) (.here (cutRow v h))} (f : S4x8x512x1024.Idx → Elt F .bf16) {k : PUnit → 𝕋 α} {Q : α → sProp 𝕄} :
    iprop((wholeM.view.loc (c : Thread nD τ) ↦[wholeM.view.set]{fullShare.left} V m c main_v1) ∗ ((rowM c).view.loc (c : Thread nD τ) ↦[(rowM c).view.set]{fullShare} f)
        ∗ semVal ((c : Thread nD τ), .dma rowS) 0)
      ⊢ iprop((rowFly m c -∗ WP c (k ⟨⟩) Q) -∗ WP c (.op (.enqueueDma wholeM (.here (cutRow v h)) (.dma rowS) hsrc hdst hsem) k) Q) := by
  subst e
  iintro ⟨Hs, Hd, Hv⟩ Hk
  iapply (Transfers.wp_dmaLocal EC 𝒱₀ (c : Thread nD τ) none (src := wholeM) (dst := rowM c) (Sd := (rowM c).view.set) () NR rfl NR_pos (subset_refl _)) $$ [Hs Hv Hd]
  · isplitl [Hs]; · iexact Hs
    isplitl [Hd]; · iexact Hd
    iexact Hv
  iintro HF
  iapply Hk
  unfold rowFly
  iapply (Transfers.Flight_mono EC (c : Thread nD τ) (row_landed m c f)) $$ HF

theorem wp_rowed (S : Finset (Fin 24)) {v : Fin 4 → ℕ} {h} {hsrc : wholeM.view.WordExact} {hdst : (cutRow v h).view.WordExact}
    {k : PUnit → 𝕋 α} {Q : α → sProp 𝕄} :
    iprop(env m K c ∗ rowFly m c ∗ owing c S)
      ⊢ iprop(((semVal ((c : Thread nD τ), .dma rowS) 0 ∗ (bigSep Finset.univ fun j : Fin 8 => slotPt c c j fullShare (allW m)) ∗ owing c S) -∗ WP c (k ⟨⟩) Q)
        -∗ WP c (.op (.waitDma2 rowS wholeM (cutRow v h) hsrc hdst) k) Q) := by
  unfold owing rowFly
  iintro ⟨#He, Hf, ⟨%W, HO⟩⟩ Hk
  iapply (Transfers.wp_waitLocalO EC 𝒱₀ (c : Thread nD τ) none () (N := NR) (show (cutRow v h).view.dmaCredit = NR from rfl)) $$ [Hf HO]
  · isplitl [Hf]; · iexact Hf
    isplitl [HO]; · iexact HO
    iapply (mayWait c (.dma rowS) S 0 (lv_row c) (fun k' _ => by omega)); iapply (env_lev m K c); iexact He
  iintro ⟨HD, Hv, HO⟩
  iapply Hk
  isplitl [Hv]; · iexact Hv
  isplitl [HD]; · iexact HD
  iexists _; iexact HO

end Cert.Proof.KernelIdeal
end
-- ==== Proof.Body.lean ====
module
public import proofs.«01_k».proof.Proof.Open
@[expose] public section

/-! The parts of the body before the loops, and the whole body. -/

noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
variable {F : FTy → Type} [FloatOps F]

local notation "𝕄" => MT nD τ sig Unit (Elt F) ℕ UU ℕ
local notation "𝕋" => Prog (TpuEff nD τ sig (Elt F) Λ₀ (Proc.tc (τ := τ)))

variable (m : (ℓ : Loc nD τ sig) → Buf (Elt F) ℓ) (K : GSem nD τ sig → ℕ) (c : Dev nD)
variable {α : Type}

/-- A device's place on the ring, as the body computes it. -/
abbrev placeW : BitVec 32 := Scalar.remsi (Scalar.divsi (Dev.word c) 1#32) 4#32

theorem wp_who {k : Dev nD → 𝕋 α} {Q : α → sProp 𝕄} : WP c (k c) Q ⊢ WP c (.op .deviceId k) Q := by
  show _ ⊢ wp _ _ _ (.op .deviceId k) Q
  rw [wp_deviceId]

set_option maxRecDepth 65536 in
theorem wp_part14 {Q : (Σ' (d0 : Dev nD) (v2 : BitVec 32) (v5 : BitVec 32) (v7 : BitVec 32), BitVec 32) → sProp 𝕄} :
    iprop(env m K c ∗ hello c)
      ⊢ iprop((∀ v5 v7 v, ((bigSep Finset.univ fun t : Fin 24 => grant c t) ∗ semVal (barCell c) 0 ∗ owing c Finset.univ) -∗ Q ⟨c, placeW c, v5, v7, v⟩)
        -∗ WP c (onBuf (k0_part14 (F := F))) Q) := by
  unfold onBuf
  rw [k0_part14_eq_skeleton]
  refine wp_form c (p' := .op .deviceId fun d0 => .op (.semSignal ((⟨k0_dev1 d0, k0_dev1_lt d0⟩ : Dev nD) : Thread nD τ) barrier0 1) fun _ =>
    .op (.semSignal ((⟨k0_dev2 d0, k0_dev2_lt d0⟩ : Dev nD) : Thread nD τ) barrier0 1) fun _ => .op (.semWait barrier0 2) fun _ => .ret ⟨d0, placeW d0, _, _, _⟩) rfl ?_
  iintro ⟨#He, HH⟩ Hk
  iapply (wp_who c)
  iapply (wp_meet m K c (dev_lt c) (dev_rt c)) $$ [HH]
  · isplitr; · iexact He
    iexact HH
  iintro H
  iapply (wp_done c)
  iapply Hk
  iexact H

set_option maxRecDepth 65536 in
theorem wp_part15 (v2 v5 v7 v : BitVec 32) {Q : BitVec 32 → sProp 𝕄} :
    iprop(env m K c ∗ sent m c 0) ⊢ iprop((∀ a, sent m c 2 -∗ Q a) -∗ WP c (onBuf (k0_part15 (F := F)) c v2 v5 v7 v) Q) := by
  unfold onBuf
  rw [k0_part15_eq_skeleton]
  refine wp_form c (p' := sendFirst 0 _ _ _ _ _ _ _ _ _ (sendFirst 1 _ _ _ _ _ _ _ _ _ (.ret _))) rfl ?_
  iintro ⟨#He, HS⟩ Hk
  iapply (wp_first m K c 0 send0_koff (send0_off c) (send0_dev c)) $$ [HS]
  · isplitr; · iexact He
    iexact HS
  iintro HS
  iapply (wp_first m K c 1 send1_koff (send1_off c) (send1_dev c)) $$ [HS]
  · isplitr; · iexact He
    iexact HS
  iintro HS
  iapply (wp_done c)
  iapply Hk; iexact HS

set_option maxRecDepth 65536 in
theorem wp_part16 (v2 v5 v7 v : BitVec 32) {Q : (Σ' (v79 : BitVec 32), BitVec 32) → sProp 𝕄} :
    iprop(env m K c ∗ sent m c 2) ⊢ iprop((∀ a, sent m c 3 -∗ Q a) -∗ WP c (onBuf (k0_part16 (F := F)) c v2 v5 v7 v) Q) := by
  unfold onBuf
  rw [k0_part16_eq_skeleton]
  refine wp_form c (p' := sendFirst 2 _ _ _ _ _ _ _ _ _ (.ret _)) rfl ?_
  iintro ⟨#He, HS⟩ Hk
  iapply (wp_first m K c 2 send2_koff (send2_off c) (send2_dev c)) $$ [HS]
  · isplitr; · iexact He
    iexact HS
  iintro HS
  iapply (wp_done c)
  iapply Hk; iexact HS

set_option maxRecDepth 65536 in
theorem wp_part17 (v2 v5 v7 v w : BitVec 32) {Q : PUnit → sProp 𝕄} :
    iprop(env m K c ∗ sent m c 3) ⊢ iprop((∀ a, sent m c 4 -∗ Q a) -∗ WP c (onBuf (k0_part17 (F := F)) c v2 v5 v7 v w) Q) := by
  unfold onBuf
  rw [k0_part17_eq_skeleton]
  refine wp_form c (p' := sendFirst 3 _ _ _ _ _ _ _ _ _ (.ret _)) rfl ?_
  iintro ⟨#He, HS⟩ Hk
  iapply (wp_first m K c 3 send3_koff (send3_off c) (send3_dev c)) $$ [HS]
  · isplitr; · iexact He
    iexact HS
  iintro HS
  iapply (wp_done c)
  iapply Hk; iexact HS

set_option maxRecDepth 65536 in
theorem wp_part18 (v2 v5 v7 : BitVec 32) {Q : (Σ' (v135 : BitVec 32), BitVec 32) → sProp 𝕄} :
    iprop(env m K c ∗ sent m c 4) ⊢ iprop((∀ a, sent m c 6 -∗ Q a) -∗ WP c (onBuf (k0_part18 (F := F)) c v2 v5 v7) Q) := by
  unfold onBuf
  rw [k0_part18_eq_skeleton]
  refine wp_form c (p' := sendFirst 4 _ _ _ _ _ _ _ _ _ (sendFirst 5 _ _ _ _ _ _ _ _ _ (.ret _))) rfl ?_
  iintro ⟨#He, HS⟩ Hk
  iapply (wp_first m K c 4 send4_koff (send4_off c) (send4_dev c)) $$ [HS]
  · isplitr; · iexact He
    iexact HS
  iintro HS
  iapply (wp_first m K c 5 send5_koff (send5_off c) (send5_dev c)) $$ [HS]
  · isplitr; · iexact He
    iexact HS
  iintro HS
  iapply (wp_done c)
  iapply Hk; iexact HS

set_option maxRecDepth 65536 in
theorem wp_part19 (v2 v5 v7 v w : BitVec 32) {Q : (Σ' (v159 : BitVec 32), BitVec 32) → sProp 𝕄} :
    iprop(env m K c ∗ sent m c 6) ⊢ iprop((∀ a, sent m c 7 -∗ Q a) -∗ WP c (onBuf (k0_part19 (F := F)) c v2 v5 v7 v w) Q) := by
  unfold onBuf
  rw [k0_part19_eq_skeleton]
  refine wp_form c (p' := sendFirst 6 _ _ _ _ _ _ _ _ _ (.ret _)) rfl ?_
  iintro ⟨#He, HS⟩ Hk
  iapply (wp_first m K c 6 send6_koff (send6_off c) (send6_dev c)) $$ [HS]
  · isplitr; · iexact He
    iexact HS
  iintro HS
  iapply (wp_done c)
  iapply Hk; iexact HS

/-! ## The arguments -/

/-- The three arguments as staged. -/
def ins (x : S2048x512.Idx → Elt F .f32) (w : S512x32.Idx → Elt F .f32) (ix : S2048x2.Idx → Elt F .i32) : sProp 𝕄 :=
  iprop(((Memref.whole cc0_stg0_0).view.loc (c : Thread nD τ) ↦[Finset.univ]{fullShare} x)
    ∗ ((Memref.whole cc0_stg1_0).view.loc (c : Thread nD τ) ↦[Finset.univ]{fullShare} w)
    ∗ ((Memref.whole cc0_stg2_0).view.loc (c : Thread nD τ) ↦[Finset.univ]{fullShare} ix))

/-- A buffer read whole. -/
theorem wp_all {cs : CoreSpace} {s : Shape} {e : EltTy} {mb : Memref sig .tc cs s e} {r : LoadRect s} {hl : mb.view.LoadsAt r} {f : Buf (Elt F) (mb.view.loc (c : Thread nD τ))}
    {g : r.shape.Idx → Elt F e} (he : mb.view.readAt (Elt F) r f = g) {k : (r.shape.Idx → Elt F e) → 𝕋 α} {Q : α → sProp 𝕄} :
    (mb.view.loc (c : Thread nD τ) ↦[Finset.univ]{fullShare} f) ⊢ iprop(((mb.view.loc (c : Thread nD τ) ↦[Finset.univ]{fullShare} f) -∗ WP c (k g) Q) -∗ WP c (.op (.load mb r hl) k) Q) := by
  subst he
  exact wp_load 𝒱₀ (c : Thread nD τ) none Set.univ (Finset.subset_univ _)

/-- What the row copy takes. -/
def rowing : sProp 𝕄 :=
  iprop((wholeM.view.loc (c : Thread nD τ) ↦[wholeM.view.set]{fullShare.left} V m c main_v1) ∗ (∃ f, ((rowM c).view.loc (c : Thread nD τ) ↦[(rowM c).view.set]{fullShare} f))
    ∗ semVal ((c : Thread nD τ), .dma rowS) 0)

set_option maxRecDepth 65536 in
theorem wp_part20 (v w : BitVec 32) (x : S2048x512.Idx → Elt F .f32) (rw' : S512x32.Idx → Elt F .f32) (ix : S2048x2.Idx → Elt F .i32)
    {Q : (Σ' (v176 : FVec F S2048x512 .f32) (v188 : FVec F S2048x32 .f32) (v191 : IVec S2048x1 32) (v192 : IVec S2048x1 32) (v199 : FVec F S2048x1 .f32), IVec S2048x32 1) → sProp 𝕄} :
    iprop(env m K c ∗ sent m c 7 ∗ rowing m c ∗ ins c x rw' ix)
      ⊢ iprop(((sent m c 8 ∗ rowFly m c ∗ ins c x rw' ix) -∗ Q ⟨k0_pay21 x, k0_pay22 x rw', k0_pay24 ix, k0_pay25 ix, k0_pay26 x rw' ix, k0_pay27 ix⟩)
        -∗ WP c (onBuf (k0_part20 (F := F)) c v w) Q) := by
  unfold onBuf
  rw [k0_part20_eq_skeleton]
  refine wp_form c (p' := sendFirst 7 _ _ _ _ _ _ _ _ _ (.op (.enqueueDma wholeM (.here (cutRow (k0_off10 c) (k0_off10_inb c))) (.dma rowS) _ _ _) fun _ =>
    .op (.load (Memref.whole cc0_stg0_0) (Rect.unit (s := S2048x512) ![0, 0] S2048x512.size _).toLoadRect _) fun x =>
    .op (.load (Memref.whole cc0_stg1_0) (Rect.unit (s := S512x32) ![0, 0] S512x32.size _).toLoadRect _) fun rw' =>
    .op (.load (Memref.whole cc0_stg2_0) (Rect.unit (s := S2048x2) ![0, 0] S2048x2.size _).toLoadRect _) fun ix =>
    .ret ⟨k0_pay21 x, k0_pay22 x rw', k0_pay24 ix, k0_pay25 ix, k0_pay26 x rw' ix, k0_pay27 ix⟩)) rfl ?_
  unfold rowing ins
  iintro ⟨#He, HS, ⟨Hw, ⟨%f, Hr⟩, Hv⟩, ⟨H0, H1, H2⟩⟩ Hk
  iapply (wp_first m K c 7 send7_koff (send7_off c) (send7_dev c)) $$ [HS]
  · isplitr; · iexact He
    iexact HS
  iintro HS
  iapply (wp_row m c (off10 c) f) $$ [Hw Hr Hv]
  · isplitl [Hw]; · iexact Hw
    isplitl [Hr]; · iexact Hr
    iexact Hv
  iintro HF
  iapply (wp_all c (Memref.readAt_unit_zero (Elt F) cc0_stg0_0 (by funext a; revert a; decide) _ x)) $$ H0
  iintro H0
  iapply (wp_all c (Memref.readAt_unit_zero (Elt F) cc0_stg1_0 (by funext a; revert a; decide) _ rw')) $$ H1
  iintro H1
  iapply (wp_all c (Memref.readAt_unit_zero (Elt F) cc0_stg2_0 (by funext a; revert a; decide) _ ix)) $$ H2
  iintro H2
  iapply (wp_done c)
  iapply Hk
  isplitl [HS]; · iexact HS
  isplitl [HF]; · iexact HF
  isplitl [H0]; · iexact H0
  isplitl [H1]; · iexact H1
  iexact H2

/-! ## The whole body -/

/-- What the accumulator holds at the end. -/
def outv (x : S2048x512.Idx → Elt F .f32) (w : S512x32.Idx → Elt F .f32) (ix : S2048x2.Idx → Elt F .i32) : S2048x1024.Idx → Elt F .f32 :=
  accv m c (placeW c) (k0_pay21 x) (k0_pay22 x w) (k0_pay24 ix) (k0_pay25 ix) (k0_pay26 x w ix) (k0_pay27 ix) 4

/-- The barrier's share of what a device starts with. -/
def meet0 : sProp 𝕄 :=
  iprop((dutyTok ER (barCell (lt c)) 0 true ∗ dutyTok ER (barCell (rt c)) 0 false) ∗ (reached ER (barCell (lt c)) 0 ∗ reached ER (barCell (rt c)) 0)
    ∗ (cred (tallyAt (barCell c) () 2) ∗ atPos ER (barCell c) 0 ∅ 0) ∗ (bigSep Finset.univ fun k : Fin 24 => reached ER (recvCell c k) 0)
    ∗ ∃ W, owes (c : Thread nD τ) (O₀ c) W)
/-- What a device starts with. -/
def entry (x : S2048x512.Idx → Elt F .f32) (w : S512x32.Idx → Elt F .f32) (ix : S2048x2.Idx → Elt F .i32) : sProp 𝕄 :=
  iprop(meet0 c
    ∗ (bigSep Finset.univ fun k : Fin 24 => iprop(dutyTok ER (sendCell c k) 0 true ∗ dutyTok ER (recvCell (nb c (ex k)) k) 0 true))
    ∗ (bigSep Finset.univ fun k : Fin 24 => iprop(cred (tallyAt (recvCell c k) () N) ∗ atPos ER (recvCell c k) 0 ∅ 0))
    ∗ (bigSep Finset.univ fun k : Fin 24 => atPos ER (sendCell c k) 0 ∅ 0)
    ∗ (wholeM.view.loc (c : Thread nD τ) ↦[Finset.univ]{fullShare} V m c main_v1)
    ∗ (∃ f, ((Memref.whole main_v2_1).view.loc (c : Thread nD τ) ↦[Finset.univ]{fullShare} f))
    ∗ semVal ((c : Thread nD τ), .dma rowS) 0 ∗ rests c ∗ (∃ f, outPt c f) ∗ ins c x w ix)
/-- What a device ends with. -/
def exit (x : S2048x512.Idx → Elt F .f32) (w : S512x32.Idx → Elt F .f32) (ix : S2048x2.Idx → Elt F .i32) : sProp 𝕄 :=
  iprop((bigSep Finset.univ fun k : Fin 24 => semVal (recvCell c k) 0) ∗ (bigSep Finset.univ fun k : Fin 24 => semVal (sendCell c k) 0)
    ∗ semVal (barCell c) 0 ∗ semVal ((c : Thread nD τ), .dma rowS) 0 ∗ rests c ∗ outPt c (outv m c x w ix) ∗ ins c x w ix ∗ owing c ∅)

/-- The duties and the leave of every transfer, put together. -/
theorem pays : iprop((bigSep Finset.univ fun k : Fin 24 => iprop(dutyTok ER (sendCell c k) 0 true ∗ dutyTok ER (recvCell (nb c (ex k)) k) 0 true))
      ∗ (bigSep Finset.univ fun k : Fin 24 => grant c k))
    ⊢ (iprop((bigSep Finset.univ fun j : Fin 8 => pay c (tr 0 j)) ∗ (bigSep Finset.univ fun j : Fin 8 => iprop(pay c (tr 1 j) ∗ pay c (tr 2 j)))) : sProp 𝕄) := by
  have key : (bigSep Finset.univ fun k : Fin 24 => iprop((dutyTok ER (sendCell c k) 0 true ∗ dutyTok ER (recvCell (nb c (ex k)) k) 0 true) ∗ grant c k))
      ⊢ (bigSep Finset.univ fun k : Fin 24 => pay c k : sProp 𝕄) := bigSep_mono fun k _ => by
    show (_ : sProp 𝕄) ⊢ _
    unfold pay
    iintro ⟨⟨H1, H2⟩, H3⟩
    isplitl [H1]; · iexact H1
    isplitl [H2]; · iexact H2
    iexact H3
  rw [← bigSep_sep', ← bigSep_sep', ← byExpert (fun k => pay c k)]
  exact key

theorem sent_start : iprop((bigSep Finset.univ fun j : Fin 8 => pay c (tr 0 j)) ∗ (wholeM.view.loc (c : Thread nD τ) ↦[Finset.univ]{fullShare.right} V m c main_v1) ∗ owing c Finset.univ)
    ⊢ (sent m c 0 : sProp 𝕄) := by
  unfold sent sentSt
  simp only [Nat.not_lt_zero, if_false]
  rw [own_experts, bigSep_sep', toSend_zero]
  iintro ⟨HP, HW, HO⟩
  isplitl [HP HW]
  · isplitl [HP]; · iexact HP
    iexact HW
  iexact HO

theorem zip_four {ι : Type} [Fintype ι] (Φ₁ Φ₂ Φ₃ Φ₄ : ι → sProp 𝕄) :
    iprop((bigSep Finset.univ Φ₁) ∗ (bigSep Finset.univ Φ₂) ∗ (bigSep Finset.univ Φ₃) ∗ (bigSep Finset.univ Φ₄))
      ⊢ bigSep Finset.univ fun i => iprop(Φ₁ i ∗ Φ₂ i ∗ Φ₃ i ∗ Φ₄ i) := by
  rw [bigSep_sep', bigSep_sep', bigSep_sep']

theorem ring_start : iprop((bigSep Finset.univ fun j : Fin 8 => slotPt c c j fullShare (allW m))
      ∗ (bigSep Finset.univ fun k : Fin 24 => iprop(cred (tallyAt (recvCell c k) () N) ∗ atPos ER (recvCell c k) 0 ∅ 0))
      ∗ (bigSep Finset.univ fun j : Fin 8 => iprop(pay c (tr 1 j) ∗ pay c (tr 2 j))) ∗ sent m c 8)
    ⊢ (ring m c 0 0 : sProp 𝕄) := by
  have e : (bigSep Finset.univ fun j : Fin 8 => sentSt m c 8 j) = (bigSep Finset.univ fun j : Fin 8 => cred (tallyAt (sendCell c (tr 0 j)) () N) : sProp 𝕄) :=
    bigSep_congr fun j _ => if_pos j.isLt
  have key : (bigSep Finset.univ fun j : Fin 8 => iprop(slotPt c c j fullShare (allW m)
        ∗ ((cred (tallyAt (recvCell c (tr 0 j)) () N) ∗ atPos ER (recvCell c (tr 0 j)) 0 ∅ 0) ∗ (cred (tallyAt (recvCell c (tr 1 j)) () N) ∗ atPos ER (recvCell c (tr 1 j)) 0 ∅ 0)
          ∗ (cred (tallyAt (recvCell c (tr 2 j)) () N) ∗ atPos ER (recvCell c (tr 2 j)) 0 ∅ 0))
        ∗ (pay c (tr 1 j) ∗ pay c (tr 2 j)) ∗ cred (tallyAt (sendCell c (tr 0 j)) () N)))
      ⊢ (bigSep Finset.univ fun j : Fin 8 => bank m c (if turn j < 0 then 0 + 1 else 0) j : sProp 𝕄) := bigSep_mono fun j _ => by
    show (_ : sProp 𝕄) ⊢ _
    rw [if_neg (Nat.not_lt_zero _)]
    unfold bank
    simp only [recvSt, sendSt, Fin.val_two, Fin.val_one, Fin.val_zero, if_true, if_false, Nat.reduceLT, Nat.reduceAdd, Nat.reduceEqDiff, reduceIte, _root_.or_true, _root_.true_or, _root_.or_false, _root_.false_or]
    iintro ⟨H, HR, ⟨H1, H2⟩, H0⟩
    isplitl [H]; · iexact H
    isplitl [HR]; · iexact HR
    isplitl [H0]; · iexact H0
    isplitl [H1]; · iexact H1
    iexact H2
  unfold sent ring
  rw [e, byExpert, toSend_eight]
  iintro ⟨HA, HB, HC, ⟨HD, HO⟩⟩
  isplitl [HA HB HC HD]
  · iapply key
    iapply (zip_four (fun j : Fin 8 => slotPt c c j fullShare (allW m)) _ (fun j : Fin 8 => iprop(pay c (tr 1 j) ∗ pay c (tr 2 j)))
      (fun j : Fin 8 => cred (tallyAt (sendCell c (tr 0 j)) () N)))
    isplitl [HA]; · iexact HA
    isplitl [HB]; · iexact HB
    isplitl [HC]; · iexact HC
    iexact HD
  iexact HO

/-- A half of all the bf16 experts, as the row copy names it. -/
theorem whole_left : (wholeM.view.loc (c : Thread nD τ) ↦[Finset.univ]{fullShare.left} V m c main_v1 : sProp 𝕄)
    ⊢ (wholeM.view.loc (c : Thread nD τ) ↦[wholeM.view.set]{fullShare.left} V m c main_v1) :=
  Entails.of_eq (congrArg (fun S => (wholeM.view.loc (c : Thread nD τ) ↦[S]{fullShare.left} V m c main_v1 : sProp 𝕄)) (View.set_whole main_v1).symm)

set_option maxHeartbeats 2000000 in
/-- The run of a device, from what it starts with to what it ends with. -/
theorem wp_body (x : S2048x512.Idx → Elt F .f32) (w : S512x32.Idx → Elt F .f32) (ix : S2048x2.Idx → Elt F .i32) {Q : PUnit → sProp 𝕄} :
    iprop(env m K c ∗ entry m c x w ix) ⊢ iprop((exit m c x w ix -∗ Q ⟨⟩) -∗ WP c (onBuf (cc0_body (F := F))) Q) := by
  unfold onBuf
  rw [cc0_body_eq_skeleton]
  unfold cc0_body_skel entry meet0
  iintro ⟨#He, ⟨⟨Ht, Hr, HC, HRR, HO⟩, HD, HRv, HSd, HW, ⟨%fa, HA⟩, HvR, HRest, ⟨%fo, Hout⟩, HI⟩⟩ Hk
  ihave HA := (carve c fa) $$ HA
  icases HA with ⟨HRow, HFree⟩
  ihave HG := (granting c) $$ [HFree HRR]
  · isplitl [HFree]; · iexact HFree
    iexact HRR
  ihave HW := (pointsTo_share (PosShare.mem_left_op_right fullShare)).1 $$ HW
  icases HW with ⟨HWl, HWr⟩
  iapply (wp_seq c)
  iapply (wp_part14 m K c) $$ [Ht Hr HC HG HO]
  · isplitr; · iexact He
    unfold hello
    isplitl [Ht]; · iexact Ht
    isplitl [Hr]; · iexact Hr
    isplitl [HC]; · iexact HC
    isplitl [HG]; · iexact HG
    iexact HO
  iintro %v5 %v7 %v23 ⟨HGr, HvB, HO⟩
  dsimp only
  ihave HP := (pays c) $$ [HD HGr]
  · isplitl [HD]; · iexact HD
    iexact HGr
  icases HP with ⟨HP0, HP12⟩
  ihave HS := (sent_start m c) $$ [HP0 HWr HO]
  · isplitl [HP0]; · iexact HP0
    isplitl [HWr]; · iexact HWr
    iexact HO
  iapply (wp_seq c)
  iapply (wp_part15 m K c) $$ [HS]
  · isplitr; · iexact He
    iexact HS
  iintro %v53 HS
  iapply (wp_seq c)
  iapply (wp_part16 m K c) $$ [HS]
  · isplitr; · iexact He
    iexact HS
  iintro %a16 HS
  obtain ⟨a16, b16⟩ := a16
  dsimp only
  iapply (wp_seq c)
  iapply (wp_part17 m K c) $$ [HS]
  · isplitr; · iexact He
    iexact HS
  iintro %a17 HS
  iapply (wp_seq c)
  iapply (wp_part18 m K c) $$ [HS]
  · isplitr; · iexact He
    iexact HS
  iintro %a18 HS
  obtain ⟨a18, b18⟩ := a18
  dsimp only
  iapply (wp_seq c)
  iapply (wp_part19 m K c) $$ [HS]
  · isplitr; · iexact He
    iexact HS
  iintro %a19 HS
  obtain ⟨a19, b19⟩ := a19
  dsimp only
  iapply (wp_seq c)
  iapply (wp_part20 m K c _ _ x w ix) $$ [HS HWl HRow HvR HI]
  · isplitr; · iexact He
    isplitl [HS]; · iexact HS
    isplitr [HI]
    · unfold rowing
      isplitl [HWl]; · iapply (whole_left m c) $$ HWl
      isplitl [HRow]
      · iexists fa
        iexact HRow
      iexact HvR
    iexact HI
  iintro ⟨HS, HF, HI⟩
  dsimp only
  iapply (wp_outLoad c fo) $$ Hout
  iintro Hout
  iapply (wp_outStore c fo (k0_pay6 (F := F))) $$ Hout
  iintro Hout
  unfold sent
  icases HS with ⟨HSt, HO⟩
  iapply (wp_rowed m K c (toSend 8)) $$ [HF HO]
  · isplitr; · iexact He
    isplitl [HF]; · iexact HF
    iexact HO
  iintro ⟨HvR, HSl, HO⟩
  ihave HRing := (ring_start m c) $$ [HSl HRv HP12 HSt HO]
  · isplitl [HSl]; · iexact HSl
    isplitl [HRv]; · iexact HRv
    isplitl [HP12]; · iexact HP12
    unfold sent
    isplitl [HSt]; · iexact HSt
    iexact HO
  iapply (wp_steps m K c) $$ [HRing HRest Hout]
  · isplitr; · iexact He
    unfold before
    isplitl [HRing]; · iexact HRing
    isplitl [HRest]; · iexact HRest
    iexact Hout
  unfold before
  iintro ⟨HRing, HRest, Hout⟩
  ihave HRing := (ring_done m c) $$ HRing
  icases HRing with ⟨HV, HC, HO⟩
  ihave HDr := (drain_start c) $$ [HC HSd HO]
  · isplitl [HC]; · iexact HC
    isplitl [HSd]; · iexact HSd
    iexact HO
  iapply (wp_drain m K c) $$ [HDr]
  · isplitr; · iexact He
    iexact HDr
  iintro HDr
  ihave HDr := (drain_end c) $$ HDr
  icases HDr with ⟨HVs, HO⟩
  iapply (wp_done c)
  iapply Hk
  unfold exit
  isplitl [HV]; · iexact HV
  isplitl [HVs]; · iexact HVs
  isplitl [HvB]; · iexact HvB
  isplitl [HvR]; · iexact HvR
  isplitl [HRest]; · iexact HRest
  isplitl [Hout]; · iexact Hout
  isplitl [HI]; · iexact HI
  iexact HO

end Cert.Proof.KernelIdeal
end
-- ==== Proof.Region.lean ====
module
public import proofs.«01_k».proof.Proof.Body
public import Idealize.ShloMosaic.Lib.Ring
public import Idealize.ShloMosaic.Lib.Pipeline.FrameSuffix
@[expose] public section

/-! The kernel's region: its windows, what a device brings and leaves, and the body's obligation. -/

noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
variable {F : FTy → Type} [FloatOps F]

local notation "𝕄" => MT nD τ sig Unit (Elt F) ℕ UU ℕ
local notation "𝕋" => Prog (TpuEff nD τ sig (Elt F) Λ₀ (Proc.tc (τ := τ)))

variable (m : (ℓ : Loc nD τ sig) → Buf (Elt F) ℓ) (K : GSem nD τ sig → ℕ) (c : Dev nD)

/-! ## The kernel's own semaphores -/

/-- The names of the kernel's own semaphores: four of the staging copies, one of the row copy, 24 of sends, 24 of receipts. -/
abbrev KO : Type := (Fin 2 × Fin 2) ⊕ (Unit ⊕ (Fin 24 ⊕ Fin 24))
abbrev osem : KO → SemLoc sig
  | .inl p => .dma (copyS p.1 p.2)
  | .inr (.inl _) => .dma rowS
  | .inr (.inr (.inl k)) => .dma (sendS k)
  | .inr (.inr (.inr k)) => .dma (recvS k)

set_option maxRecDepth 65536 in
theorem osem_scoped : ∀ k, (osem k).isScoped .tc = true := by decide
set_option maxRecDepth 65536 in
theorem osem_disj : ∀ k w s, osem k ≠ .dma ((spec0 w).sem s) := by decide
/-- A number for each, by which they are told apart. -/
def onum : KO → ℕ
  | .inl p => 4 + (2 * p.1.val + p.2.val)
  | .inr (.inl _) => 8
  | .inr (.inr (.inl k)) => 9 + k.val
  | .inr (.inr (.inr k)) => 33 + k.val
theorem onum_osem : ∀ k : KO, osem k = .dma ⟨onum k, by revert k; decide⟩ := by decide
theorem osem_inj : Function.Injective osem := by
  have h : ∀ k k' : KO, onum k = onum k' → k = k' := by
    intro k k' h
    rcases k with ⟨a, b⟩ | ⟨⟨⟩⟩ | k | k <;> rcases k' with ⟨a', b'⟩ | ⟨⟨⟩⟩ | k' | k' <;> simp only [onum] at h <;>
      first
        | rfl
        | (exfalso; omega)
        | (obtain rfl : a = a' := Fin.ext (by omega)
           obtain rfl : b = b' := Fin.ext (by omega)
           rfl)
        | (obtain rfl : k = k' := Fin.ext (by omega)
           rfl)
  intro k k' e
  rw [onum_osem, onum_osem] at e
  injection e with e
  exact h k k' (congrArg Fin.val e)
theorem osemFacts : Pipeline.OwnSemFacts spec0 osem := ⟨osem_scoped, osem_inj, osem_disj⟩

theorem ownSems_eq : (Pipeline.ownSems0 osem c : sProp 𝕄)
    = iprop((bigSep Finset.univ fun p : Fin 2 × Fin 2 => semVal ((c : Thread nD τ), .dma (copyS p.1 p.2)) 0) ∗ semVal ((c : Thread nD τ), .dma rowS) 0
      ∗ (bigSep Finset.univ fun k : Fin 24 => semVal (sendCell c k) 0) ∗ (bigSep Finset.univ fun k : Fin 24 => semVal (recvCell c k) 0)) := by
  unfold Pipeline.ownSems0
  rw [bigSep_univ_sum, bigSep_univ_sum, bigSep_univ_sum, show (Finset.univ : Finset Unit) = {()} from rfl, BI.bigSep_singleton]
  rfl

/-! ## The staged weights, place by place -/

theorem four_places (Φ : Fin 2 → Fin 2 → sProp 𝕄) : (bigSep Finset.univ fun p : Fin 2 × Fin 2 => Φ p.1 p.2) = iprop((Φ 0 0 ∗ Φ 0 1) ∗ (Φ 1 0 ∗ Φ 1 1)) := by
  rw [bigSep_univ_prod, BI.bigSep_fin_two, BI.bigSep_fin_two, BI.bigSep_fin_two]
  rfl

theorem places_apart (p p' : Fin 2 × Fin 2) (h : p ≠ p') :
    Disjoint ((stageM p.1 p.2).view.set : Finset S2x2x512x1024.Idx) ((stageM p'.1 p'.2).view.set : Finset S2x2x512x1024.Idx) :=
  Finset.disjoint_left.mpr fun i h1 h2 => by
    obtain ⟨a1, a2⟩ := (mem_stage p.1 p.2 i).mp h1
    obtain ⟨b1, b2⟩ := (mem_stage p'.1 p'.2 i).mp h2
    exact h (Prod.ext (a1.symm.trans b1) (a2.symm.trans b2))
theorem places_all : (Finset.univ.biUnion (fun p : Fin 2 × Fin 2 => ((stageM p.1 p.2).view.set : Finset S2x2x512x1024.Idx)) : Finset S2x2x512x1024.Idx) = Finset.univ := by
  ext i
  rw [Finset.mem_biUnion]
  exact ⟨fun _ => Finset.mem_univ _, fun _ => ⟨(i 0, i 1), Finset.mem_univ _, (mem_stage (i 0) (i 1) i).mpr ⟨rfl, rfl⟩⟩⟩

/-- The scratch buffer, at some contents. -/
def scratch : sProp 𝕄 := iprop(∃ f : Buf (Elt F) ((c : Thread nD τ).loc cc0_scratch0), ((c : Thread nD τ).loc cc0_scratch0) ↦{fullShare} f)

theorem to_rests : iprop(scratch c ∗ (bigSep Finset.univ fun p : Fin 2 × Fin 2 => semVal ((c : Thread nD τ), .dma (copyS p.1 p.2)) 0)) ⊢ (rests c : sProp 𝕄) := by
  unfold scratch rests rest
  rw [four_places (fun l q => semVal ((c : Thread nD τ), .dma (copyS l q)) 0)]
  iintro ⟨⟨%f, H⟩, ⟨V0, V1⟩, V2, V3⟩
  ihave H := (Entails.of_eq ((Ring.pointsTo_blocks (ℓ := (c : Thread nD τ).loc cc0_scratch0) (fun p : Fin 2 × Fin 2 => ((stageM p.1 p.2).view.set : Finset S2x2x512x1024.Idx))
    places_apart places_all f).trans (four_places fun l q => stagePt c l q f))) $$ H
  icases H with ⟨⟨H0, H1⟩, H2, H3⟩
  isplitl [V0 H0]
  · isplitl [V0]; · iexact V0
    iexists f; iexact H0
  isplitl [V1 H1]
  · isplitl [V1]; · iexact V1
    iexists f; iexact H1
  isplitl [V2 H2]
  · isplitl [V2]; · iexact V2
    iexists f; iexact H2
  isplitl [V3]; · iexact V3
  iexists f; iexact H3

theorem of_rests : (rests c : sProp 𝕄) ⊢ iprop(scratch c ∗ (bigSep Finset.univ fun p : Fin 2 × Fin 2 => semVal ((c : Thread nD τ), .dma (copyS p.1 p.2)) 0)) := by
  unfold scratch rests rest
  rw [four_places (fun l q => semVal ((c : Thread nD τ), .dma (copyS l q)) 0)]
  iintro ⟨⟨V0, %f, H0⟩, ⟨V1, H1⟩, ⟨V2, H2⟩, ⟨V3, H3⟩⟩
  isplitl [H0 H1 H2 H3]
  · iapply (Ring.pointsTo_blocks_join_exists (ℓ := (c : Thread nD τ).loc cc0_scratch0) (fun p : Fin 2 × Fin 2 => ((stageM p.1 p.2).view.set : Finset S2x2x512x1024.Idx))
      places_apart places_all f)
    iapply (Entails.of_eq (four_places fun l q => iprop(∃ f, stagePt c l q f)).symm)
    isplitl [H0 H1]
    · isplitl [H0]; · iexists f; iexact H0
      iexact H1
    isplitl [H2]; · iexact H2
    iexact H3
  isplitl [V0 V1]
  · isplitl [V0]; · iexact V0
    iexact V1
  isplitl [V2]; · iexact V2
  iexact V3

/-! ## What a device brings to the kernel and leaves -/

/-- What is dealt to device `c` before the run, its scoped cells not yet opened. -/
def ghost : sProp 𝕄 :=
  iprop(((bigSep Finset.univ fun d : Dev nD => cellInv ER (sched m) (K (barCell d)) (barCell d))
      ∗ (bigSep Finset.univ fun p : Dev nD × Fin 24 => cellInv ER (sched m) (K (sendCell p.1 p.2)) (sendCell p.1 p.2))
      ∗ (bigSep Finset.univ fun p : Dev nD × Fin 24 => cellInv ER (sched m) (K (recvCell p.1 p.2)) (recvCell p.1 p.2)))
    ∗ (reached ER (barCell (lt c)) 0 ∗ reached ER (barCell (rt c)) 0)
    ∗ (dutyTok ER (barCell (lt c)) 0 true ∗ dutyTok ER (barCell (rt c)) 0 false)
    ∗ atPos ER (barCell c) 0 ∅ 0
    ∗ ((bigSep Finset.univ fun k : Fin 24 => openTok ER (sendCell c k)) ∗ (bigSep Finset.univ fun k : Fin 24 => openTok ER (recvCell c k)))
    ∗ (bigSep Finset.univ fun k : Fin 24 => iprop(dutyTok ER (sendCell c k) 0 true ∗ dutyTok ER (recvCell (nb c (ex k)) k) 0 true)))
/-- The buffers the kernel addresses itself. -/
def own2 : sProp 𝕄 := iprop((wholeM.view.loc (c : Thread nD τ) ↦[Finset.univ]{fullShare} V m c main_v1)
  ∗ (∃ f, ((Memref.whole main_v2_1).view.loc (c : Thread nD τ) ↦[Finset.univ]{fullShare} f)))
/-- What the program's start kept for the kernel. -/
def kept : sProp 𝕄 := iprop((∃ K, ghost m K c) ∗ cred (tallyAt (barCell c) () 2) ∗ (bigSep Finset.univ fun k : Fin 24 => cred (tallyAt (recvCell c k) () N)) ∗ own2 m c)
/-- The same once the scoped cells are open. -/
def ready : sProp 𝕄 :=
  iprop(∃ K, env m K c
    ∗ ((dutyTok ER (barCell (lt c)) 0 true ∗ dutyTok ER (barCell (rt c)) 0 false) ∗ (reached ER (barCell (lt c)) 0 ∗ reached ER (barCell (rt c)) 0)
      ∗ (cred (tallyAt (barCell c) () 2) ∗ atPos ER (barCell c) 0 ∅ 0) ∗ (bigSep Finset.univ fun k : Fin 24 => reached ER (recvCell c k) 0))
    ∗ (bigSep Finset.univ fun k : Fin 24 => iprop(dutyTok ER (sendCell c k) 0 true ∗ dutyTok ER (recvCell (nb c (ex k)) k) 0 true))
    ∗ (bigSep Finset.univ fun k : Fin 24 => iprop(cred (tallyAt (recvCell c k) () N) ∗ atPos ER (recvCell c k) 0 ∅ 0))
    ∗ (bigSep Finset.univ fun k : Fin 24 => atPos ER (sendCell c k) 0 ∅ 0)
    ∗ own2 m c
    ∗ ((bigSep Finset.univ fun p : Fin 2 × Fin 2 => semVal ((c : Thread nD τ), .dma (copyS p.1 p.2)) 0) ∗ semVal ((c : Thread nD τ), .dma rowS) 0))

/-- Opening a family of scoped cells. -/
theorem open_all (g : Fin 24 → GSem nD τ sig) :
    iprop((bigSep Finset.univ fun k : Fin 24 => cellInv ER (sched m) (K (g k)) (g k)) ∗ (bigSep Finset.univ fun k : Fin 24 => openTok ER (g k))
        ∗ (bigSep Finset.univ fun k : Fin 24 => semVal (g k) 0))
      ⊢ (iprop(|={Set.univ}=> ((bigSep Finset.univ fun k : Fin 24 => atPos ER (g k) 0 ∅ 0) ∗ (bigSep Finset.univ fun k : Fin 24 => reached ER (g k) 0))) : sProp 𝕄) := by
  rw [← bigSep_sep', ← bigSep_sep', ← bigSep_sep']
  exact BIBase.Entails.trans (bigSep_mono fun k _ => Rounds.cell_open ER (sched m) (g := g k) (Set.mem_univ (K (g k)))) (bigSep_fupd _ _)

theorem opening : iprop(kept m c ∗ Pipeline.ownSems0 osem c ∗ levAts L lv) ⊢ (|={Set.univ}=> ready m c : sProp 𝕄) := by
  have row : ∀ (f : Dev nD → Fin 24 → sProp 𝕄), (bigSep Finset.univ fun p : Dev nD × Fin 24 => f p.1 p.2) ⊢ (bigSep Finset.univ fun k => f c k : sProp 𝕄) := fun f => by
    rw [bigSep_univ_prod]
    exact bigSep_elim (Φ := fun d : Dev nD => bigSep Finset.univ fun k : Fin 24 => f d k) (Finset.mem_univ c)
  rw [ownSems_eq]
  unfold kept ready ghost
  iintro ⟨⟨⟨%K, ⟨#HB, #HS, #HR⟩, Hr, Ht, Hat, ⟨HoS, HoR⟩, HD⟩, HcB, HcR, HW⟩, ⟨Hcp, Hrow, HvS, HvR⟩, #Hlev⟩
  imod (open_all m K (fun k => sendCell c k)) $$ [HoS HvS] with ⟨HaS, #HrS⟩
  · isplitr
    · iapply (row fun d k => cellInv ER (sched m) (K (sendCell d k)) (sendCell d k)); iexact HS
    isplitl [HoS]; · iexact HoS
    iexact HvS
  imod (open_all m K (fun k => recvCell c k)) $$ [HoR HvR] with ⟨HaR, #HrR⟩
  · isplitr
    · iapply (row fun d k => cellInv ER (sched m) (K (recvCell d k)) (recvCell d k)); iexact HR
    isplitl [HoR]; · iexact HoR
    iexact HvR
  imodintro
  iexists K
  isplitr
  · unfold env
    isplitr; · iexact HB
    isplitr; · iexact HS
    isplitr; · iexact HR
    isplitr; · iexact HrS
    iexact Hlev
  isplitl [Ht Hr HcB Hat]
  · isplitl [Ht]; · iexact Ht
    isplitl [Hr]; · iexact Hr
    isplitl [HcB Hat]
    · isplitl [HcB]; · iexact HcB
      iexact Hat
    iexact HrR
  isplitl [HD]; · iexact HD
  isplitl [HcR HaR]
  · rw [bigSep_sep']
    isplitl [HcR]; · iexact HcR
    iexact HaR
  isplitl [HaS]; · iexact HaS
  isplitl [HW]; · iexact HW
  isplitl [Hcp]; · iexact Hcp
  iexact Hrow

/-! ## The windows and the body's obligation -/

/-- The result on device `c`, from what its windows hold. -/
def result : S2048x1024.Idx → Elt F .f32 := outv m c (iblk m c 0 t0_0) (iblk m c 1 t0_0) (iblk m c 2 t0_0)

/-- The region on device `c`: its windows, what holds before and after its one point, and what it owes. -/
def dat (c : Dev nD) : Pipeline.Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => result m c
    | ⟨_ + 4, h⟩ => absurd h (Nat.not_lt.2 (Nat.le_add_left _ _))
  Φ t := if t.val = 0 then iprop(scratch c ∗ (∃ r, prngReg c r) ∗ ready m c)
    else iprop(scratch c ∗ (∃ r, prngReg c r) ∗ Pipeline.ownSems0 osem c ∗ semVal (barCell c) 0)
  q _ := fullShare
  owed t := if t.val = 0 then O₀ c else 0

theorem before_0 (t : Fin cfg0.N) (d) : (dat m c).before 0 t d = iblk m c 0 t :=
  ((dat m c).before_in_eq_fetched 0 rfl (fun _ => rfl) (fun _ _ _ => rfl) (fun t => rfl) t d).trans rfl
theorem before_1 (t : Fin cfg0.N) (d) : (dat m c).before 1 t d = iblk m c 1 t :=
  ((dat m c).before_in_eq_fetched 1 rfl (fun _ => rfl) (fun _ _ _ => rfl) (fun t => rfl) t d).trans rfl
theorem before_2 (t : Fin cfg0.N) (d) : (dat m c).before 2 t d = iblk m c 2 t :=
  ((dat m c).before_in_eq_fetched 2 rfl (fun _ => rfl) (fun _ _ _ => rfl) (fun t => rfl) t d).trans rfl

theorem owes_out {c : Dev nD} (t : Fin (cfg0.N + 1)) (O : CellTallies nD τ sig Unit) (h : (dat m c).owed t = O) :
    ((dat m c).owesAt () t : sProp 𝕄) ⊢ iprop(∃ W, owes (c : Thread nD τ) O W) := by
  unfold Pipeline.Dat.owesAt Pipeline.owesWithin
  rw [h]
  iintro ⟨%W, -, HO⟩
  iexists W
  iexact HO
theorem owes_in {c : Dev nD} (t : Fin (cfg0.N + 1)) (O : CellTallies nD τ sig Unit) (h : (dat m c).owed t = O) :
    iprop(∃ W, owes (c : Thread nD τ) O W) ⊢ ((dat m c).owesAt () t : sProp 𝕄) := by
  unfold Pipeline.Dat.owesAt Pipeline.owesWithin Pipeline.Dat.bound
  rw [h]
  iintro ⟨%W, HO⟩
  iexists W
  isplitr
  · ipureintro; exact fun _ _ => Or.inl trivial
  iexact HO

set_option maxHeartbeats 1000000 in
theorem body_ok : Pipeline.BodyObligation (dat m c) defs₀ 𝒱₀ () Set.univ := fun t => by
  obtain rfl := fin_N0 t
  rw [bigSep_W0, bigSep_W0]
  show iprop(iprop(scratch c ∗ (∃ r, prngReg c r) ∗ ready m c) ∗ (dat m c).owesAt () t0_0.castSucc
      ∗ (∃ d, owns (c : Thread nD τ) (Memref.whole cc0_stg0_0) fullShare ((dat m c).before 0 t0_0 d)) ∗ (∃ d, owns (c : Thread nD τ) (Memref.whole cc0_stg1_0) fullShare ((dat m c).before 1 t0_0 d))
      ∗ (∃ d, owns (c : Thread nD τ) (Memref.whole cc0_stg2_0) fullShare ((dat m c).before 2 t0_0 d)) ∗ (∃ d, owns (c : Thread nD τ) (Memref.whole cc0_stg3_0) fullShare ((dat m c).before 3 t0_0 d)))
    ⊢ WP c (onBuf (cc0_body (F := F))) (fun _ => iprop(iprop(scratch c ∗ (∃ r, prngReg c r) ∗ Pipeline.ownSems0 osem c ∗ semVal (barCell c) 0) ∗ (dat m c).owesAt () t0_0.succ
      ∗ owns (c : Thread nD τ) (Memref.whole cc0_stg0_0) fullShare (iblk m c 0 t0_0) ∗ owns (c : Thread nD τ) (Memref.whole cc0_stg1_0) fullShare (iblk m c 1 t0_0)
      ∗ owns (c : Thread nD τ) (Memref.whole cc0_stg2_0) fullShare (iblk m c 2 t0_0) ∗ owns (c : Thread nD τ) (Memref.whole cc0_stg3_0) fullShare (result m c)))
  simp only [before_0, before_1, before_2, owns_whole]
  unfold ready own2
  iintro ⟨⟨HSc, Hp, %K, #He, ⟨Ht, Hr, HC, HRR⟩, HD, HRv, HSd, ⟨HW, HA⟩, Hcp, Hrow⟩, HO, ⟨%d0, H0⟩, ⟨%d1, H1⟩, ⟨%d2, H2⟩, ⟨%d3, H3⟩⟩
  ihave HO := (owes_out m t0_0.castSucc (O₀ c) rfl) $$ HO
  ihave HRest := (to_rests c) $$ [HSc Hcp]
  · isplitl [HSc]; · iexact HSc
    iexact Hcp
  iapply (wp_body m K c (iblk m c 0 t0_0) (iblk m c 1 t0_0) (iblk m c 2 t0_0)) $$ [Ht Hr HC HRR HD HRv HSd HW HA Hrow HO H0 H1 H2 H3 HRest]
  · isplitr; · iexact He
    unfold entry meet0 ins outPt
    isplitl [Ht Hr HC HRR HO]
    · isplitl [Ht]; · iexact Ht
      isplitl [Hr]; · iexact Hr
      isplitl [HC]; · iexact HC
      isplitl [HRR]; · iexact HRR
      iexact HO
    isplitl [HD]; · iexact HD
    isplitl [HRv]; · iexact HRv
    isplitl [HSd]; · iexact HSd
    isplitl [HW]; · iexact HW
    isplitl [HA]; · iexact HA
    isplitl [Hrow]; · iexact Hrow
    isplitl [HRest]; · iexact HRest
    isplitl [H3]; · iexists _; iexact H3
    isplitl [H0]; · iexact H0
    isplitl [H1]; · iexact H1
    iexact H2
  unfold exit ins outPt owing
  rw [show due c ∅ = (0 : CellTallies nD τ sig Unit) from Finset.sum_empty]
  iintro ⟨HVr, HVs, HvB, Hrow, HRest, HOut, ⟨H0, H1, H2⟩, HO⟩
  ihave HX := (of_rests c) $$ HRest
  icases HX with ⟨HSc, Hcp⟩
  isplitr [HO H0 H1 H2 HOut]
  · isplitl [HSc]; · iexact HSc
    isplitl [Hp]; · iexact Hp
    isplitr [HvB]
    · rw [ownSems_eq]
      isplitl [Hcp]; · iexact Hcp
      isplitl [Hrow]; · iexact Hrow
      isplitl [HVs]; · iexact HVs
      iexact HVr
    iexact HvB
  isplitl [HO]
  · iapply (owes_in m t0_0.succ 0 rfl); iexact HO
  isplitl [H0]; · iexact H0
  isplitl [H1]; · iexact H1
  isplitl [H2]; · iexact H2
  iexact HOut

/-! ## The region -/

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | ⟨0, _⟩ => dat m
  | ⟨_ + 1, h⟩ => absurd h (Nat.not_lt.2 (Nat.le_add_left _ _))

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers when the region is entered, and when it is left. -/
abbrev V₁ (c : Dev nD) : Valuation τ sig (Elt F) := StableHlo.after hostOps0 (fun b => m (c, b))
def V₂ (c : Dev nD) : Valuation τ sig (Elt F) := Pipeline.withArrays spec0 c (V₁ m c) (fun w => (dat m c).arrAt w cfg0.N)

theorem owed_pos {g : GSem nD τ sig} {u : Unit} (h : 0 < O₀ c g u) : u ∈ L g ∧ 0 < lv g u := by
  have key : g.1.2 = .tc ∧ 0 < lv g u := by
    by_contra hn
    refine absurd h (Nat.not_lt.mpr (Nat.le_zero.mpr ?_))
    have hz : ∀ (d : Dev nD) (sm : SemLoc sig) (n : ℕ), 0 < lv ((d : Thread nD τ), sm) u → (tallyAt ((d : Thread nD τ), sm) () n : CellTallies nD τ sig Unit) g u = 0 := fun d sm n hl => by
      rw [tallyAt_apply]
      exact if_neg fun ⟨e, _⟩ => hn (e ▸ ⟨rfl, hl⟩)
    have hd : (due c Finset.univ : CellTallies nD τ sig Unit) g u = 0 := by
      unfold due
      rw [Finset.sum_apply, Finsupp.finset_sum_apply]
      exact Finset.sum_eq_zero fun k _ => hz _ _ _ (by rw [lv_recv]; omega)
    unfold O₀
    rw [Pi.add_apply, Pi.add_apply, Finsupp.add_apply, Finsupp.add_apply, hd, hz (rt c) (.reg barrier0) 1 Nat.one_pos, hz (lt c) (.reg barrier0) 1 Nat.one_pos]
  exact ⟨by unfold L; rw [if_pos key.1]; exact Finset.mem_singleton_self _, key.2⟩

theorem stage_level : ∀ (w : Fin cfg0.W) (s : Fin ((cfg0.win w).nbuf)) (d : Dev nD), lv ((d : Thread nD τ), .dma ((cfg0.win w).sem s)) () = 0 := by
  decide

theorem opened_in : iprop(Pipeline.scopedRest (Pipeline.pin (pcfgs (F := F)) adm 0).spec c ∗ (∃ r, prngReg c r) ∗ StableHlo.held (c.tc : Thread nD τ) ∅ (V₁ m c) ∗ ready m c)
    ⊢ (pdats m 0 c).Φ 0 := by
  show iprop(Pipeline.scopedRest spec0 c ∗ (∃ r, prngReg c r) ∗ StableHlo.held (c.tc : Thread nD τ) ∅ (V₁ m c) ∗ ready m c) ⊢ iprop(scratch c ∗ (∃ r, prngReg c r) ∗ ready m c)
  rw [scopedRest0_eq]
  unfold scratch
  iintro ⟨Hs, Hp, -, HX⟩
  isplitl [Hs]; · iexact Hs
  isplitl [Hp]; · iexact Hp
  iexact HX

theorem closed_out : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ semVal (barCell c) 0) := by
  show iprop(scratch c ∗ (∃ r, prngReg c r) ∗ Pipeline.ownSems0 osem c ∗ semVal (barCell c) 0)
    ⊢ iprop(Pipeline.scopedRest spec0 c ∗ (∃ r, prngReg c r) ∗ StableHlo.held (c.tc : Thread nD τ) ∅ (V₂ m c) ∗ Pipeline.ownSems0 osem c ∗ semVal (barCell c) 0)
  rw [scopedRest0_eq]
  unfold scratch StableHlo.held
  rw [BI.bigSep_empty]
  iintro ⟨Hs, Hp, HO, HB⟩
  isplitl [Hs]; · iexact Hs
  isplitl [Hp]; · iexact Hp
  isplitr; · iempintro
  isplitl [HO]; · iexact HO
  iexact HB

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osemFacts
    ∅ ∅ (Finset.Subset.refl _) kit rfl (fun c => (body_ok m c).loose)
    (fun _ => 0) O₀ (fun c => (zero_add (O₀ c)).symm) (fun _ => rfl) (fun _ => rfl) (fun c w => by fin_cases w <;> rfl)
    (V₁ m) (V₂ m) (fun _ b hb => absurd hb (by rw [Finset.sdiff_self]; exact Finset.notMem_empty b))
    (kept m) (fun c => semVal (barCell c) 0) (ready m) (fun c => semVal (barCell c) 0) (opening m) (opened_in m) (closed_out m)
    (fun c => by iintro H; imodintro; iexact H)
    (fun _ => 0)
    ⟨fun c w s => by rw [L_tc]; exact Finset.mem_singleton_self _, fun c w s => (stage_level w s c).le, fun c t g i h => by
      have e : (pdats m 0 c).owed t = if t.val = 0 then O₀ c else 0 := rfl
      rw [e] at h
      split at h
      · exact owed_pos c h
      · exact absurd h (Nat.lt_irrefl 0)⟩
    (fun c => ((c : Thread nD τ).loc main_arg3) ↦{fullShare} V m c main_arg3)
    (fun _ _ => rfl) (fun c w => (Pipeline.withArrays_arr spec0 winFacts0.arr_inj c (V₁ m c) (fun w => (dat m c).arrAt w cfg0.N) w).symm)

end Cert.Proof.KernelIdeal
end
-- ==== Proof.Deal.lean ====
module
public import proofs.«01_k».proof.Proof.Region
@[expose] public section

/-! The run of the whole program: what is dealt at the start, the two segments, and what holds at the end. -/

noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
variable {F : FTy → Type} [FloatOps F]

local notation "𝕄" => MT nD τ sig Unit (Elt F) ℕ UU ℕ

variable (m : (ℓ : Loc nD τ sig) → Buf (Elt F) ℓ) (ρ : Dev nD → PrngReg) (K : GSem nD τ sig → ℕ) (c : Dev nD)

/-! ## Buffers and semaphores outside any kernel -/

/-- The buffers that live through the program. -/
def bufs : Finset (DevRef τ sig) := (StableHlo.tcRefs τ sig).filter fun b => ¬ b.isScoped
/-- A buffer held whole. -/
abbrev pt (c : Dev nD) (b : Ref sig .tc) (f : Buf (Elt F) ((c : Thread nD τ).loc b)) : sProp 𝕄 := ((c : Thread nD τ).loc b) ↦{fullShare} f

theorem bufs_held (W : Valuation τ sig (Elt F)) : (unscopedBufs c (fun b => W b) : sProp 𝕄) = StableHlo.held (c : Thread nD τ) bufs W := by
  unfold unscopedBufs StableHlo.held bufs StableHlo.tcRefs
  rw [Finset.filter_map, BI.bigSep_map]
  rfl
theorem bufs_list (W : Valuation τ sig (Elt F)) : (StableHlo.held (c : Thread nD τ) bufs W : sProp 𝕄)
    = iprop(pt c main_arg0 (W main_arg0) ∗ pt c main_arg1 (W main_arg1) ∗ pt c main_arg2 (W main_arg2) ∗ pt c main_arg3 (W main_arg3)
      ∗ pt c main_v1 (W main_v1) ∗ pt c main_v2_0 (W main_v2_0) ∗ pt c main_v2_1 (W main_v2_1)) := by
  unfold StableHlo.held
  rw [bigSep_eq_bigSepL_of_eq [Proc.devRef .tc main_arg0, Proc.devRef .tc main_arg1, Proc.devRef .tc main_arg2, Proc.devRef .tc main_arg3, Proc.devRef .tc main_v1, Proc.devRef .tc main_v2_0,
    Proc.devRef .tc main_v2_1] (by decide) (by decide)]
  rfl
theorem arrs_list (W : Valuation τ sig (Elt F)) : (StableHlo.held (c : Thread nD τ) (Pipeline.arrRefs (τ := τ) spec0) W : sProp 𝕄)
    = iprop(pt c main_arg0 (W main_arg0) ∗ pt c main_arg1 (W main_arg1) ∗ pt c main_arg2 (W main_arg2) ∗ pt c main_v2_0 (W main_v2_0)) := by
  unfold StableHlo.held
  rw [bigSep_eq_bigSepL_of_eq [Proc.devRef .tc main_arg0, Proc.devRef .tc main_arg1, Proc.devRef .tc main_arg2, Proc.devRef .tc main_v2_0] (by decide) (by decide)]
  rfl
theorem unscoped_sems : (unscopedSems0 c : sProp 𝕄) = semVal (barCell c) 0 := by
  unfold unscopedSems0
  rw [show (Finset.univ.filter fun sm : SemLoc sig => ¬ sm.isScoped .tc) = {SemLoc.reg barrier0} from by decide, BI.bigSep_singleton]
theorem only_barrier : ∀ sm : SemLoc sig, sm.isScoped .tc = false → sm = .reg barrier0 := by decide

/-! ## The cells and the tokens dealt -/

/-- The names of a device's scoped cells. -/
abbrev KS : Type := Fin 24 ⊕ Fin 24
def barEmb : Dev nD ↪ GSem nD τ sig := ⟨fun c => barCell c, fun _ _ h => congrArg (fun g : GSem nD τ sig => g.1.1) h⟩
def scEmb : Dev nD × KS ↪ GSem nD τ sig :=
  ⟨fun p => ((p.1 : Thread nD τ), osem (.inr (.inr p.2))), fun p q h =>
    Prod.ext (congrArg (fun g : GSem nD τ sig => g.1.1) h) (Sum.inr_injective (Sum.inr_injective (osem_inj (congrArg Prod.snd h))))⟩
abbrev barCells : Finset (GSem nD τ sig) := Finset.univ.map barEmb
abbrev scCells : Finset (GSem nD τ sig) := Finset.univ.map scEmb

/-- The cell and the duty of a token: two of every barrier cell, one of every other. -/
def tokOf (c : Dev nD) : Bool ⊕ KS → GSem nD τ sig × ℕ × Bool
  | .inl b => (barCell c, 0, b)
  | .inr k => (scEmb (c, k), 0, true)
theorem scoped_ne (c d : Dev nD) (k : KS) : barCell c ≠ scEmb (d, k) := fun h => by
  have e : SemLoc.reg barrier0 = osem (.inr (.inr k)) := congrArg Prod.snd h
  rw [onum_osem] at e
  cases e
def tokEmb : Dev nD × (Bool ⊕ KS) ↪ GSem nD τ sig × ℕ × Bool :=
  ⟨fun p => tokOf p.1 p.2, by
    rintro ⟨c, k⟩ ⟨d, l⟩ h
    have h : tokOf c k = tokOf d l := h
    have h1 := congrArg Prod.fst h
    rcases k with b | k <;> rcases l with b' | l
    · exact Prod.ext (barEmb.injective h1) (congrArg Sum.inl (congrArg (fun t : GSem nD τ sig × ℕ × Bool => t.2.2) h))
    · exact absurd h1 (scoped_ne c d l)
    · exact absurd h1.symm (scoped_ne d c k)
    · have e : (c, k) = (d, l) := scEmb.injective h1
      exact Prod.ext (congrArg (fun q : Dev nD × KS => q.1) e) (congrArg (fun q : Dev nD × KS => (Sum.inr q.2 : Bool ⊕ KS)) e)⟩
abbrev toks : Finset (GSem nD τ sig × ℕ × Bool) := Finset.univ.map tokEmb

theorem cells_apart : Disjoint (barCells : Finset (GSem nD τ sig)) scCells := by
  rw [Finset.disjoint_left]
  intro g h1 h2
  obtain ⟨c, -, rfl⟩ := Finset.mem_map.mp h1
  obtain ⟨p, -, h⟩ := Finset.mem_map.mp h2
  exact scoped_ne c p.1 p.2 h.symm

/-- The ghost state at the start. -/
def u₀ : UU :=
  (initOf (Pipeline.cells (Pipeline.pin (pcfgs (F := F)) adm) cellOf_inj) (Pipeline.launchToks (Pipeline.pin (pcfgs (F := F)) adm) cellOf_inj),
    (launchOf barCells scCells toks, 1))

/-- The ring's start, lodged with the first device. -/
def lodged : Dev nD → sProp 𝕄 := fun c => if c = 0 then BI.own (ER (launchOf barCells scCells toks)) else iprop(emp)
theorem lodged_all : bigSep Finset.univ (lodged (F := F)) = BI.own (ER (launchOf barCells scCells toks)) := by
  rw [bigSep_univ_at _ (0 : Dev nD), bigSep_congr (s := Finset.univ.erase (0 : Dev nD)) (Ψ := fun _ => (BI.emp : sProp 𝕄))
      fun c hc => by unfold lodged; rw [if_neg (Finset.ne_of_mem_erase hc)]; rfl, BI.bigSep_emp_const]
  unfold lodged
  rw [if_pos rfl]
  exact BI.equiv_iff.mp sep_emp

theorem deal (a : UR sig nD τ) (b : Rounds.URounds (GSem nD τ sig) Bool) : (ownU ((a, (b, 1)) : UU) : sProp 𝕄) ⊢ iprop(BI.own (EP a) ∗ BI.own (ER b)) := by
  refine (ownU_pair a (b, (1 : Counters))).trans ?_
  iintro ⟨H1, H2⟩
  isplitl [H1]; · iexact H1
  iexact H2

/-! ## What stays with each device -/

/-- The facts every device may consult. -/
def facts (κ : GSem nD τ sig → ℕ) : sProp 𝕄 :=
  iprop((bigSep (barCells ∪ scCells) fun g => cellInv ER (sched m) (κ g) g) ∗ bigSep barCells fun g => reached ER g 0)
instance facts_persistent (κ : GSem nD τ sig → ℕ) : BI.Persistent (facts m κ) := by unfold facts; infer_instance

/-- What only device `c` holds. -/
def alone : sProp 𝕄 :=
  iprop(atPos ER (barCell c) 0 ∅ 0
    ∗ ((bigSep Finset.univ fun k : Fin 24 => openTok ER (sendCell c k)) ∗ (bigSep Finset.univ fun k : Fin 24 => openTok ER (recvCell c k)))
    ∗ ((dutyTok ER (barCell (lt c)) 0 true ∗ dutyTok ER (barCell (rt c)) 0 false)
      ∗ (bigSep Finset.univ fun k : Fin 24 => dutyTok ER (sendCell c k) 0 true) ∗ (bigSep Finset.univ fun k : Fin 24 => dutyTok ER (recvCell (nb c (ex k)) k) 0 true)))

theorem inv_of (κ : GSem nD τ sig → ℕ) {g : GSem nD τ sig} (h : g ∈ (barCells ∪ scCells : Finset (GSem nD τ sig))) :
    (bigSep (barCells ∪ scCells) fun g => (cellInv ER (sched m) (κ g) g : sProp 𝕄)) ⊢ cellInv ER (sched m) (κ g) g := bigSep_elim h
theorem bar_in : barCell c ∈ (barCells ∪ scCells : Finset (GSem nD τ sig)) := Finset.mem_union_left _ (Finset.mem_map_of_mem barEmb (Finset.mem_univ c))
theorem sc_in (k : KS) : scEmb (c, k) ∈ (barCells ∪ scCells : Finset (GSem nD τ sig)) := Finset.mem_union_right _ (Finset.mem_map_of_mem scEmb (Finset.mem_univ (c, k)))
theorem reached_of : (bigSep barCells fun g => (reached ER g 0 : sProp 𝕄)) ⊢ reached ER (barCell c) 0 := bigSep_elim (Finset.mem_map_of_mem barEmb (Finset.mem_univ c))

theorem to_ghost (κ : GSem nD τ sig → ℕ) : iprop(facts m κ ∗ alone c) ⊢ iprop(∃ K, ghost m K c) := by
  unfold facts alone ghost
  iintro ⟨⟨#HI, #HR⟩, Hat, Ho, Ht, HS, HV⟩
  iexists κ
  isplitr
  · isplitr
    · iapply (bigSep_intro_persistent (S := Finset.univ) (R := bigSep (barCells ∪ scCells) fun g => (cellInv ER (sched m) (κ g) g : sProp 𝕄)) fun d _ => inv_of m κ (bar_in d)); iexact HI
    isplitr
    · iapply (bigSep_intro_persistent (S := Finset.univ) (R := bigSep (barCells ∪ scCells) fun g => (cellInv ER (sched m) (κ g) g : sProp 𝕄)) fun (p : Dev nD × Fin 24) _ => inv_of m κ (sc_in p.1 (.inl p.2))); iexact HI
    iapply (bigSep_intro_persistent (S := Finset.univ) (R := bigSep (barCells ∪ scCells) fun g => (cellInv ER (sched m) (κ g) g : sProp 𝕄)) fun (p : Dev nD × Fin 24) _ => inv_of m κ (sc_in p.1 (.inr p.2))); iexact HI
  isplitr
  · isplitr
    · iapply (reached_of (F := F) (lt c)); iexact HR
    iapply (reached_of (F := F) (rt c)); iexact HR
  isplitl [Ht]; · iexact Ht
  isplitl [Hat]; · iexact Hat
  isplitl [Ho]; · iexact Ho
  rw [bigSep_sep']
  isplitl [HS]; · iexact HS
  iexact HV

/-- The tokens, device by device, each still at its own cells. -/
theorem toks_own : bigSep toks (fun x => (dutyTok ER x.1 x.2.1 x.2.2 : sProp 𝕄))
    = iprop(((bigSep Finset.univ fun c : Dev nD => dutyTok ER (barCell c) 0 true) ∗ (bigSep Finset.univ fun c : Dev nD => dutyTok ER (barCell c) 0 false))
      ∗ (bigSep Finset.univ fun c : Dev nD => bigSep Finset.univ fun k : Fin 24 => dutyTok ER (sendCell c k) 0 true)
      ∗ (bigSep Finset.univ fun c : Dev nD => bigSep Finset.univ fun k : Fin 24 => dutyTok ER (recvCell c k) 0 true)) := by
  rw [bigSep_map, bigSep_univ_prod, ← bigSep_sep', ← bigSep_sep', ← bigSep_sep']
  refine bigSep_congr fun c _ => ?_
  rw [bigSep_univ_sum, bigSep_univ_sum, show (Finset.univ : Finset Bool) = {true, false} from rfl, BI.bigSep_insert (by decide), BI.bigSep_singleton]
  rfl

/-- Going one device on, and one device back. -/
def on : Dev nD ≃ Dev nD := ⟨rt, lt, by decide, by decide⟩
def toNb (k : Fin 24) : Dev nD ≃ Dev nD := ⟨fun c => nb c (ex k), fun c => pv c (ex k), by revert k; decide, by revert k; decide⟩

theorem toks_dealt : bigSep toks (fun x => (dutyTok ER x.1 x.2.1 x.2.2 : sProp 𝕄))
    ⊢ (bigSep Finset.univ fun c : Dev nD => iprop((dutyTok ER (barCell (lt c)) 0 true ∗ dutyTok ER (barCell (rt c)) 0 false)
      ∗ (bigSep Finset.univ fun k : Fin 24 => dutyTok ER (sendCell c k) 0 true) ∗ (bigSep Finset.univ fun k : Fin 24 => dutyTok ER (recvCell (nb c (ex k)) k) 0 true)) : sProp 𝕄) := by
  rw [toks_own, bigSep_univ_equiv on.symm (fun c : Dev nD => (dutyTok ER (barCell c) 0 true : sProp 𝕄)), bigSep_univ_equiv on (fun c : Dev nD => (dutyTok ER (barCell c) 0 false : sProp 𝕄)),
    bigSep_comm_rows (fun (c : Dev nD) (k : Fin 24) => (dutyTok ER (recvCell c k) 0 true : sProp 𝕄)),
    bigSep_congr (s := Finset.univ) (fun (k : Fin 24) _ => bigSep_univ_equiv (toNb k) (fun c : Dev nD => (dutyTok ER (recvCell c k) 0 true : sProp 𝕄))),
    bigSep_comm_rows (fun (k : Fin 24) (c : Dev nD) => (dutyTok ER (recvCell (toNb k c) k) 0 true : sProp 𝕄)), ← bigSep_sep', ← bigSep_sep', ← bigSep_sep']
  exact BIBase.Entails.rfl

/-! ## The credit dealt -/

theorem launch_bar : tallyOn (barCell c) (launchCredit (Pipeline.owing O₀) 0 (barCell c)) = (tallyAt (barCell c) () 2 : CellTallies nD τ sig Unit) := by
  have h : ∀ d : Dev nD, O₀ d (barCell c) () = (if c = rt d then 1 else 0) + (if c = lt d then 1 else 0) := fun d => by
    have hd : (due d Finset.univ : CellTallies nD τ sig Unit) (barCell c) () = 0 := by
      unfold due
      rw [Finset.sum_apply, Finsupp.finset_sum_apply]
      refine Finset.sum_eq_zero fun k _ => ?_
      rw [tallyAt_apply]
      exact if_neg fun ⟨e, _⟩ => by have := congrArg Prod.snd e; cases this
    have hb : ∀ b : Dev nD, (tallyAt (barCell b) () 1 : CellTallies nD τ sig Unit) (barCell c) () = if c = b then 1 else 0 := fun b => by
      rw [tallyAt_apply]
      exact if_congr ⟨fun h => barEmb.injective h.1, fun h => ⟨congrArg barCell h, rfl⟩⟩ rfl rfl
    unfold O₀
    rw [Pi.add_apply, Pi.add_apply, Finsupp.add_apply, Finsupp.add_apply, hd, hb, hb, zero_add]
  unfold tallyAt
  refine congrArg _ (Finsupp.ext fun u => ?_)
  cases u
  rw [Pipeline.launchCredit_owing, Finsupp.single_eq_same, Finset.sum_congr rfl fun d _ => h d]
  clear h
  revert c
  decide

theorem launch_recv (k : Fin 24) : tallyOn (recvCell c k) (launchCredit (Pipeline.owing O₀) 0 (recvCell c k)) = (tallyAt (recvCell c k) () N : CellTallies nD τ sig Unit) := by
  have h : ∀ d : Dev nD, O₀ d (recvCell c k) () = if d = pv c (ex k) then N else 0 := fun d => by
    have hb : ∀ b : Dev nD, (tallyAt (barCell b) () 1 : CellTallies nD τ sig Unit) (recvCell c k) () = 0 := fun b => by
      rw [tallyAt_apply]
      exact if_neg fun ⟨e, _⟩ => by have := congrArg Prod.snd e; cases this
    have hd : (due d Finset.univ : CellTallies nD τ sig Unit) (recvCell c k) () = if d = pv c (ex k) then N else 0 := by
      unfold due
      rw [Finset.sum_apply, Finsupp.finset_sum_apply, Finset.sum_eq_single_of_mem k (Finset.mem_univ k)]
      · rw [tallyAt_apply]
        refine if_congr ⟨fun h => ?_, fun h => ?_⟩ rfl rfl
        · have e : c = nb d (ex k) := congrArg (fun g : GSem nD τ sig => g.1.1) h.1
          rw [e]; exact ((toNb k).left_inv d).symm
        · rw [h]
          exact ⟨congrArg (fun b => recvCell b k) ((toNb k).right_inv c).symm, rfl⟩
      · intro k' _ hk
        rw [tallyAt_apply]
        refine if_neg fun e => hk ?_
        have e : ((c, Sum.inr k) : Dev nD × KS) = (nb d (ex k'), Sum.inr k') := scEmb.injective e.1
        exact (Sum.inr_injective (congrArg (fun q : Dev nD × KS => q.2) e)).symm
    unfold O₀
    rw [Pi.add_apply, Pi.add_apply, Finsupp.add_apply, Finsupp.add_apply, hd, hb, hb, add_zero, add_zero]
  unfold tallyAt
  refine congrArg _ (Finsupp.ext fun u => ?_)
  cases u
  rw [Pipeline.launchCredit_owing, Finsupp.single_eq_same, Finset.sum_congr rfl fun d _ => h d, Finset.sum_ite_eq' Finset.univ (pv c (ex k)) fun _ => N, if_pos (Finset.mem_univ _)]

theorem credits : (Pipeline.launchCred O₀ c : sProp 𝕄) ⊢ iprop(cred (tallyAt (barCell c) () 2) ∗ (bigSep Finset.univ fun k : Fin 24 => cred (tallyAt (recvCell c k) () N))) := by
  unfold Pipeline.launchCred
  rw [bigSep_univ_at _ (SemLoc.reg barrier0), launch_bar]
  refine sep_mono_right ?_
  have e : (bigSep Finset.univ fun k : Fin 24 => (cred (tallyAt (recvCell c k) () N) : sProp 𝕄))
      = bigSep (Finset.univ.map ⟨fun k : Fin 24 => (SemLoc.dma (recvS k) : SemLoc sig), fun a b h => Sum.inr_injective (Sum.inr_injective (Sum.inr_injective (osem_inj (a₁ := .inr (.inr (.inr a))) (a₂ := .inr (.inr (.inr b))) h)))⟩)
          fun sm => cred (tallyOn ((c : Thread nD τ), sm) (launchCredit (Pipeline.owing O₀) 0 ((c : Thread nD τ), sm))) := by
    rw [bigSep_map]
    exact bigSep_congr fun k _ => congrArg cred (launch_recv c k).symm
  rw [e]
  refine bigSep_subset fun sm h => ?_
  obtain ⟨k, -, rfl⟩ := Finset.mem_map.mp h
  exact Finset.mem_erase.mpr ⟨(fun h => nomatch h), Finset.mem_univ _⟩

end Cert.Proof.KernelIdeal
end
-- ==== Proof.Run.lean ====
module
public import proofs.«01_k».proof.Proof.Deal
@[expose] public section

/-! The run of the whole program: the host's rounding of the weights, then the kernel. -/

noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
variable {F : FTy → Type} [FloatOps F]

local notation "𝕄" => MT nD τ sig Unit (Elt F) ℕ UU ℕ

variable (m : (ℓ : Loc nD τ sig) → Buf (Elt F) ℓ) (ρ : Dev nD → PrngReg) (K : GSem nD τ sig → ℕ) (c : Dev nD)

/-! ## The two segments -/

theorem round_sub : ∀ op ∈ (hostOps0 : List (HloOp τ sig (Elt F))), op.bufs ⊆ bufs := fun op h => by
  obtain rfl := List.mem_singleton.mp h
  show ({Proc.devRef .tc main_arg3, Proc.devRef .tc main_v1} : Finset (DevRef τ sig)) ⊆ bufs
  decide
theorem round_fresh : ∀ op ∈ (hostOps0 : List (HloOp τ sig (Elt F))), op.fresh = ∅ := List.forall_iff_forall_mem.mp hostOps0_fresh

/-- The buffers' contents at the start. -/
abbrev V₀ (c : Dev nD) : Valuation τ sig (Elt F) := fun b => m (c, b)
/-- What rides along the host's segment. -/
def riding : sProp 𝕄 :=
  iprop((∃ K, ghost m K c) ∗ (cred (tallyAt (barCell c) () 2) ∗ (bigSep Finset.univ fun k : Fin 24 => cred (tallyAt (recvCell c k) () N)))
    ∗ (∃ r, prngReg c r) ∗ ∃ W, owes (c : Thread nD τ) (O₀ c) W)
def host : Pipeline.HostSeg (Ix := Unit) (Name := ℕ) (U := UU) (Lvl := ℕ) (pcfgs (F := F)) defs₀ 𝒱₀ L lv :=
  Pipeline.HostSeg.ofOps _ _ _ _ _ bufs hostOps0 round_sub round_fresh (V₀ m) (riding m)
def segs : List (Pipeline.Seg (pcfgs (F := F)) adm (pdats m) () defs₀ 𝒱₀ L lv) := [.host (host m), .region (reg m)]

/-- What a device holds at the start, and at the end. -/
def first : sProp 𝕄 := iprop(StableHlo.held (c : Thread nD τ) bufs (V₀ m c) ∗ riding m c)
def final : sProp 𝕄 :=
  iprop(StableHlo.held (c : Thread nD τ) (Pipeline.arrRefs (τ := τ) spec0) (V₂ m c) ∗ pt c main_arg3 (V m c main_arg3) ∗ semVal (barCell c) 0)

theorem to_kernel : iprop(StableHlo.held (c : Thread nD τ) bufs (V₁ m c) ∗ riding m c) ⊢ (reg m).pre c := by
  show iprop(StableHlo.held (c : Thread nD τ) bufs (V₁ m c) ∗ riding m c)
    ⊢ iprop(StableHlo.held (c : Thread nD τ) (Pipeline.arrRefs (τ := τ) spec0) (V₁ m c) ∗ (∃ r, prngReg c r) ∗ (StableHlo.held (c : Thread nD τ) ∅ (V₁ m c) ∗ pt c main_arg3 (V m c main_arg3)) ∗ kept m c
      ∗ ∃ W, owes (c : Thread nD τ) (0 + O₀ c) W)
  rw [bufs_list, arrs_list, zero_add]
  unfold riding kept own2 StableHlo.held
  rw [BI.bigSep_empty]
  iintro ⟨⟨H0, H1, H2, H3, Hw, Ho, Ha⟩, HG, ⟨HB, HV⟩, Hp, HO⟩
  isplitl [H0 H1 H2 Ho]
  · isplitl [H0]; · iexact H0
    isplitl [H1]; · iexact H1
    isplitl [H2]; · iexact H2
    iexact Ho
  isplitl [Hp]; · iexact Hp
  isplitl [H3]
  · isplitr; · iempintro
    iexact H3
  isplitr [HO]
  · isplitl [HG]; · iexact HG
    isplitl [HB]; · iexact HB
    isplitl [HV]; · iexact HV
    isplitl [Hw]; · iexact Hw
    iexists _; iexact Ha
  iexact HO

theorem to_end : (reg m).post c ⊢ iprop(final m c ∗ ∃ W, owes (c : Thread nD τ) (0 : CellTallies nD τ sig Unit) W) := by
  show iprop(StableHlo.held (c : Thread nD τ) (Pipeline.arrRefs (τ := τ) spec0) (V₂ m c) ∗ (∃ r, prngReg c r) ∗ (StableHlo.held (c : Thread nD τ) ∅ (V₂ m c) ∗ pt c main_arg3 (V m c main_arg3)) ∗ semVal (barCell c) 0
      ∗ ∃ W, owes (c : Thread nD τ) (0 : CellTallies nD τ sig Unit) W) ⊢ _
  unfold final
  iintro ⟨Hh, -, ⟨-, H3⟩, HB, HO⟩
  isplitr [HO]
  · isplitl [Hh]; · iexact Hh
    isplitl [H3]; · iexact H3
    iexact HB
  iexact HO

/-! ## The start -/

/-- What a device is given that needs no dealing. -/
def given : sProp 𝕄 :=
  iprop(StableHlo.held (c : Thread nD τ) bufs (V₀ m c) ∗ (cred (tallyAt (barCell c) () 2) ∗ (bigSep Finset.univ fun k : Fin 24 => cred (tallyAt (recvCell c k) () N)))
    ∗ (∃ r, prngReg c r) ∗ ∃ W, owes (c : Thread nD τ) (O₀ c) W)

theorem to_first (κ : GSem nD τ sig → ℕ) : iprop(facts m κ ∗ (alone c ∗ given m c)) ⊢ first m c := by
  unfold given first riding
  iintro ⟨HF, HA, Hh, HC, Hp, HO⟩
  isplitl [Hh]; · iexact Hh
  isplitl [HF HA]
  · iapply (to_ghost m c κ)
    isplitl [HF]; · iexact HF
    iexact HA
  isplitl [HC]; · iexact HC
  isplitl [Hp]; · iexact Hp
  iexact HO

theorem sort_out : iprop(unscopedBufs c (fun b => m ((c : Thread nD τ).loc b)) ∗ unscopedSems0 c ∗ owes (c : Thread nD τ) (O₀ c) ∅ ∗ Pipeline.launchCred O₀ c ∗ prngReg c (ρ c) ∗ lodged c)
    ⊢ (iprop(given m c ∗ (semVal (barCell c) 0 ∗ lodged c)) : sProp 𝕄) := by
  rw [show unscopedBufs c (fun b => m ((c : Thread nD τ).loc b)) = StableHlo.held (c : Thread nD τ) bufs (V₀ m c) from bufs_held c (V₀ m c), unscoped_sems]
  unfold given
  iintro ⟨Hh, Hs, HO, HC, Hp, HG⟩
  isplitr [Hs HG]
  · isplitl [Hh]; · iexact Hh
    isplitl [HC]; · iapply (credits (F := F) c); iexact HC
    isplitl [Hp]; · iexists _; iexact Hp
    iexists _; iexact HO
  isplitl [Hs]; · iexact Hs
  iexact HG

theorem bars_at : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
theorem pos_at : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))
theorem open_at : bigSep scCells (fun g => (openTok ER g : sProp 𝕄))
    ⊢ bigSep Finset.univ (fun c : Dev nD => iprop((bigSep Finset.univ fun k : Fin 24 => openTok ER (sendCell c k)) ∗ (bigSep Finset.univ fun k : Fin 24 => openTok ER (recvCell c k)))) :=
  Entails.of_eq (by
    rw [bigSep_map, bigSep_univ_prod]
    refine bigSep_congr fun c _ => ?_
    rw [bigSep_univ_sum]
    rfl)

theorem start :
    iprop((bigSep Finset.univ fun c : Dev nD => iprop(unscopedBufs c (fun b => m ((c : Thread nD τ).loc b)) ∗ unscopedSems0 c ∗ owes (c : Thread nD τ) (O₀ c) ∅
        ∗ Pipeline.launchCred O₀ c ∗ prngReg c (ρ c) ∗ lodged c)) ∗ levAts L lv)
      ⊢ (|={Set.univ}=> bigSep Finset.univ (first m) : sProp 𝕄) := by
  have all : (bigSep Finset.univ fun c : Dev nD => iprop(unscopedBufs c (fun b => m ((c : Thread nD τ).loc b)) ∗ unscopedSems0 c ∗ owes (c : Thread nD τ) (O₀ c) ∅
        ∗ Pipeline.launchCred O₀ c ∗ prngReg c (ρ c) ∗ lodged c))
      ⊢ (bigSep Finset.univ fun c : Dev nD => iprop(given m c ∗ (semVal (barCell c) 0 ∗ lodged c)) : sProp 𝕄) := bigSep_mono fun c _ => sort_out m ρ c
  iintro ⟨H, -⟩
  ihave H := all $$ H
  ihave H := (Entails.of_eq (bigSep_sep' _ _ _)) $$ H; icases H with ⟨Hgiven, H⟩
  ihave H := (Entails.of_eq (bigSep_sep' _ _ _)) $$ H; icases H with ⟨Hbar, Hring⟩
  ihave Hring := (Entails.of_eq (lodged_all (F := F))) $$ Hring
  imod (Rounds.fund_launch ER (sched m) cells_apart (fun g _ h => h) toks) $$ [Hbar Hring] with ⟨%κ, -, #Hinv, #Hreach, Hpos, Hopen, Htok⟩
  · isplitl [Hbar]
    · iapply (bars_at (F := F)); iexact Hbar
    iexact Hring
  imodintro
  iapply (bigSep_with_persistent (R := facts m κ) (Φ := fun c => iprop(alone c ∗ given m c)) fun c _ => to_first m c κ)
  isplitr
  · unfold facts
    isplitr; · iexact Hinv
    iexact Hreach
  iapply (Entails.of_eq (bigSep_sep' _ _ _).symm)
  isplitr [Hgiven]
  · unfold alone
    iapply (Entails.of_eq (bigSep_sep' _ _ _).symm); isplitl [Hpos]; · iapply (pos_at (F := F)); iexact Hpos
    iapply (Entails.of_eq (bigSep_sep' _ _ _).symm); isplitl [Hopen]; · iapply (open_at (F := F)); iexact Hopen
    iapply (toks_dealt (F := F)); iexact Htok
  iexact Hgiven

/-! ## The end -/

theorem end_in (w : Fin cfg0.W) (hw : (cfg0.win w).isOut = false) : V₂ m c (Pipeline.arrRef spec0 w) = V m c (Pipeline.arrRef spec0 w) := by
  unfold V₂
  rw [Pipeline.withArrays_arr spec0 winFacts0.arr_inj c (V₁ m c) (fun w => (dat m c).arrAt w cfg0.N) w]
  exact (dat m c).arrAt_in w hw _

theorem read_out (f : Buf (Elt F) ((c : Thread nD τ).loc main_v2_0)) : (win0_3.blk t0_0).view.read (Elt F) f = f :=
  Memref.read_access_unit_zero (Elt F) main_v2_0
    (show (fun a => (win0_3.index t0_0) a * main_v2_0.ty.shape.size a) = fun _ => 0 from funext fun a => by fin_cases a <;> decide) (fun a => by fin_cases a <;> decide) f

theorem end_out : V₂ m c (Proc.devRef .tc main_v2_0) = result m c := by
  have h : V₂ m c (Proc.devRef .tc main_v2_0) = (dat m c).arrAt 3 cfg0.N := by
    unfold V₂
    exact Pipeline.withArrays_arr spec0 winFacts0.arr_inj c (V₁ m c) (fun w => (dat m c).arrAt w cfg0.N) 3
  rw [h, show cfg0.N = (t0_0 : Fin cfg0.N).val + 1 from rfl, (dat m c).arrAt_succ 3 t0_0, flush0_3, if_pos rfl]
  exact (read_out c _).symm.trans (View.read_write_univ _ _)

/-- How the memory ends at device `c`: every argument array unchanged, the result array holding `result`. -/
def Ended (c : Dev nD) (f : (ℓ : Loc nD τ sig) → Buf (Elt F) ℓ) : Prop :=
  (f ((c : Thread nD τ).loc main_arg0) = m ((c : Thread nD τ).loc main_arg0) ∧ f ((c : Thread nD τ).loc main_arg1) = m ((c : Thread nD τ).loc main_arg1)
    ∧ f ((c : Thread nD τ).loc main_arg2) = m ((c : Thread nD τ).loc main_arg2) ∧ f ((c : Thread nD τ).loc main_arg3) = m ((c : Thread nD τ).loc main_arg3))
    ∧ f ((c : Thread nD τ).loc main_v2_0) = result m c

set_option backward.isDefEq.respectTransparency.types false in
theorem run_main : θ_run defs (onTc (τ := τ) (main (F := F))) ⟨m, fun _ => 0, ρ⟩ (fun r => (∀ c : Dev nD, Ended m c r.2.mem) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (reg m) rfl c]; rfl)
    (by simp only [segs, Pipeline.Seg.pipes_host, Pipeline.Seg.pipes_region, Pipeline.Seg.pipes_nil]; decide)
    (O₀ := O₀) (hL := L_of_ne) (G := lodged) (u₀ := u₀)
    (hu₀ := by
      unfold u₀
      rw [lodged_all]
      iintro H
      ihave H := (deal _ _) $$ H
      imodintro
      iexact H)
    (T₀ := first m) (Tₙ := final m)
    (hch := ⟨fun c => .rfl, fun c => to_kernel m c, fun c => to_end m c⟩)
    (hinit := start m ρ)
    (QY := fun c s => (s.mem ((c : Thread nD τ).loc main_arg0) = V₂ m c main_arg0 ∧ s.mem ((c : Thread nD τ).loc main_arg1) = V₂ m c main_arg1
        ∧ s.mem ((c : Thread nD τ).loc main_arg2) = V₂ m c main_arg2 ∧ s.mem ((c : Thread nD τ).loc main_v2_0) = V₂ m c main_v2_0 ∧ s.mem ((c : Thread nD τ).loc main_arg3) = V m c main_arg3)
      ∧ s.sem (barCell c) = 0)
    (hfin := fun c s => by
      dsimp only [final]; rw [arrs_list]
      iintro ⟨⟨⟨H0, H1, H2, Ho⟩, H3, HB⟩, HS⟩
      icombine HS H0 gives %h0
      icombine HS H1 gives %h1
      icombine HS H2 gives %h2
      icombine HS Ho gives %ho
      icombine HS H3 gives %h3
      icombine HS HB gives %hb
      imodintro
      isplitr
      · ipureintro
        exact ⟨⟨Buf.eq_of_forall_mem_univ h0, Buf.eq_of_forall_mem_univ h1, Buf.eq_of_forall_mem_univ h2, Buf.eq_of_forall_mem_univ ho, Buf.eq_of_forall_mem_univ h3⟩, by simpa using hb⟩
      iexact HS)
    (hQ := fun s h hs => ⟨fun c => by
        obtain ⟨⟨h0, h1, h2, ho, h3⟩, -⟩ := h c
        exact ⟨⟨h0.trans ((end_in m c 0 rfl).trans (V_main_arg0 m c)), h1.trans ((end_in m c 1 rfl).trans (V_main_arg1 m c)), h2.trans ((end_in m c 2 rfl).trans (V_main_arg2 m c)),
          h3.trans (V_main_arg3 m c)⟩, ho.trans (end_out m c)⟩,
      sem_eq_zero hs fun c sm hsm => by
        obtain rfl := only_barrier sm hsm
        exact (h c).2⟩)

/-- The part of it that a frame claims. -/
theorem run_frame : θ_run defs (onTc (τ := τ) (main (F := F))) ⟨m, fun _ => 0, ρ⟩ (fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1) ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0) :=
  (θ_run defs _ _).mono (fun _ h => ⟨fun c => (h.1 c).1, h.2⟩) (run_main m ρ)

end Cert.Proof.KernelIdeal
end
-- ==== Proof.Gate.lean ====
module
public import Idealize.ShloMosaic.Lib.Pointwise
@[expose] public section

/-! The mathematics of one token over the extended reals: its routing weights, and the sum over all experts of which only
    the two chosen ones count. -/

noncomputable section
namespace Cert.Proof.Gate
open Idealize.ShloMosaic

/-- The largest score. -/
def peak (s : Fin 32 → EReal) : EReal := Finset.univ.fold max (Ideal.ofBits .f32 0xFF800000#32) s
/-- The softmax of the scores. -/
def prob (s : Fin 32 → EReal) (e : Fin 32) : EReal :=
  Ideal.div (Ideal.exp (s e - peak s)) (∑ e', Ideal.exp (s e' - peak s))
/-- The share of the probability `p` beside `q`. -/
def share (p q : EReal) : EReal := Ideal.div p (p + q)
/-- The share of `q` beside `p`. -/
def share' (p q : EReal) : EReal := Ideal.div q (p + q)
/-- One output entry of a token whose experts are `i` and `j`: the two experts' products, weighted. -/
def mix (s : Fin 32 → EReal) (i j : Fin 32) (y : Fin 32 → EReal) : EReal :=
  share (prob s i) (prob s j) * y i + share' (prob s i) (prob s j) * y j

theorem lowest : Ideal.ofBits .f32 0xFF800000#32 = (⊥ : EReal) := by
  show Ideal.ieee 8 23 0xFF800000#32 = ⊥
  simp [Ideal.ieee]

theorem div_coe (a b : ℝ) (hb : b ≠ 0) : Ideal.div (a : EReal) (b : EReal) = ((a / b : ℝ) : EReal) := by
  have h : (b : EReal) ≠ 0 := fun h => hb (EReal.coe_eq_zero.mp h)
  unfold Ideal.div
  rw [if_neg h, div_eq_mul_inv, EReal.coe_mul, EReal.coe_inv]

theorem coe_sum' {ι : Type*} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

theorem peak_real (s : Fin 32 → EReal) (r : Fin 32 → ℝ) (h : ∀ e, s e = r e) : ∃ q : ℝ, peak s = q := by
  have h1 : peak s < ⊤ := by
    unfold peak
    rw [lowest, Finset.fold_max_lt]
    exact ⟨bot_lt_top, fun e _ => by rw [h e]; exact EReal.coe_lt_top _⟩
  have h2 : ⊥ < peak s := by
    unfold peak
    rw [lowest, Finset.lt_fold_max]
    exact .inr ⟨0, Finset.mem_univ _, by rw [h 0]; exact EReal.bot_lt_coe _⟩
  exact ⟨(peak s).toReal, (EReal.coe_toReal h1.ne h2.ne').symm⟩

theorem prob_real (s : Fin 32 → EReal) (hs : ∀ e, ∃ r : ℝ, s e = r) (e : Fin 32) : ∃ p : ℝ, 0 < p ∧ prob s e = p := by
  choose r h using hs
  obtain ⟨q, hq⟩ := peak_real s r h
  have he : ∀ e, Ideal.exp (s e - peak s) = ((Real.exp (r e - q) : ℝ) : EReal) := fun e => by
    rw [h e, hq, ← EReal.coe_sub]; rfl
  have hp : 0 < ∑ e, Real.exp (r e - q) := Finset.sum_pos (fun e _ => Real.exp_pos _) ⟨0, Finset.mem_univ _⟩
  refine ⟨Real.exp (r e - q) / ∑ e, Real.exp (r e - q), div_pos (Real.exp_pos _) hp, ?_⟩
  unfold prob
  simp only [he]
  rw [coe_sum', div_coe _ _ hp.ne']

theorem share_real (p q : EReal) (hp : ∃ r : ℝ, 0 < r ∧ p = r) (hq : ∃ r : ℝ, 0 < r ∧ q = r) :
    ∃ r : ℝ, 0 ≤ r ∧ share p q = r := by
  obtain ⟨a, ha, rfl⟩ := hp
  obtain ⟨b, hb, rfl⟩ := hq
  exact ⟨a / (a + b), (div_pos ha (add_pos ha hb)).le, by rw [share, ← EReal.coe_add, div_coe _ _ (add_pos ha hb).ne']⟩

theorem share'_real (p q : EReal) (hp : ∃ r : ℝ, 0 < r ∧ p = r) (hq : ∃ r : ℝ, 0 < r ∧ q = r) :
    ∃ r : ℝ, 0 ≤ r ∧ share' p q = r := by
  obtain ⟨a, ha, rfl⟩ := hp
  obtain ⟨b, hb, rfl⟩ := hq
  exact ⟨b / (a + b), (div_pos hb (add_pos ha hb)).le, by rw [share', ← EReal.coe_add, div_coe _ _ (add_pos ha hb).ne']⟩

/-- A factor that is a number at least zero goes into a sum. -/
theorem mul_sum' {ι : Type*} (S : Finset ι) (f : ι → EReal) (a : ℝ) (ha : 0 ≤ a) : (a : EReal) * ∑ i ∈ S, f i = ∑ i ∈ S, (a : EReal) * f i := by
  classical
  induction S using Finset.induction_on with
  | empty => simp
  | insert b S hb ih =>
    rw [Finset.sum_insert hb, Finset.sum_insert hb, ← ih]
    exact EReal.left_distrib_of_nonneg_of_ne_top (EReal.coe_nonneg.mpr ha) (EReal.coe_ne_top a) _ _

/-- The weight of expert `e` for a token routed to `i` with weight `a` and to `j` with weight `b`. -/
def wt (i j : Fin 32) (a b : EReal) (e : Fin 32) : EReal := (if i = e then a else 0) + (if j = e then b else 0)

theorem mul_wt (i j e : Fin 32) (a b : ℝ) (ha : 0 ≤ a) (hb : 0 ≤ b) (x y : EReal) :
    x * wt i j a b e * y = (if i = e then (a : EReal) * (x * y) else 0) + (if j = e then (b : EReal) * (x * y) else 0) := by
  have h1 : (0 : EReal) ≤ if i = e then (a : EReal) else 0 := by split <;> simp [ha]
  have h2 : (0 : EReal) ≤ if j = e then (b : EReal) else 0 := by split <;> simp [hb]
  have h : x * wt i j a b e * y = wt i j a b e * (x * y) := by rw [mul_comm x, mul_assoc]
  rw [h, wt, EReal.right_distrib_of_nonneg h1 h2]
  congr 1 <;> split <;> simp

/-- Of the sum over all the experts only the two chosen ones are left. -/
theorem sum_wt {n : ℕ} (x : Fin n → EReal) (W : Fin 32 → Fin n → EReal) (i j : Fin 32) (a b : ℝ) (ha : 0 ≤ a) (hb : 0 ≤ b) :
    ∑ e, ∑ k, x k * wt i j a b e * W e k = (a : EReal) * (∑ k, x k * W i k) + (b : EReal) * ∑ k, x k * W j k := by
  simp only [mul_wt i j _ a b ha hb, Finset.sum_add_distrib]
  rw [mul_sum' _ _ _ ha, mul_sum' _ _ _ hb]
  congr 1
  · rw [Finset.sum_eq_single i (fun e _ h => by simp [h.symm]) (fun h => absurd (Finset.mem_univ _) h)]; simp
  · rw [Finset.sum_eq_single j (fun e _ h => by simp [h.symm]) (fun h => absurd (Finset.mem_univ _) h)]; simp

/-- The same with a token's own shares. -/
theorem sum_mix {n : ℕ} (s : Fin 32 → EReal) (hs : ∀ e, ∃ r : ℝ, s e = r) (x : Fin n → EReal) (W : Fin 32 → Fin n → EReal) (i j : Fin 32) :
    ∑ e, ∑ k, x k * wt i j (share (prob s i) (prob s j)) (share' (prob s i) (prob s j)) e * W e k
      = mix s i j (fun e => ∑ k, x k * W e k) := by
  obtain ⟨a, ha, hA⟩ := share_real _ _ (prob_real s hs i) (prob_real s hs j)
  obtain ⟨b, hb, hB⟩ := share'_real _ _ (prob_real s hs i) (prob_real s hs j)
  unfold mix
  rw [hA, hB]
  exact sum_wt x W i j a b ha hb

/-- A sum of products of finite numbers is one. -/
theorem dot_real {n : ℕ} (x y : Fin n → EReal) (hx : ∀ k, ∃ r : ℝ, x k = r) (hy : ∀ k, ∃ r : ℝ, y k = r) :
    ∃ r : ℝ, ∑ k, x k * y k = r := by
  choose a ha using hx
  choose b hb using hy
  exact ⟨∑ k, a k * b k, by simp only [ha, hb, ← EReal.coe_mul]; exact coe_sum' _ _⟩

end Cert.Proof.Gate
end
-- ==== Proof.Pay.lean ====
module
public import proofs.«01_k».proof.Proof.Run
public import proofs.«01_k».proof.Proof.Gate
@[expose] public section

/-! What the kernel's arithmetic leaves at one entry, over the extended reals. -/

noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]

local notation "𝕄" => MT nD τ sig Unit (Elt F) ℕ UU ℕ

open Cert.Proof.Gate

/-- A token's scores. -/
def score (x : Vec Ideal S2048x512 .f32) (w : Vec Ideal S512x32 .f32) (t : Fin 2048) (e : Fin 32) : EReal :=
  ∑ k : Fin 512, x (ix2 t k) * w (ix2 k e)

theorem pick (a b : BitVec 32) (x : EReal) : Scalar.select (IntOp.cmpi .eq a b) x (0 : EReal) = if a = b then x else 0 := by
  by_cases h : a = b
  · simp [h, Scalar.select, IntOp.cmpi]
  · have hb : (a == b) = false := beq_eq_false_iff_ne.mpr h
    simp [h, hb, Scalar.select, IntOp.cmpi]

theorem word_eq (i e : Fin 32) : (BitVec.ofNat 32 i.val = BitVec.ofNat 32 e.val) ↔ i = e := by
  revert i e; decide

theorem prob_apply (x : Vec Ideal S2048x512 .f32) (w : Vec Ideal S512x32 .f32) (t : Fin 2048) (e : Fin 32) :
    k0_pay22 x w (ix2 t e) = prob (score x w t) e := by
  pointwise [k0_pay22, k0_pay21]
  rfl

theorem first_apply (x : Vec Ideal S2048x512 .f32) (w : Vec Ideal S512x32 .f32) (ix : Vec Ideal S2048x2 .i32) (t : Fin 2048) (i : Fin 32)
    (h : ix (ix2 t 0) = BitVec.ofNat 32 i.val) : k0_pay26 x w ix (ix2 t 0) = prob (score x w t) i := by
  pointwise [k0_pay26, k0_pay24, k0_pay23]
  simp only [h, pick, word_eq, prob_apply]
  simp

theorem second_apply (x : Vec Ideal S2048x512 .f32) (w : Vec Ideal S512x32 .f32) (ix : Vec Ideal S2048x2 .i32) (t : Fin 2048) (j : Fin 32)
    (h : ix (ix2 t 1) = BitVec.ofNat 32 j.val) : k0_pay1 (k0_pay22 x w) (k0_pay27 ix) (ix2 t 0) = prob (score x w t) j := by
  pointwise [k0_pay1, k0_pay27, k0_pay25, k0_pay23]
  simp only [h, pick, word_eq, prob_apply]
  simp

theorem share_apply (v188 : FVec Ideal S2048x32 .f32) (v199 : FVec Ideal S2048x1 .f32) (v201 : IVec S2048x32 1) (t : Fin 2048) :
    k0_pay3 v188 v199 v201 (ix2 t 0) = share (v199 (ix2 t 0)) (k0_pay1 v188 v201 (ix2 t 0)) := by
  pointwise [k0_pay3, k0_pay2, share]

theorem share'_apply (v188 : FVec Ideal S2048x32 .f32) (v199 : FVec Ideal S2048x1 .f32) (v201 : IVec S2048x32 1) (t : Fin 2048) :
    k0_pay4 v188 v199 v201 (ix2 t 0) = share' (v199 (ix2 t 0)) (k0_pay1 v188 v201 (ix2 t 0)) := by
  pointwise [k0_pay4, k0_pay2, share']

theorem rows_apply (p : FVec Ideal S1x2x512x1024 .bf16) (k h : Fin 1024) :
    k0_pay9 p (ix2 k h) = p (ix4 0 ⟨k.val / 512, by omega⟩ ⟨k.val % 512, by omega⟩ h) := by
  pointwise [k0_pay9]

theorem col_apply (ix : Vec Ideal S2048x2 .i32) (t : Fin 2048) : k0_pay24 ix (ix2 t 0) = ix (ix2 t 0) := by
  pointwise [k0_pay24, k0_pay23]
theorem col'_apply (ix : Vec Ideal S2048x2 .i32) (t : Fin 2048) : k0_pay25 ix (ix2 t 0) = ix (ix2 t 1) := by
  pointwise [k0_pay25, k0_pay23]
end Cert.Proof.KernelIdeal
end
-- ==== Proof.Acc.lean ====
module
public import proofs.«01_k».proof.Proof.Pay
@[expose] public section

/-! The kernel's whole accumulation at one entry, over the extended reals: every expert's product once, weighted. -/

noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]

local notation "𝕄" => MT nD τ sig Unit (Elt F) ℕ UU ℕ

open Cert.Proof.Gate

variable (m : (ℓ : Loc nD τ sig) → Buf (Elt Ideal) ℓ) (c : Dev nD)

/-! ## The weights -/

/-- Entry `k, h` of expert `e`'s matrix, which device `e / 8` holds. -/
def Wk (e : Fin 32) (k : Fin 512) (h : Fin 1024) : EReal :=
  m (((⟨e.val / 8, by omega⟩ : Fin 4) : Thread nD τ).loc main_arg3) (ix3 ⟨e.val % 8, by omega⟩ k h : S8x512x1024.Idx)

theorem allW_apply (o : Fin 4) (j : Fin 8) (k : Fin 512) (h : Fin 1024) :
    allW m (ix4 o j k h) = m ((o : Thread nD τ).loc main_arg3) (ix3 j k h : S8x512x1024.Idx) := by
  show StableHlo.after hostOps0 (fun b => m (o, b)) main_v1 _ = _
  simp only [hostOps0]
  rfl

/-- The expert that place `p` brings forwards at step `n`, -/
def fwd (c : Dev nD) (n p : Fin 4) : Fin 32 := ⟨8 * (org c n.val ⟨p.val, by omega⟩).val + p.val, by have := (org c n.val ⟨p.val, by omega⟩).isLt; omega⟩
/-- and the one it brings backwards. -/
def bwd (c : Dev nD) (n p : Fin 4) : Fin 32 := ⟨8 * (org c n.val ⟨p.val + 4, by omega⟩).val + (p.val + 4), by have := (org c n.val ⟨p.val + 4, by omega⟩).isLt; omega⟩

set_option maxRecDepth 65536 in
theorem fwd_word : ∀ (c : Dev nD) (n p : Fin 4), Scalar.addi (Scalar.muli (Scalar.remsi (Scalar.addi (Scalar.subi (placeW c) (Scf.iv 0#32 1#32 n.val)) 4#32) 4#32) 8#32) (BitVec.ofNat 32 p.val)
    = BitVec.ofNat 32 (fwd c n p).val := by decide
set_option maxRecDepth 65536 in
theorem bwd_word : ∀ (c : Dev nD) (n p : Fin 4), Scalar.addi (Scalar.addi (Scalar.muli (Scalar.remsi (Scalar.addi (placeW c) (Scf.iv 0#32 1#32 n.val)) 4#32) 8#32) 4#32) (BitVec.ofNat 32 p.val)
    = BitVec.ofNat 32 (bwd c n p).val := by decide

/-- Together they are all the experts, each once. -/
def brought (c : Dev nD) (x : (Fin 4 × Fin 4) × Fin 2) : Fin 32 := if x.2 = 0 then fwd c x.1.1 x.1.2 else bwd c x.1.1 x.1.2
set_option maxRecDepth 65536 in
theorem brought_inj : ∀ c : Dev nD, Function.Injective (brought c) := by decide
theorem brought_bij (c : Dev nD) : Function.Bijective (brought c) :=
  (Fintype.bijective_iff_injective_and_card _).mpr ⟨brought_inj c, by simp⟩

theorem sum_brought (T : Fin 32 → EReal) : ∑ n : Fin 4, ∑ p : Fin 4, (T (fwd c n p) + T (bwd c n p)) = ∑ e, T e := by
  rw [← (brought_bij c).sum_comp T, Fintype.sum_prod_type, Fintype.sum_prod_type]
  refine Finset.sum_congr rfl fun n _ => Finset.sum_congr rfl fun p _ => ?_
  rw [Fin.sum_univ_two]
  rfl

theorem pair_apply (s : ℕ) (p : Fin 4) (l q : Fin 2) (k : Fin 512) (h : Fin 1024) :
    pair m c s p l (ix4 0 q k h) = stg m c s p (ix4 l q k h) := by
  unfold pair
  show stg m c s p _ = _
  congr 1
  funext a
  apply Fin.ext
  match a with
  | ⟨0, _⟩ => show l.val + 1 * 0 = l.val; omega
  | ⟨1, _⟩ => show 0 + 1 * q.val = q.val; omega
  | ⟨2, _⟩ => show 0 + 1 * k.val = k.val; omega
  | ⟨3, _⟩ => show 0 + 1 * h.val = h.val; omega

theorem entry_congr (o o' : Fin 4) (j j' : Fin 8) (ho : o = o') (hj : j = j') (k : Fin 512) (h : Fin 1024) :
    (m ((o : Thread nD τ).loc main_arg3) (ix3 j k h : S8x512x1024.Idx) : EReal) = m ((o' : Thread nD τ).loc main_arg3) (ix3 j' k h : S8x512x1024.Idx) := by
  subst ho hj; rfl

theorem pair_fwd (n p : Fin 4) (l : Fin 2) (k : Fin 512) (h : Fin 1024) :
    pair m c n.val p l (ix4 0 0 k h) = Wk m (fwd c n p) k h := by
  rw [pair_apply]
  show allW m (ix4 (org c n.val ⟨p.val + 4 * 0, _⟩) ⟨p.val + 4 * 0, _⟩ k h) = _
  rw [allW_apply]
  unfold Wk
  apply entry_congr <;> apply Fin.ext <;> simp only [fwd, Nat.mul_zero, Nat.add_zero] <;> omega
theorem pair_bwd (n p : Fin 4) (l : Fin 2) (k : Fin 512) (h : Fin 1024) :
    pair m c n.val p l (ix4 0 1 k h) = Wk m (bwd c n p) k h := by
  rw [pair_apply]
  show allW m (ix4 (org c n.val ⟨p.val + 4 * 1, _⟩) ⟨p.val + 4 * 1, _⟩ k h) = _
  rw [allW_apply]
  unfold Wk
  apply entry_congr <;> apply Fin.ext <;> simp only [bwd, Nat.mul_one] <;> omega

/-! ## One step -/

/-- A sum over two halves. -/
theorem sum_halves (f g : Fin 512 → EReal) (r : Fin 1024 → EReal) :
    ∑ k : Fin 1024, (if h : k.val < 512 then f ⟨k.val, h⟩ else g ⟨k.val - 512, by omega⟩) * r k
      = ∑ k : Fin 512, f k * r ⟨k.val, by omega⟩ + ∑ k : Fin 512, g k * r ⟨512 + k.val, by omega⟩ := by
  refine (Fin.sum_univ_add (a := 512) (b := 512) _).trans ?_
  refine congrArg₂ (· + ·) (Finset.sum_congr rfl fun k _ => ?_) (Finset.sum_congr rfl fun k _ => ?_)
  · rw [dif_pos (show (Fin.castAdd 512 k).val < 512 from k.isLt)]
    rfl
  · rw [dif_neg (show ¬ (Fin.natAdd 512 k).val < 512 from by simp)]
    refine congrArg₂ (· * ·) (congrArg g (Fin.ext ?_)) rfl
    simp

/-- Expert `e`'s weighted product at one entry, for a token `x` routed to `i` and `j` with weights `a` and `b`. -/
def prod (x : Fin 512 → EReal) (i j : Fin 32) (a b : EReal) (h : Fin 1024) (e : Fin 32) : EReal :=
  ∑ k : Fin 512, x k * wt i j a b e * Wk m e k h

theorem rows_0 (p : FVec Ideal S1x2x512x1024 .bf16) (k h : Fin 1024) :
    k0_pay9 p (ix2 k h) = p (ix4 0 ⟨k.val / 512, by omega⟩ ⟨k.val % 512, by omega⟩ h) := by
  pointwise [k0_pay9]
theorem rows_1 (p : FVec Ideal S1x2x512x1024 .bf16) (k h : Fin 1024) :
    k0_pay13 p (ix2 k h) = p (ix4 0 ⟨k.val / 512, by omega⟩ ⟨k.val % 512, by omega⟩ h) := by
  pointwise [k0_pay13]
theorem rows_2 (p : FVec Ideal S1x2x512x1024 .bf16) (k h : Fin 1024) :
    k0_pay17 p (ix2 k h) = p (ix4 0 ⟨k.val / 512, by omega⟩ ⟨k.val % 512, by omega⟩ h) := by
  pointwise [k0_pay17]
theorem pair_fwd' (n p : Fin 4) (l : Fin 2) (k : Fin 512) (h : Fin 1024) (h1 h2) :
    pair m c n.val p l (ix4 0 ⟨k.val / 512, h1⟩ ⟨k.val % 512, h2⟩ h) = Wk m (fwd c n p) k h := by
  rw [← pair_fwd m c n p l k h]
  exact congrArg₂ (fun a b => pair m c n.val p l (ix4 0 a b h)) (Fin.ext (by show k.val / 512 = 0; omega)) (Fin.ext (by show k.val % 512 = k.val; omega))
theorem pair_bwd' (n p : Fin 4) (l : Fin 2) (k : Fin 512) (h : Fin 1024) (h1 h2) :
    pair m c n.val p l (ix4 0 ⟨(512 + k.val) / 512, h1⟩ ⟨(512 + k.val) % 512, h2⟩ h) = Wk m (bwd c n p) k h := by
  rw [← pair_bwd m c n p l k h]
  exact congrArg₂ (fun a b => pair m c n.val p l (ix4 0 a b h)) (Fin.ext (by show (512 + k.val) / 512 = 1; omega)) (Fin.ext (by show (512 + k.val) % 512 = k.val; omega))
/-- A row against a pair of matrices. -/
theorem sum_pair (n p : Fin 4) (l : Fin 2) (h : Fin 1024) (f g : Fin 512 → EReal) :
    ∑ k : Fin 1024, (if h : k.val < 512 then f ⟨k.val, h⟩ else g ⟨k.val - 512, by omega⟩)
        * pair m c n.val p l (ix4 0 ⟨k.val / 512, by omega⟩ ⟨k.val % 512, by omega⟩ h)
      = ∑ k : Fin 512, f k * Wk m (fwd c n p) k h + ∑ k : Fin 512, g k * Wk m (bwd c n p) k h := by
  rw [sum_halves f g]
  simp only [pair_fwd', pair_bwd']

section Step
variable (n : Fin 4) (v191 v192 : IVec S2048x1 32) (g g' : FVec Ideal S2048x1 .f32) (x : FVec Ideal S2048x512 .bf16)
  (t : Fin 2048) (i j : Fin 32) (hi : v191 (ix2 t 0) = BitVec.ofNat 32 i.val) (hj : v192 (ix2 t 0) = BitVec.ofNat 32 j.val)
include hi hj

theorem left_0 (k : Fin 1024) : k0_pay8 (placeW c) v191 v192 g g' x (Scf.iv 0#32 1#32 n.val) (ix2 t k)
    = (if h : k.val < 512 then x (ix2 t ⟨k.val, h⟩) * wt i j (g (ix2 t 0)) (g' (ix2 t 0)) (fwd c n 0)
        else x (ix2 t ⟨k.val - 512, by omega⟩) * wt i j (g (ix2 t 0)) (g' (ix2 t 0)) (bwd c n 0)) := by
  pointwise [k0_pay8]
  simp only [hi, hj, show Scalar.addi _ 0#32 = _ from fwd_word c n 0, show Scalar.addi (Scalar.addi _ 4#32) 0#32 = _ from bwd_word c n 0, pick, word_eq]
  rfl
theorem place_0 (h : Fin 1024) : ∑ k : Fin 1024, k0_pay8 (placeW c) v191 v192 g g' x (Scf.iv 0#32 1#32 n.val) (ix2 t k) * k0_pay9 (pair m c n.val 0 0) (ix2 k h)
    = prod m (fun k => x (ix2 t k)) i j (g (ix2 t 0)) (g' (ix2 t 0)) h (fwd c n 0) + prod m (fun k => x (ix2 t k)) i j (g (ix2 t 0)) (g' (ix2 t 0)) h (bwd c n 0) := by
  simp only [left_0 c n v191 v192 g g' x t i j hi hj, rows_0]
  exact sum_pair m c n 0 0 h (fun k => x (ix2 t k) * wt i j (g (ix2 t 0)) (g' (ix2 t 0)) (fwd c n 0)) (fun k => x (ix2 t k) * wt i j (g (ix2 t 0)) (g' (ix2 t 0)) (bwd c n 0))
theorem left_1 (k : Fin 1024) : k0_pay12 (placeW c) v191 v192 g g' x (Scf.iv 0#32 1#32 n.val) (ix2 t k)
    = (if h : k.val < 512 then x (ix2 t ⟨k.val, h⟩) * wt i j (g (ix2 t 0)) (g' (ix2 t 0)) (fwd c n 1)
        else x (ix2 t ⟨k.val - 512, by omega⟩) * wt i j (g (ix2 t 0)) (g' (ix2 t 0)) (bwd c n 1)) := by
  pointwise [k0_pay12]
  simp only [hi, hj, show Scalar.addi _ 1#32 = _ from fwd_word c n 1, show Scalar.addi (Scalar.addi _ 4#32) 1#32 = _ from bwd_word c n 1, pick, word_eq]
  rfl
theorem place_1 (h : Fin 1024) : ∑ k : Fin 1024, k0_pay12 (placeW c) v191 v192 g g' x (Scf.iv 0#32 1#32 n.val) (ix2 t k) * k0_pay13 (pair m c n.val 1 1) (ix2 k h)
    = prod m (fun k => x (ix2 t k)) i j (g (ix2 t 0)) (g' (ix2 t 0)) h (fwd c n 1) + prod m (fun k => x (ix2 t k)) i j (g (ix2 t 0)) (g' (ix2 t 0)) h (bwd c n 1) := by
  simp only [left_1 c n v191 v192 g g' x t i j hi hj, rows_1]
  exact sum_pair m c n 1 1 h (fun k => x (ix2 t k) * wt i j (g (ix2 t 0)) (g' (ix2 t 0)) (fwd c n 1)) (fun k => x (ix2 t k) * wt i j (g (ix2 t 0)) (g' (ix2 t 0)) (bwd c n 1))
theorem left_2 (k : Fin 1024) : k0_pay16 (placeW c) v191 v192 g g' x (Scf.iv 0#32 1#32 n.val) (ix2 t k)
    = (if h : k.val < 512 then x (ix2 t ⟨k.val, h⟩) * wt i j (g (ix2 t 0)) (g' (ix2 t 0)) (fwd c n 2)
        else x (ix2 t ⟨k.val - 512, by omega⟩) * wt i j (g (ix2 t 0)) (g' (ix2 t 0)) (bwd c n 2)) := by
  pointwise [k0_pay16]
  simp only [hi, hj, show Scalar.addi _ 2#32 = _ from fwd_word c n 2, show Scalar.addi (Scalar.addi _ 4#32) 2#32 = _ from bwd_word c n 2, pick, word_eq]
  rfl
theorem place_2 (h : Fin 1024) : ∑ k : Fin 1024, k0_pay16 (placeW c) v191 v192 g g' x (Scf.iv 0#32 1#32 n.val) (ix2 t k) * k0_pay17 (pair m c n.val 2 0) (ix2 k h)
    = prod m (fun k => x (ix2 t k)) i j (g (ix2 t 0)) (g' (ix2 t 0)) h (fwd c n 2) + prod m (fun k => x (ix2 t k)) i j (g (ix2 t 0)) (g' (ix2 t 0)) h (bwd c n 2) := by
  simp only [left_2 c n v191 v192 g g' x t i j hi hj, rows_2]
  exact sum_pair m c n 2 0 h (fun k => x (ix2 t k) * wt i j (g (ix2 t 0)) (g' (ix2 t 0)) (fwd c n 2)) (fun k => x (ix2 t k) * wt i j (g (ix2 t 0)) (g' (ix2 t 0)) (bwd c n 2))
theorem last_apply (h : Fin 1024) : k0_pay20 (placeW c) v191 v192 g g' x (Scf.iv 0#32 1#32 n.val) (pair m c n.val 3 1) (ix2 t h)
    = prod m (fun k => x (ix2 t k)) i j (g (ix2 t 0)) (g' (ix2 t 0)) h (fwd c n 3) + prod m (fun k => x (ix2 t k)) i j (g (ix2 t 0)) (g' (ix2 t 0)) h (bwd c n 3) := by
  pointwise [k0_pay20]
  simp only [hi, hj, show Scalar.addi _ 3#32 = _ from fwd_word c n 3, show Scalar.addi (Scalar.addi _ 4#32) 3#32 = _ from bwd_word c n 3, pick, word_eq]
  simp only [pair_fwd' m c n 3, pair_bwd' m c n 3]
  rfl

end Step

/-! ## All the steps -/

section All
variable (v176 : FVec Ideal S2048x512 .f32) (v188 : FVec Ideal S2048x32 .f32) (v191 v192 : IVec S2048x1 32) (v199 : FVec Ideal S2048x1 .f32) (v201 : IVec S2048x32 1)
  (t : Fin 2048) (i j : Fin 32) (hi : v191 (ix2 t 0) = BitVec.ofNat 32 i.val) (hj : v192 (ix2 t 0) = BitVec.ofNat 32 j.val)

/-- The kernel's product at one entry for expert `e`. -/
def prodv (h : Fin 1024) (e : Fin 32) : EReal :=
  prod m (fun k => v176 (ix2 t k)) i j (k0_pay3 v188 v199 v201 (ix2 t 0)) (k0_pay4 v188 v199 v201 (ix2 t 0)) h e

include hi hj in
theorem step_apply (n : Fin 4) (f : S2048x1024.Idx → Elt Ideal .f32) (h : Fin 1024) :
    stepv (F := Ideal) (placeW c) v176 v188 v191 v192 v199 v201 (Scf.iv 0#32 1#32 n.val) (pair m c n.val 0 0) (pair m c n.val 1 1) (pair m c n.val 2 0) (pair m c n.val 3 1) f (ix2 t h)
      = f (ix2 t h) + ∑ p : Fin 4, (prodv m v176 v188 v199 v201 t i j h (fwd c n p) + prodv m v176 v188 v199 v201 t i j h (bwd c n p)) := by
  rw [Fin.sum_univ_four]
  unfold stepv
  pointwise [k0_pay7, k0_pay19, k0_pay18, k0_pay15, k0_pay14, k0_pay11, k0_pay10]
  rw [last_apply m c n v191 v192 _ _ _ t i j hi hj h]
  simp only [place_0 m c n v191 v192 _ _ _ t i j hi hj h, place_1 m c n v191 v192 _ _ _ t i j hi hj h, place_2 m c n v191 v192 _ _ _ t i j hi hj h]
  simp only [← add_assoc]
  rfl

include hi hj in
theorem all_apply (h : Fin 1024) :
    accv m c (placeW c) v176 v188 v191 v192 v199 v201 4 (ix2 t h) = ∑ e, prodv m v176 v188 v199 v201 t i j h e := by
  have h0 : accv m c (placeW c) v176 v188 v191 v192 v199 v201 0 (ix2 t h) = 0 := by
    show k0_pay6 (F := Ideal) (ix2 t h) = 0
    pointwise [k0_pay6]
  have hs : ∀ n : Fin 4, accv m c (placeW c) v176 v188 v191 v192 v199 v201 (n.val + 1) (ix2 t h) = accv m c (placeW c) v176 v188 v191 v192 v199 v201 n.val (ix2 t h)
      + ∑ p : Fin 4, (prodv m v176 v188 v199 v201 t i j h (fwd c n p) + prodv m v176 v188 v199 v201 t i j h (bwd c n p)) :=
    fun n => step_apply m c v176 v188 v191 v192 v199 v201 t i j hi hj n _ h
  rw [← sum_brought c, Fin.sum_univ_four]
  refine (hs 3).trans ?_
  refine congrArg (· + _) ((hs 2).trans ?_)
  refine congrArg (· + _) ((hs 1).trans ?_)
  refine congrArg (· + _) ((hs 0).trans ?_)
  show accv m c (placeW c) v176 v188 v191 v192 v199 v201 0 (ix2 t h) + _ = _
  rw [h0, zero_add]
end All

/-! ## The kernel's result -/

/-- What the kernel leaves at one entry: the token's two experts' products, weighted by its own shares. -/
theorem out_apply (x : Vec Ideal S2048x512 .f32) (w : Vec Ideal S512x32 .f32) (ix : Vec Ideal S2048x2 .i32) (t : Fin 2048) (i j : Fin 32)
    (hi : ix (ix2 t 0) = BitVec.ofNat 32 i.val) (hj : ix (ix2 t 1) = BitVec.ofNat 32 j.val) (hs : ∀ e, ∃ r : ℝ, score x w t e = r) (h : Fin 1024) :
    outv m c x w ix (ix2 t h) = mix (score x w t) i j (fun e => ∑ k : Fin 512, x (ix2 t k) * Wk m e k h) := by
  unfold outv
  rw [all_apply m c _ _ _ _ _ _ t i j ((col_apply ix t).trans hi) ((col'_apply ix t).trans hj) h]
  rw [← sum_mix (score x w t) hs (fun k => x (ix2 t k)) (fun e k => Wk m e k h) i j]
  unfold prodv prod
  rw [share_apply, share'_apply, first_apply x w ix t i hi, second_apply x w ix t j hj]
  pointwise [k0_pay21]

end Cert.Proof.KernelIdeal
end
-- ==== Proof.Ref.lean ====
module
public import proofs.«01_k».proof.Proof.Gen.ReferenceIdeal.Run
public import proofs.«01_k».proof.Proof.Gate
@[expose] public section

/-! What the reference computes at one entry, over the extended reals. -/

noncomputable section
namespace Cert.Proof.ReferenceIdeal
open Cert.ReferenceIdeal Cert.ReferenceIdeal.Gen Cert.ReferenceIdeal.Value
open Idealize.ShloMosaic Idealize.ShloMosaic.TcCoe Cert.Proof.Gate

/-! ## The gathers -/

theorem word_toNat (i : Fin 32) : min (BitVec.ofNat 32 i.val).toInt.toNat 31 = i.val := by
  revert i; decide

/-- The probability of a token's expert. -/
theorem gather_prob {α : Type} (x : S8192x32.Idx → α) (idx : IVec S8192x1x1 32) (r : Fin 8192) (i : Fin 32)
    (h : idx (ix3 r 0 0) = BitVec.ofNat 32 i.val) :
    Host.gather gather_S8192x32_S8192x1x1_S8192x1_n_1_0_0_1_2_11 x idx (ix2 r 0) = x (ix2 r i) := by
  unfold Host.gather
  congr 1
  funext a
  refine Fin.ext ?_
  show GatherDims.start _ (ix2 r 0) idx a + GatherDims.batchCoord _ (ix2 r 0) a + GatherDims.offCoord _ (ix2 r 0) a = _
  have h01 : a = (0 : Fin 2) ∨ a = (1 : Fin 2) := by
    match a with
    | ⟨0, _⟩ => exact .inl rfl
    | ⟨1, _⟩ => exact .inr rfl
  rcases h01 with rfl | rfl
  · rw [GatherDims.offCoord_eq_zero _ _ _ (fun h => ((GatherDims.mem_sKept _ _).mp h).2 (List.mem_singleton.mpr rfl)),
      GatherDims.start_batching _ _ _ _ (List.mem_singleton.mpr rfl)]
    unfold GatherDims.batchCoord
    rw [dif_pos (show (0 : Fin 2) ∈ gather_S8192x32_S8192x1x1_S8192x1_n_1_0_0_1_2_11.operandBatchingDims from List.mem_singleton.mpr rfl)]
    show 0 + r.val + 0 = r.val
    omega
  · rw [GatherDims.batchCoord_eq_zero _ _ _ (show (1 : Fin 2) ∉ [(0 : Fin 2)] from by decide),
      GatherDims.offCoord_eq_zero _ _ _ (fun h => ((GatherDims.mem_sKept _ _).mp h).1 (List.mem_singleton.mpr rfl))]
    unfold GatherDims.start
    rw [dif_pos (show (1 : Fin 2) ∈ gather_S8192x32_S8192x1x1_S8192x1_n_1_0_0_1_2_11.startIndexMap from List.mem_singleton.mpr rfl)]
    have hsi : ∀ q, gather_S8192x32_S8192x1x1_S8192x1_n_1_0_0_1_2_11.siIdx (ix2 r 0) q = ix3 r 0 0 := fun q => by
      funext b
      refine Fin.ext ?_
      match b with
      | ⟨0, _⟩ => rfl
      | ⟨1, _⟩ => rfl
      | ⟨2, _⟩ =>
        have hq : q.val < 1 := q.isLt
        show q.val = 0
        omega
    rw [hsi, h]
    exact word_toNat i

/-- The matrix of a token's expert. -/
theorem gather_mat {α : Type} (x : S32x512x1024.Idx → α) (idx : IVec S8192x1 32) (r : Fin 8192) (i : Fin 32)
    (h : idx (ix2 r 0) = BitVec.ofNat 32 i.val) (k : Fin 512) (l : Fin 1024) :
    Host.gather gather_S32x512x1024_S8192x1_S8192x512x1024_12_0_n_n_0_1_15121024 x idx (ix3 r k l) = x (ix3 i k l) := by
  unfold Host.gather
  congr 1
  funext a
  refine Fin.ext ?_
  show GatherDims.start _ (ix3 r k l) idx a + GatherDims.batchCoord _ (ix3 r k l) a + GatherDims.offCoord _ (ix3 r k l) a = _
  rw [GatherDims.batchCoord_eq_zero _ _ _ List.not_mem_nil]
  have h012 : a = (0 : Fin 3) ∨ a = (1 : Fin 3) ∨ a = (2 : Fin 3) := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ gather_S32x512x1024_S8192x1_S8192x512x1024_12_0_n_n_0_1_15121024.startIndexMap from List.mem_singleton.mpr rfl)]
    have hsi : ∀ q, gather_S32x512x1024_S8192x1_S8192x512x1024_12_0_n_n_0_1_15121024.siIdx (ix3 r k l) q = ix2 r 0 := fun q => by
      funext b
      refine Fin.ext ?_
      match b with
      | ⟨0, _⟩ => rfl
      | ⟨1, _⟩ =>
        have hq : q.val < 1 := q.isLt
        show q.val = 0
        omega
    rw [hsi, h]
    exact word_toNat i
  · unfold GatherDims.start GatherDims.offCoord
    rw [dif_neg (show (1 : Fin 3) ∉ gather_S32x512x1024_S8192x1_S8192x512x1024_12_0_n_n_0_1_15121024.startIndexMap from by show (1 : Fin 3) ∉ [(0 : Fin 3)]; decide), dif_pos (show (1 : Fin 3) ∈ gather_S32x512x1024_S8192x1_S8192x512x1024_12_0_n_n_0_1_15121024.sKept from by decide)]
    show 0 + 0 + k.val = k.val
    omega
  · unfold GatherDims.start GatherDims.offCoord
    rw [dif_neg (show (2 : Fin 3) ∉ gather_S32x512x1024_S8192x1_S8192x512x1024_12_0_n_n_0_1_15121024.startIndexMap from by show (2 : Fin 3) ∉ [(0 : Fin 3)]; decide), dif_pos (show (2 : Fin 3) ∈ gather_S32x512x1024_S8192x1_S8192x512x1024_12_0_n_n_0_1_15121024.sKept from by decide)]
    show 0 + 0 + l.val = l.val
    omega

/-! ## The result -/

/-- A wrapped index that is no less than zero is itself. -/
theorem wrap (i : Fin 32) : Scalar.select (IntOp.cmpi .slt (BitVec.ofNat 32 i.val) 0#32) (IntOp.addi (BitVec.ofNat 32 i.val) 32#32) (BitVec.ofNat 32 i.val) = BitVec.ofNat 32 i.val := by
  revert i; decide

/-- A token's scores. -/
def score (x : FVec Ideal S8192x512 .f32) (w : FVec Ideal S512x32 .f32) (r : Fin 8192) (e : Fin 32) : EReal :=
  ∑ k : Fin 512, x (ix2 r k) * w (ix2 k e)

variable (m : (ℓ : Loc nD τ sig) → Buf (Elt Ideal) ℓ) (c : Dev nD)

theorem ref_apply (r : Fin 8192) (h : Fin 1024) (i j : Fin 32) (x : FVec Ideal S8192x512 .f32) (w : FVec Ideal S512x32 .f32) (ix : IVec S8192x2 32) (W : FVec Ideal S32x512x1024 .f32)
    (hx : m ((c.tc : Thread nD τ).loc main_arg0) = x) (hw : m ((c.tc : Thread nD τ).loc main_arg1) = w) (hix : m ((c.tc : Thread nD τ).loc main_arg2) = ix) (hW : m ((c.tc : Thread nD τ).loc main_arg3) = W)
    (hi : ix (ix2 r 0) = BitVec.ofNat 32 i.val) (hj : ix (ix2 r 1) = BitVec.ofNat 32 j.val) :
    (res_main_v41 m c : FVec Ideal S8192x1024 .f32) (ix2 r h) = mix (score x w r) i j (fun e => ∑ k : Fin 512, x (ix2 r k) * W (ix3 e k h)) := by
  unfold res_main_v41
  rw [hx, hw, hix, hW]
  pointwise
  rw [gather_prob (i := i), gather_prob (i := j)]
  · unfold mix
    refine congrArg₂ (· + ·) (congrArg₂ (· * ·) ?_ (Finset.sum_congr rfl fun k _ => congrArg (_ * ·) ?_))
      (congrArg₂ (· * ·) ?_ (Finset.sum_congr rfl fun k _ => congrArg (_ * ·) ?_))
    · unfold share
      pointwise
      rfl
    · refine gather_mat _ _ r i ?_ k h
      pointwise
      rw [hi]
      exact wrap i
    · unfold share'
      pointwise
      rfl
    · refine gather_mat _ _ r j ?_ k h
      pointwise
      rw [hj]
      exact wrap j
  · pointwise
    rw [hj]
    exact wrap j
  · pointwise
    rw [hi]
    exact wrap i
end Cert.Proof.ReferenceIdeal
end
-- ==== Proof.Value.lean ====
module
public import proofs.«01_k».proof.Proof.Acc
public import proofs.«01_k».proof.Proof.Ref
public import proofs.«01_k».proof.Proof.Gen.Pre_routed_KernelIdeal
public import Idealize.ShloMosaic.Lib.Layout
@[expose] public section

/-! The kernel's result on a device is that device's block of the reference's, entry by entry. -/

noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Proof.Gate

/-! ## Blocks -/

theorem block_row {α : Type} {R n N : ℕ} (c : Fin 4) (v : (⟨2, ![N, n]⟩ : Shape).Idx → α) (h : Layout.Tiles ⟨2, ![R, n]⟩ ⟨2, ![N, n]⟩ 0 4)
    (t : Fin R) (k : Fin n) (ht : c.val * R + t.val < N) :
    Layout.block ⟨2, ![R, n]⟩ ⟨2, ![N, n]⟩ 0 4 c v h (ix2 t k) = v (ix2 ⟨c.val * R + t.val, ht⟩ k) := by
  rw [Layout.block_apply]
  congr 1
  funext b
  refine Fin.ext ((Layout.Tiles.idx_val h c _ b).trans ?_)
  match b with
  | ⟨0, _⟩ => simp
  | ⟨1, _⟩ => simp
theorem block_slab {α : Type} {R n l N : ℕ} (c : Fin 4) (v : (⟨3, ![N, n, l]⟩ : Shape).Idx → α) (h : Layout.Tiles ⟨3, ![R, n, l]⟩ ⟨3, ![N, n, l]⟩ 0 4)
    (t : Fin R) (k : Fin n) (j : Fin l) (ht : c.val * R + t.val < N) :
    Layout.block ⟨3, ![R, n, l]⟩ ⟨3, ![N, n, l]⟩ 0 4 c v h (ix3 t k j) = v (ix3 ⟨c.val * R + t.val, ht⟩ k j) := by
  rw [Layout.block_apply]
  congr 1
  funext b
  refine Fin.ext ((Layout.Tiles.idx_val h c _ b).trans ?_)
  match b with
  | ⟨0, _⟩ => simp
  | ⟨1, _⟩ => simp
  | ⟨2, _⟩ => simp

/-! ## The windows' blocks are the arguments -/

variable (m : (ℓ : Loc nD τ sig) → Buf (Elt Ideal) ℓ) (c : Dev nD)

theorem block_0 : iblk m c 0 t0_0 = m ((c : Thread nD τ).loc main_arg0) := by
  show (win0_0.blk t0_0).view.read (Elt Ideal) (V m c main_arg0) = _
  rw [V_main_arg0 m c]
  exact Memref.read_access_unit_zero (Elt Ideal) main_arg0
    (show (fun a => (win0_0.index t0_0) a * main_arg0.ty.shape.size a) = fun _ => 0 from funext fun a => by fin_cases a <;> decide) (fun a => by fin_cases a <;> decide) _
theorem block_1 : iblk m c 1 t0_0 = m ((c : Thread nD τ).loc main_arg1) := by
  show (win0_1.blk t0_0).view.read (Elt Ideal) (V m c main_arg1) = _
  rw [V_main_arg1 m c]
  exact Memref.read_access_unit_zero (Elt Ideal) main_arg1
    (show (fun a => (win0_1.index t0_0) a * main_arg1.ty.shape.size a) = fun _ => 0 from funext fun a => by fin_cases a <;> decide) (fun a => by fin_cases a <;> decide) _
theorem block_2 : iblk m c 2 t0_0 = m ((c : Thread nD τ).loc main_arg2) := by
  show (win0_2.blk t0_0).view.read (Elt Ideal) (V m c main_arg2) = _
  rw [V_main_arg2 m c]
  exact Memref.read_access_unit_zero (Elt Ideal) main_arg2
    (show (fun a => (win0_2.index t0_0) a * main_arg2.ty.shape.size a) = fun _ => 0 from funext fun a => by fin_cases a <;> decide) (fun a => by fin_cases a <;> decide) _

/-! ## The precondition -/

theorem routed_word (a : BitVec 32) (h : IntOp.andi (IntOp.cmpi .sge a 0#32) (IntOp.cmpi .slt a 32#32) = 1#1) : ∃ i : Fin 32, a = BitVec.ofNat 32 i.val := by
  have hb : ∀ p q : Bool, BitVec.ofBool p &&& BitVec.ofBool q = 1#1 → p = true ∧ q = true := by decide
  obtain ⟨h1, h2⟩ := hb _ _ (h : BitVec.ofBool ((0#32).sle a) &&& BitVec.ofBool (a.slt 32#32) = 1#1)
  have h3 : a.toNat < 32 := by
    have h1 : (0#32).toInt ≤ a.toInt := by simpa [BitVec.sle] using h1
    have h2 : a.toInt < (32#32).toInt := by simpa [BitVec.slt] using h2
    rw [show (0#32 : BitVec 32).toInt = 0 from rfl] at h1
    rw [show (32#32 : BitVec 32).toInt = 32 from rfl] at h2
    rw [BitVec.toInt_eq_toNat_cond] at h1 h2
    split at h1 <;> omega
  exact ⟨⟨a.toNat, h3⟩, by simp⟩

theorem highest : Ideal.ofBits .f32 0x7F800000#32 = (⊤ : EReal) := by
  show Ideal.ieee 8 23 0x7F800000#32 = ⊤
  simp [Ideal.ieee]

theorem finite_real (x : EReal) (h : Ideal.cmp .olt (max x (-x)) (Ideal.ofBits .f32 0x7F800000#32) = 1#1) : ∃ r : ℝ, x = r := by
  have hb : ∀ p : Bool, BitVec.ofBool p = 1#1 → p = true := by decide
  have h := of_decide_eq_true (hb _ h)
  rw [highest, max_lt_iff] at h
  refine ⟨x.toReal, (EReal.coe_toReal h.1.ne fun e => ?_).symm⟩
  rw [e] at h
  exact absurd h.2 (by simp)

variable (x : FVec Ideal S2048x512 .f32) (w : FVec Ideal S512x32 .f32) (ix : IVec S2048x2 32) (W : FVec Ideal S8x512x1024 .f32)

theorem pre_index (h : (Cert.Pre_routed_KernelIdeal.fn (F := Ideal) x w ix W).1 = fun _ => 1) (t : Fin 2048) (k : Fin 2) :
    ∃ i : Fin 32, ix (ix2 t k) = BitVec.ofNat 32 i.val := by
  have h := congrFun h (ix2 t k)
  revert h
  pointwise [Cert.Pre_routed_KernelIdeal.fn]
  exact routed_word _
theorem pre_x (h : (Cert.Pre_routed_KernelIdeal.fn (F := Ideal) x w ix W).2.1 = fun _ => 1) (t : Fin 2048) (k : Fin 512) :
    ∃ r : ℝ, x (ix2 t k) = r := by
  have h := congrFun h (ix2 t k)
  revert h
  pointwise [Cert.Pre_routed_KernelIdeal.fn]
  exact finite_real _
theorem pre_w (h : (Cert.Pre_routed_KernelIdeal.fn (F := Ideal) x w ix W).2.2 = fun _ => 1) (t : Fin 512) (k : Fin 32) :
    ∃ r : ℝ, w (ix2 t k) = r := by
  have h := congrFun h (ix2 t k)
  revert h
  pointwise [Cert.Pre_routed_KernelIdeal.fn]
  exact finite_real _

/-! ## The two results -/

variable (m' : (ℓ : Loc Cert.ReferenceIdeal.nD Cert.ReferenceIdeal.τ Cert.ReferenceIdeal.sig) → Buf (Elt Ideal) ℓ)
variable (X : FVec Ideal ⟨2, ![8192, 512]⟩ .f32) (IX : IVec ⟨2, ![8192, 2]⟩ 32) (M : FVec Ideal ⟨3, ![32, 512, 1024]⟩ .f32)

/-- A matrix the devices hold among them is the reference's. -/
theorem Wk_eq (h : Layout.Tiles ⟨3, ![8, 512, 1024]⟩ ⟨3, ![32, 512, 1024]⟩ 0 4)
    (hM : ∀ o : Dev nD, m ((o.tc : Thread nD τ).loc main_arg3) = Layout.block ⟨3, ![8, 512, 1024]⟩ ⟨3, ![32, 512, 1024]⟩ 0 4 o M h)
    (e : Fin 32) (k : Fin 512) (j : Fin 1024) : Wk m e k j = M (ix3 e k j) := by
  unfold Wk
  refine (congrFun (hM ⟨e.val / 8, by show e.val / 8 < 4; omega⟩) _).trans ((block_slab (⟨e.val / 8, by omega⟩ : Fin 4) M h ⟨e.val % 8, by omega⟩ k j (by show e.val / 8 * 8 + e.val % 8 < 32; omega)).trans ?_)
  exact congrArg (fun a : Fin 32 => M (ix3 a k j)) (Fin.ext (by show e.val / 8 * 8 + e.val % 8 = e.val; omega))

theorem result_apply (h0 h2 h3)
    (hp : (Cert.Pre_routed_KernelIdeal.fn (F := Ideal) x w ix W).1 = (fun _ => 1) ∧ (Cert.Pre_routed_KernelIdeal.fn (F := Ideal) x w ix W).2.1 = (fun _ => 1)
      ∧ (Cert.Pre_routed_KernelIdeal.fn (F := Ideal) x w ix W).2.2 = (fun _ => 1))
    (hx : x = Layout.block ⟨2, ![2048, 512]⟩ ⟨2, ![8192, 512]⟩ 0 4 c X h0) (hix : ix = Layout.block ⟨2, ![2048, 2]⟩ ⟨2, ![8192, 2]⟩ 0 4 c IX h2)
    (hM : ∀ o : Dev nD, m ((o.tc : Thread nD τ).loc main_arg3) = Layout.block ⟨3, ![8, 512, 1024]⟩ ⟨3, ![32, 512, 1024]⟩ 0 4 o M h3)
    (e0 : m' (((0 : Dev Cert.ReferenceIdeal.nD).tc : Thread Cert.ReferenceIdeal.nD Cert.ReferenceIdeal.τ).loc Cert.ReferenceIdeal.main_arg0) = X)
    (e1 : m' (((0 : Dev Cert.ReferenceIdeal.nD).tc : Thread Cert.ReferenceIdeal.nD Cert.ReferenceIdeal.τ).loc Cert.ReferenceIdeal.main_arg1) = w)
    (e2 : m' (((0 : Dev Cert.ReferenceIdeal.nD).tc : Thread Cert.ReferenceIdeal.nD Cert.ReferenceIdeal.τ).loc Cert.ReferenceIdeal.main_arg2) = IX)
    (e3 : m' (((0 : Dev Cert.ReferenceIdeal.nD).tc : Thread Cert.ReferenceIdeal.nD Cert.ReferenceIdeal.τ).loc Cert.ReferenceIdeal.main_arg3) = M)
    (t : Fin 2048) (j : Fin 1024) (ht : c.val * 2048 + t.val < 8192) :
    outv m c x w ix (ix2 t j) = (Cert.ReferenceIdeal.Value.res_main_v41 m' 0 : FVec Ideal ⟨2, ![8192, 1024]⟩ .f32) (ix2 ⟨c.val * 2048 + t.val, ht⟩ j) := by
  obtain ⟨p, hi⟩ := pre_index x w ix W hp.1 t 0
  obtain ⟨q, hj⟩ := pre_index x w ix W hp.1 t 1
  have hs : ∀ e, ∃ r : ℝ, score x w t e = r := fun e => dot_real _ _ (fun k => pre_x x w ix W hp.2.1 t k) (fun k => pre_w x w ix W hp.2.2 k e)
  have rx : ∀ k : Fin 512, x (ix2 t k) = X (ix2 ⟨c.val * 2048 + t.val, ht⟩ k) := fun k => (congrFun hx _).trans (block_row c X h0 t k ht)
  have rix : ∀ k : Fin 2, ix (ix2 t k) = IX (ix2 ⟨c.val * 2048 + t.val, ht⟩ k) := fun k => (congrFun hix _).trans (block_row c IX h2 t k ht)
  rw [out_apply m c x w ix t p q hi hj hs j,
    Cert.Proof.ReferenceIdeal.ref_apply m' 0 ⟨c.val * 2048 + t.val, ht⟩ j p q X w IX M e0 e1 e2 e3 ((rix 0).symm.trans hi) ((rix 1).symm.trans hj)]
  have es : score x w t = Cert.Proof.ReferenceIdeal.score X w ⟨c.val * 2048 + t.val, ht⟩ := funext fun e => Finset.sum_congr rfl fun k _ => by rw [rx k]
  have ey : (fun e => ∑ k : Fin 512, x (ix2 t k) * Wk m e k j) = fun e => ∑ k : Fin 512, X (ix2 ⟨c.val * 2048 + t.val, ht⟩ k) * M (ix3 e k j) :=
    funext fun e => Finset.sum_congr rfl fun k _ => by rw [rx k, Wk_eq m M h3 hM e k j]
  rw [es, ey]

end Cert.Proof.KernelIdeal
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal
public import proofs.«01_k».proof.Proof.Value
public import Idealize.ShloMosaic.Adequacy
public import Idealize.ShloMosaic.Init

@[expose] public section

/-! The claims, one by one, and the certificate. -/

noncomputable section

namespace Cert.Proof

open Idealize.ShloMosaic Idealize.SL.Sem

/-- The two programs' body tables are one. -/
theorem same_bodies : Cert.Kernel.defs₀ (F := Bits) = Cert.KernelIdeal.defs₀ := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))
theorem same_defs : Cert.Kernel.defs (F := Bits) = Cert.KernelIdeal.defs := congrArg (Pipeline.defs Cert.KernelIdeal.pcfgs) same_bodies

/-- The kernel at the machine's words. -/
theorem frame_kernel : Cert.quiescent_Kernel := fun m ρ _ => by
  rw [same_defs]
  exact Cert.Proof.KernelIdeal.run_frame (F := Bits) m ρ

/-- The kernel at exact values. -/
theorem frame_ideal : Cert.quiescent_KernelIdeal := fun m ρ _ => Cert.Proof.KernelIdeal.run_frame (F := Ideal) m ρ

/-- The reference has no semaphore. -/
theorem no_sems (g : GSem Cert.ReferenceIdeal.nD Cert.ReferenceIdeal.τ Cert.ReferenceIdeal.sig) : False := by
  rcases g with ⟨_, s | s⟩
  · exact Fin.elim0 s
  · exact Fin.elim0 s

theorem frame_reference : Cert.quiescent_ReferenceIdeal := fun m ρ _ =>
  (θ_run Cert.ReferenceIdeal.defs _ _).mono (fun _ h => ⟨fun c => (h c).2, funext fun g => (no_sems g).elim⟩) (Cert.ReferenceIdeal.Value.run (F := Ideal) m ρ)

/-- The same frames, where the precondition is granted: it is not used. -/
theorem frame_ideal_pre : Cert.quiescent_KernelIdeal_pre_routed_KernelIdeal := fun m ρ _ => Cert.Proof.KernelIdeal.run_frame (F := Ideal) m ρ
theorem frame_reference_pre : Cert.quiescent_ReferenceIdeal_pre_routed_ReferenceIdeal := fun m ρ _ => frame_reference m ρ trivial

/-- The kernel's results are the blocks of the reference's. -/
theorem algebraic : Cert.algebraic_KernelIdeal_ReferenceIdeal_pre_routed_KernelIdeal := fun m ρ m' ρ' hp hm => by
  refine ⟨Cert.ReferenceIdeal.Value.res_main_v41 m' 0, (θ_run Cert.KernelIdeal.defs _ _).mono (fun _ h c => ?_) (Cert.Proof.KernelIdeal.run_main (F := Ideal) m ρ),
    (θ_run Cert.ReferenceIdeal.defs _ _).mono (fun _ h => h 0) (Cert.ReferenceIdeal.Value.run (F := Ideal) m' ρ')⟩
  obtain ⟨⟨a0, a1, a2, a3⟩, ho⟩ := h.1 c
  refine ⟨ho.trans ?_, a0, a1, a2, a3⟩
  unfold Cert.Proof.KernelIdeal.result
  rw [Cert.Proof.KernelIdeal.block_0, Cert.Proof.KernelIdeal.block_1, Cert.Proof.KernelIdeal.block_2]
  obtain ⟨h0, h1, h2, -⟩ := hm c
  funext i
  have hc : c.val < 4 := c.isLt
  obtain ⟨t, j, rfl⟩ : ∃ (t : Fin 2048) (j : Fin 1024), i = ix2 t j :=
    ⟨i 0, i 1, funext fun b => by match b with | ⟨0, _⟩ => rfl | ⟨1, _⟩ => rfl⟩
  have ht : c.val * 2048 + t.val < 8192 := by have := t.isLt; omega
  exact (Cert.Proof.KernelIdeal.result_apply m c _ _ _ _ m' _ _ _ _ _ _ (hp c) h0 h2 (fun o => (hm o).2.2.2) rfl h1.symm rfl rfl t j ht).trans
    (Cert.Proof.KernelIdeal.block_row (R := 2048) (N := 8192) (n := 1024) c _ _ t j ht).symm

theorem claim : Cert.Claim :=
  ⟨Cert.Kernel.Gen.facts, Cert.KernelIdeal.Gen.facts, Cert.ReferenceIdeal.Gen.facts, Cert.Pre_routed_KernelIdeal.Gen.facts, Cert.Pre_routed_ReferenceIdeal.Gen.facts,
    frame_kernel, frame_ideal, frame_ideal_pre, frame_reference, frame_reference_pre, trivial, algebraic⟩

end Cert.Proof

end
